-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5)
      ∧ r.2.mem ((c.tc : Thread Cert.Query.nD Cert.Query.τ).loc Cert.Query.main_arg6) = m ((c.tc : Thread Cert.Query.nD Cert.Query.τ).loc Cert.Query.main_arg6)
      ∧ r.2.mem ((c.tc : Thread Cert.Query.nD Cert.Query.τ).loc Cert.Query.main_arg7) = m ((c.tc : Thread Cert.Query.nD Cert.Query.τ).loc Cert.Query.main_arg7)
      ∧ r.2.mem ((c.tc : Thread Cert.Query.nD Cert.Query.τ).loc Cert.Query.main_arg8) = m ((c.tc : Thread Cert.Query.nD Cert.Query.τ).loc Cert.Query.main_arg8)
      ∧ r.2.mem ((c.tc : Thread Cert.Query.nD Cert.Query.τ).loc Cert.Query.main_arg9) = m ((c.tc : Thread Cert.Query.nD Cert.Query.τ).loc Cert.Query.main_arg9)
      ∧ r.2.mem ((c.tc : Thread Cert.Query.nD Cert.Query.τ).loc Cert.Query.main_arg10) = m ((c.tc : Thread Cert.Query.nD Cert.Query.τ).loc Cert.Query.main_arg10)
      ∧ r.2.mem ((c.tc : Thread Cert.Query.nD Cert.Query.τ).loc Cert.Query.main_arg11) = m ((c.tc : Thread Cert.Query.nD Cert.Query.τ).loc Cert.Query.main_arg11)
      ∧ r.2.mem ((c.tc : Thread Cert.Query.nD Cert.Query.τ).loc Cert.Query.main_arg12) = m ((c.tc : Thread Cert.Query.nD Cert.Query.τ).loc Cert.Query.main_arg12)
      ∧ r.2.mem ((c.tc : Thread Cert.Query.nD Cert.Query.τ).loc Cert.Query.main_arg13) = m ((c.tc : Thread Cert.Query.nD Cert.Query.τ).loc Cert.Query.main_arg13)
      ∧ r.2.mem ((c.tc : Thread Cert.Query.nD Cert.Query.τ).loc Cert.Query.main_arg14) = m ((c.tc : Thread Cert.Query.nD Cert.Query.τ).loc Cert.Query.main_arg14)
      ∧ r.2.mem ((c.tc : Thread Cert.Query.nD Cert.Query.τ).loc Cert.Query.main_arg15) = m ((c.tc : Thread Cert.Query.nD Cert.Query.τ).loc Cert.Query.main_arg15)
      ∧ r.2.mem ((c.tc : Thread Cert.Query.nD Cert.Query.τ).loc Cert.Query.main_arg16) = m ((c.tc : Thread Cert.Query.nD Cert.Query.τ).loc Cert.Query.main_arg16)
      ∧ r.2.mem ((c.tc : Thread Cert.Query.nD Cert.Query.τ).loc Cert.Query.main_arg17) = m ((c.tc : Thread Cert.Query.nD Cert.Query.τ).loc Cert.Query.main_arg17)
      ∧ r.2.mem ((c.tc : Thread Cert.Query.nD Cert.Query.τ).loc Cert.Query.main_arg18) = m ((c.tc : Thread Cert.Query.nD Cert.Query.τ).loc Cert.Query.main_arg18)
      ∧ r.2.mem ((c.tc : Thread Cert.Query.nD Cert.Query.τ).loc Cert.Query.main_arg19) = m ((c.tc : Thread Cert.Query.nD Cert.Query.τ).loc Cert.Query.main_arg19)
      ∧ r.2.mem ((c.tc : Thread Cert.Query.nD Cert.Query.τ).loc Cert.Query.main_arg20) = m ((c.tc : Thread Cert.Query.nD Cert.Query.τ).loc Cert.Query.main_arg20)
      ∧ r.2.mem ((c.tc : Thread Cert.Query.nD Cert.Query.τ).loc Cert.Query.main_arg21) = m ((c.tc : Thread Cert.Query.nD Cert.Query.τ).loc Cert.Query.main_arg21)
      ∧ r.2.mem ((c.tc : Thread Cert.Query.nD Cert.Query.τ).loc Cert.Query.main_arg22) = m ((c.tc : Thread Cert.Query.nD Cert.Query.τ).loc Cert.Query.main_arg22)
      ∧ r.2.mem ((c.tc : Thread Cert.Query.nD Cert.Query.τ).loc Cert.Query.main_arg23) = m ((c.tc : Thread Cert.Query.nD Cert.Query.τ).loc Cert.Query.main_arg23)
      ∧ r.2.mem ((c.tc : Thread Cert.Query.nD Cert.Query.τ).loc Cert.Query.main_arg24) = m ((c.tc : Thread Cert.Query.nD Cert.Query.τ).loc Cert.Query.main_arg24)
      ∧ r.2.mem ((c.tc : Thread Cert.Query.nD Cert.Query.τ).loc Cert.Query.main_arg25) = m ((c.tc : Thread Cert.Query.nD Cert.Query.τ).loc Cert.Query.main_arg25)
      ∧ r.2.mem ((c.tc : Thread Cert.Query.nD Cert.Query.τ).loc Cert.Query.main_arg26) = m ((c.tc : Thread Cert.Query.nD Cert.Query.τ).loc Cert.Query.main_arg26)
      ∧ r.2.mem ((c.tc : Thread Cert.Query.nD Cert.Query.τ).loc Cert.Query.main_arg27) = m ((c.tc : Thread Cert.Query.nD Cert.Query.τ).loc Cert.Query.main_arg27)
      ∧ r.2.mem ((c.tc : Thread Cert.Query.nD Cert.Query.τ).loc Cert.Query.main_arg28) = m ((c.tc : Thread Cert.Query.nD Cert.Query.τ).loc Cert.Query.main_arg28)
      ∧ r.2.mem ((c.tc : Thread Cert.Query.nD Cert.Query.τ).loc Cert.Query.main_arg29) = m ((c.tc : Thread Cert.Query.nD Cert.Query.τ).loc Cert.Query.main_arg29)
      ∧ r.2.mem ((c.tc : Thread Cert.Query.nD Cert.Query.τ).loc Cert.Query.main_arg30) = m ((c.tc : Thread Cert.Query.nD Cert.Query.τ).loc Cert.Query.main_arg30)
      ∧ r.2.mem ((c.tc : Thread Cert.Query.nD Cert.Query.τ).loc Cert.Query.main_arg31) = m ((c.tc : Thread Cert.Query.nD Cert.Query.τ).loc Cert.Query.main_arg31)
      ∧ r.2.mem ((c.tc : Thread Cert.Query.nD Cert.Query.τ).loc Cert.Query.main_arg32) = m ((c.tc : Thread Cert.Query.nD Cert.Query.τ).loc Cert.Query.main_arg32)
      ∧ r.2.mem ((c.tc : Thread Cert.Query.nD Cert.Query.τ).loc Cert.Query.main_arg33) = m ((c.tc : Thread Cert.Query.nD Cert.Query.τ).loc Cert.Query.main_arg33)
      ∧ r.2.mem ((c.tc : Thread Cert.Query.nD Cert.Query.τ).loc Cert.Query.main_arg34) = m ((c.tc : Thread Cert.Query.nD Cert.Query.τ).loc Cert.Query.main_arg34)
      ∧ r.2.mem ((c.tc : Thread Cert.Query.nD Cert.Query.τ).loc Cert.Query.main_arg35) = m ((c.tc : Thread Cert.Query.nD Cert.Query.τ).loc Cert.Query.main_arg35)
      ∧ r.2.mem ((c.tc : Thread Cert.Query.nD Cert.Query.τ).loc Cert.Query.main_arg36) = m ((c.tc : Thread Cert.Query.nD Cert.Query.τ).loc Cert.Query.main_arg36)
      ∧ r.2.mem ((c.tc : Thread Cert.Query.nD Cert.Query.τ).loc Cert.Query.main_arg37) = m ((c.tc : Thread Cert.Query.nD Cert.Query.τ).loc Cert.Query.main_arg37)
      ∧ r.2.mem ((c.tc : Thread Cert.Query.nD Cert.Query.τ).loc Cert.Query.main_arg38) = m ((c.tc : Thread Cert.Query.nD Cert.Query.τ).loc Cert.Query.main_arg38)
      ∧ r.2.mem ((c.tc : Thread Cert.Query.nD Cert.Query.τ).loc Cert.Query.main_arg39) = m ((c.tc : Thread Cert.Query.nD Cert.Query.τ).loc Cert.Query.main_arg39)
      ∧ r.2.mem ((c.tc : Thread Cert.Query.nD Cert.Query.τ).loc Cert.Query.main_arg40) = m ((c.tc : Thread Cert.Query.nD Cert.Query.τ).loc Cert.Query.main_arg40)
      ∧ r.2.mem ((c.tc : Thread Cert.Query.nD Cert.Query.τ).loc Cert.Query.main_arg41) = m ((c.tc : Thread Cert.Query.nD Cert.Query.τ).loc Cert.Query.main_arg41)
      ∧ r.2.mem ((c.tc : Thread Cert.Query.nD Cert.Query.τ).loc Cert.Query.main_arg42) = m ((c.tc : Thread Cert.Query.nD Cert.Query.τ).loc Cert.Query.main_arg42)
      ∧ r.2.mem ((c.tc : Thread Cert.Query.nD Cert.Query.τ).loc Cert.Query.main_arg43) = m ((c.tc : Thread Cert.Query.nD Cert.Query.τ).loc Cert.Query.main_arg43))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
      ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
      ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7)
      ∧ r.2.mem ((c.tc : Thread Cert.QueryIdeal.nD Cert.QueryIdeal.τ).loc Cert.QueryIdeal.main_arg8) = m ((c.tc : Thread Cert.QueryIdeal.nD Cert.QueryIdeal.τ).loc Cert.QueryIdeal.main_arg8)
      ∧ r.2.mem ((c.tc : Thread Cert.QueryIdeal.nD Cert.QueryIdeal.τ).loc Cert.QueryIdeal.main_arg9) = m ((c.tc : Thread Cert.QueryIdeal.nD Cert.QueryIdeal.τ).loc Cert.QueryIdeal.main_arg9)
      ∧ r.2.mem ((c.tc : Thread Cert.QueryIdeal.nD Cert.QueryIdeal.τ).loc Cert.QueryIdeal.main_arg10) = m ((c.tc : Thread Cert.QueryIdeal.nD Cert.QueryIdeal.τ).loc Cert.QueryIdeal.main_arg10)
      ∧ r.2.mem ((c.tc : Thread Cert.QueryIdeal.nD Cert.QueryIdeal.τ).loc Cert.QueryIdeal.main_arg11) = m ((c.tc : Thread Cert.QueryIdeal.nD Cert.QueryIdeal.τ).loc Cert.QueryIdeal.main_arg11)
      ∧ r.2.mem ((c.tc : Thread Cert.QueryIdeal.nD Cert.QueryIdeal.τ).loc Cert.QueryIdeal.main_arg12) = m ((c.tc : Thread Cert.QueryIdeal.nD Cert.QueryIdeal.τ).loc Cert.QueryIdeal.main_arg12)
      ∧ r.2.mem ((c.tc : Thread Cert.QueryIdeal.nD Cert.QueryIdeal.τ).loc Cert.QueryIdeal.main_arg13) = m ((c.tc : Thread Cert.QueryIdeal.nD Cert.QueryIdeal.τ).loc Cert.QueryIdeal.main_arg13)
      ∧ r.2.mem ((c.tc : Thread Cert.QueryIdeal.nD Cert.QueryIdeal.τ).loc Cert.QueryIdeal.main_arg14) = m ((c.tc : Thread Cert.QueryIdeal.nD Cert.QueryIdeal.τ).loc Cert.QueryIdeal.main_arg14)
      ∧ r.2.mem ((c.tc : Thread Cert.QueryIdeal.nD Cert.QueryIdeal.τ).loc Cert.QueryIdeal.main_arg15) = m ((c.tc : Thread Cert.QueryIdeal.nD Cert.QueryIdeal.τ).loc Cert.QueryIdeal.main_arg15)
      ∧ r.2.mem ((c.tc : Thread Cert.QueryIdeal.nD Cert.QueryIdeal.τ).loc Cert.QueryIdeal.main_arg16) = m ((c.tc : Thread Cert.QueryIdeal.nD Cert.QueryIdeal.τ).loc Cert.QueryIdeal.main_arg16)
      ∧ r.2.mem ((c.tc : Thread Cert.QueryIdeal.nD Cert.QueryIdeal.τ).loc Cert.QueryIdeal.main_arg17) = m ((c.tc : Thread Cert.QueryIdeal.nD Cert.QueryIdeal.τ).loc Cert.QueryIdeal.main_arg17)
      ∧ r.2.mem ((c.tc : Thread Cert.QueryIdeal.nD Cert.QueryIdeal.τ).loc Cert.QueryIdeal.main_arg18) = m ((c.tc : Thread Cert.QueryIdeal.nD Cert.QueryIdeal.τ).loc Cert.QueryIdeal.main_arg18)
      ∧ r.2.mem ((c.tc : Thread Cert.QueryIdeal.nD Cert.QueryIdeal.τ).loc Cert.QueryIdeal.main_arg19) = m ((c.tc : Thread Cert.QueryIdeal.nD Cert.QueryIdeal.τ).loc Cert.QueryIdeal.main_arg19)
      ∧ r.2.mem ((c.tc : Thread Cert.QueryIdeal.nD Cert.QueryIdeal.τ).loc Cert.QueryIdeal.main_arg20) = m ((c.tc : Thread Cert.QueryIdeal.nD Cert.QueryIdeal.τ).loc Cert.QueryIdeal.main_arg20)
      ∧ r.2.mem ((c.tc : Thread Cert.QueryIdeal.nD Cert.QueryIdeal.τ).loc Cert.QueryIdeal.main_arg21) = m ((c.tc : Thread Cert.QueryIdeal.nD Cert.QueryIdeal.τ).loc Cert.QueryIdeal.main_arg21)
      ∧ r.2.mem ((c.tc : Thread Cert.QueryIdeal.nD Cert.QueryIdeal.τ).loc Cert.QueryIdeal.main_arg22) = m ((c.tc : Thread Cert.QueryIdeal.nD Cert.QueryIdeal.τ).loc Cert.QueryIdeal.main_arg22)
      ∧ r.2.mem ((c.tc : Thread Cert.QueryIdeal.nD Cert.QueryIdeal.τ).loc Cert.QueryIdeal.main_arg23) = m ((c.tc : Thread Cert.QueryIdeal.nD Cert.QueryIdeal.τ).loc Cert.QueryIdeal.main_arg23)
      ∧ r.2.mem ((c.tc : Thread Cert.QueryIdeal.nD Cert.QueryIdeal.τ).loc Cert.QueryIdeal.main_arg24) = m ((c.tc : Thread Cert.QueryIdeal.nD Cert.QueryIdeal.τ).loc Cert.QueryIdeal.main_arg24)
      ∧ r.2.mem ((c.tc : Thread Cert.QueryIdeal.nD Cert.QueryIdeal.τ).loc Cert.QueryIdeal.main_arg25) = m ((c.tc : Thread Cert.QueryIdeal.nD Cert.QueryIdeal.τ).loc Cert.QueryIdeal.main_arg25)
      ∧ r.2.mem ((c.tc : Thread Cert.QueryIdeal.nD Cert.QueryIdeal.τ).loc Cert.QueryIdeal.main_arg26) = m ((c.tc : Thread Cert.QueryIdeal.nD Cert.QueryIdeal.τ).loc Cert.QueryIdeal.main_arg26)
      ∧ r.2.mem ((c.tc : Thread Cert.QueryIdeal.nD Cert.QueryIdeal.τ).loc Cert.QueryIdeal.main_arg27) = m ((c.tc : Thread Cert.QueryIdeal.nD Cert.QueryIdeal.τ).loc Cert.QueryIdeal.main_arg27)
      ∧ r.2.mem ((c.tc : Thread Cert.QueryIdeal.nD Cert.QueryIdeal.τ).loc Cert.QueryIdeal.main_arg28) = m ((c.tc : Thread Cert.QueryIdeal.nD Cert.QueryIdeal.τ).loc Cert.QueryIdeal.main_arg28)
      ∧ r.2.mem ((c.tc : Thread Cert.QueryIdeal.nD Cert.QueryIdeal.τ).loc Cert.QueryIdeal.main_arg29) = m ((c.tc : Thread Cert.QueryIdeal.nD Cert.QueryIdeal.τ).loc Cert.QueryIdeal.main_arg29)
      ∧ r.2.mem ((c.tc : Thread Cert.QueryIdeal.nD Cert.QueryIdeal.τ).loc Cert.QueryIdeal.main_arg30) = m ((c.tc : Thread Cert.QueryIdeal.nD Cert.QueryIdeal.τ).loc Cert.QueryIdeal.main_arg30)
      ∧ r.2.mem ((c.tc : Thread Cert.QueryIdeal.nD Cert.QueryIdeal.τ).loc Cert.QueryIdeal.main_arg31) = m ((c.tc : Thread Cert.QueryIdeal.nD Cert.QueryIdeal.τ).loc Cert.QueryIdeal.main_arg31)
      ∧ r.2.mem ((c.tc : Thread Cert.QueryIdeal.nD Cert.QueryIdeal.τ).loc Cert.QueryIdeal.main_arg32) = m ((c.tc : Thread Cert.QueryIdeal.nD Cert.QueryIdeal.τ).loc Cert.QueryIdeal.main_arg32)
      ∧ r.2.mem ((c.tc : Thread Cert.QueryIdeal.nD Cert.QueryIdeal.τ).loc Cert.QueryIdeal.main_arg33) = m ((c.tc : Thread Cert.QueryIdeal.nD Cert.QueryIdeal.τ).loc Cert.QueryIdeal.main_arg33)
      ∧ r.2.mem ((c.tc : Thread Cert.QueryIdeal.nD Cert.QueryIdeal.τ).loc Cert.QueryIdeal.main_arg34) = m ((c.tc : Thread Cert.QueryIdeal.nD Cert.QueryIdeal.τ).loc Cert.QueryIdeal.main_arg34)
      ∧ r.2.mem ((c.tc : Thread Cert.QueryIdeal.nD Cert.QueryIdeal.τ).loc Cert.QueryIdeal.main_arg35) = m ((c.tc : Thread Cert.QueryIdeal.nD Cert.QueryIdeal.τ).loc Cert.QueryIdeal.main_arg35)
      ∧ r.2.mem ((c.tc : Thread Cert.QueryIdeal.nD Cert.QueryIdeal.τ).loc Cert.QueryIdeal.main_arg36) = m ((c.tc : Thread Cert.QueryIdeal.nD Cert.QueryIdeal.τ).loc Cert.QueryIdeal.main_arg36)
      ∧ r.2.mem ((c.tc : Thread Cert.QueryIdeal.nD Cert.QueryIdeal.τ).loc Cert.QueryIdeal.main_arg37) = m ((c.tc : Thread Cert.QueryIdeal.nD Cert.QueryIdeal.τ).loc Cert.QueryIdeal.main_arg37)
      ∧ r.2.mem ((c.tc : Thread Cert.QueryIdeal.nD Cert.QueryIdeal.τ).loc Cert.QueryIdeal.main_arg38) = m ((c.tc : Thread Cert.QueryIdeal.nD Cert.QueryIdeal.τ).loc Cert.QueryIdeal.main_arg38)
      ∧ r.2.mem ((c.tc : Thread Cert.QueryIdeal.nD Cert.QueryIdeal.τ).loc Cert.QueryIdeal.main_arg39) = m ((c.tc : Thread Cert.QueryIdeal.nD Cert.QueryIdeal.τ).loc Cert.QueryIdeal.main_arg39)
      ∧ r.2.mem ((c.tc : Thread Cert.QueryIdeal.nD Cert.QueryIdeal.τ).loc Cert.QueryIdeal.main_arg40) = m ((c.tc : Thread Cert.QueryIdeal.nD Cert.QueryIdeal.τ).loc Cert.QueryIdeal.main_arg40)
      ∧ r.2.mem ((c.tc : Thread Cert.QueryIdeal.nD Cert.QueryIdeal.τ).loc Cert.QueryIdeal.main_arg41) = m ((c.tc : Thread Cert.QueryIdeal.nD Cert.QueryIdeal.τ).loc Cert.QueryIdeal.main_arg41)
      ∧ r.2.mem ((c.tc : Thread Cert.QueryIdeal.nD Cert.QueryIdeal.τ).loc Cert.QueryIdeal.main_arg42) = m ((c.tc : Thread Cert.QueryIdeal.nD Cert.QueryIdeal.τ).loc Cert.QueryIdeal.main_arg42)
      ∧ r.2.mem ((c.tc : Thread Cert.QueryIdeal.nD Cert.QueryIdeal.τ).loc Cert.QueryIdeal.main_arg43) = m ((c.tc : Thread Cert.QueryIdeal.nD Cert.QueryIdeal.τ).loc Cert.QueryIdeal.main_arg43))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4)
      ∧ r.2.mem ((c.tc : Thread Cert.QueryReferenceIdeal.nD Cert.QueryReferenceIdeal.τ).loc Cert.QueryReferenceIdeal.main_arg5) = m ((c.tc : Thread Cert.QueryReferenceIdeal.nD Cert.QueryReferenceIdeal.τ).loc Cert.QueryReferenceIdeal.main_arg5)
      ∧ r.2.mem ((c.tc : Thread Cert.QueryReferenceIdeal.nD Cert.QueryReferenceIdeal.τ).loc Cert.QueryReferenceIdeal.main_arg6) = m ((c.tc : Thread Cert.QueryReferenceIdeal.nD Cert.QueryReferenceIdeal.τ).loc Cert.QueryReferenceIdeal.main_arg6)
      ∧ r.2.mem ((c.tc : Thread Cert.QueryReferenceIdeal.nD Cert.QueryReferenceIdeal.τ).loc Cert.QueryReferenceIdeal.main_arg7) = m ((c.tc : Thread Cert.QueryReferenceIdeal.nD Cert.QueryReferenceIdeal.τ).loc Cert.QueryReferenceIdeal.main_arg7)
      ∧ r.2.mem ((c.tc : Thread Cert.QueryReferenceIdeal.nD Cert.QueryReferenceIdeal.τ).loc Cert.QueryReferenceIdeal.main_arg8) = m ((c.tc : Thread Cert.QueryReferenceIdeal.nD Cert.QueryReferenceIdeal.τ).loc Cert.QueryReferenceIdeal.main_arg8)
      ∧ r.2.mem ((c.tc : Thread Cert.QueryReferenceIdeal.nD Cert.QueryReferenceIdeal.τ).loc Cert.QueryReferenceIdeal.main_arg9) = m ((c.tc : Thread Cert.QueryReferenceIdeal.nD Cert.QueryReferenceIdeal.τ).loc Cert.QueryReferenceIdeal.main_arg9)
      ∧ r.2.mem ((c.tc : Thread Cert.QueryReferenceIdeal.nD Cert.QueryReferenceIdeal.τ).loc Cert.QueryReferenceIdeal.main_arg10) = m ((c.tc : Thread Cert.QueryReferenceIdeal.nD Cert.QueryReferenceIdeal.τ).loc Cert.QueryReferenceIdeal.main_arg10)
      ∧ r.2.mem ((c.tc : Thread Cert.QueryReferenceIdeal.nD Cert.QueryReferenceIdeal.τ).loc Cert.QueryReferenceIdeal.main_arg11) = m ((c.tc : Thread Cert.QueryReferenceIdeal.nD Cert.QueryReferenceIdeal.τ).loc Cert.QueryReferenceIdeal.main_arg11)
      ∧ r.2.mem ((c.tc : Thread Cert.QueryReferenceIdeal.nD Cert.QueryReferenceIdeal.τ).loc Cert.QueryReferenceIdeal.main_arg12) = m ((c.tc : Thread Cert.QueryReferenceIdeal.nD Cert.QueryReferenceIdeal.τ).loc Cert.QueryReferenceIdeal.main_arg12)
      ∧ r.2.mem ((c.tc : Thread Cert.QueryReferenceIdeal.nD Cert.QueryReferenceIdeal.τ).loc Cert.QueryReferenceIdeal.main_arg13) = m ((c.tc : Thread Cert.QueryReferenceIdeal.nD Cert.QueryReferenceIdeal.τ).loc Cert.QueryReferenceIdeal.main_arg13)
      ∧ r.2.mem ((c.tc : Thread Cert.QueryReferenceIdeal.nD Cert.QueryReferenceIdeal.τ).loc Cert.QueryReferenceIdeal.main_arg14) = m ((c.tc : Thread Cert.QueryReferenceIdeal.nD Cert.QueryReferenceIdeal.τ).loc Cert.QueryReferenceIdeal.main_arg14)
      ∧ r.2.mem ((c.tc : Thread Cert.QueryReferenceIdeal.nD Cert.QueryReferenceIdeal.τ).loc Cert.QueryReferenceIdeal.main_arg15) = m ((c.tc : Thread Cert.QueryReferenceIdeal.nD Cert.QueryReferenceIdeal.τ).loc Cert.QueryReferenceIdeal.main_arg15)
      ∧ r.2.mem ((c.tc : Thread Cert.QueryReferenceIdeal.nD Cert.QueryReferenceIdeal.τ).loc Cert.QueryReferenceIdeal.main_arg16) = m ((c.tc : Thread Cert.QueryReferenceIdeal.nD Cert.QueryReferenceIdeal.τ).loc Cert.QueryReferenceIdeal.main_arg16)
      ∧ r.2.mem ((c.tc : Thread Cert.QueryReferenceIdeal.nD Cert.QueryReferenceIdeal.τ).loc Cert.QueryReferenceIdeal.main_arg17) = m ((c.tc : Thread Cert.QueryReferenceIdeal.nD Cert.QueryReferenceIdeal.τ).loc Cert.QueryReferenceIdeal.main_arg17)
      ∧ r.2.mem ((c.tc : Thread Cert.QueryReferenceIdeal.nD Cert.QueryReferenceIdeal.τ).loc Cert.QueryReferenceIdeal.main_arg18) = m ((c.tc : Thread Cert.QueryReferenceIdeal.nD Cert.QueryReferenceIdeal.τ).loc Cert.QueryReferenceIdeal.main_arg18)
      ∧ r.2.mem ((c.tc : Thread Cert.QueryReferenceIdeal.nD Cert.QueryReferenceIdeal.τ).loc Cert.QueryReferenceIdeal.main_arg19) = m ((c.tc : Thread Cert.QueryReferenceIdeal.nD Cert.QueryReferenceIdeal.τ).loc Cert.QueryReferenceIdeal.main_arg19)
      ∧ r.2.mem ((c.tc : Thread Cert.QueryReferenceIdeal.nD Cert.QueryReferenceIdeal.τ).loc Cert.QueryReferenceIdeal.main_arg20) = m ((c.tc : Thread Cert.QueryReferenceIdeal.nD Cert.QueryReferenceIdeal.τ).loc Cert.QueryReferenceIdeal.main_arg20)
      ∧ r.2.mem ((c.tc : Thread Cert.QueryReferenceIdeal.nD Cert.QueryReferenceIdeal.τ).loc Cert.QueryReferenceIdeal.main_arg21) = m ((c.tc : Thread Cert.QueryReferenceIdeal.nD Cert.QueryReferenceIdeal.τ).loc Cert.QueryReferenceIdeal.main_arg21)
      ∧ r.2.mem ((c.tc : Thread Cert.QueryReferenceIdeal.nD Cert.QueryReferenceIdeal.τ).loc Cert.QueryReferenceIdeal.main_arg22) = m ((c.tc : Thread Cert.QueryReferenceIdeal.nD Cert.QueryReferenceIdeal.τ).loc Cert.QueryReferenceIdeal.main_arg22)
      ∧ r.2.mem ((c.tc : Thread Cert.QueryReferenceIdeal.nD Cert.QueryReferenceIdeal.τ).loc Cert.QueryReferenceIdeal.main_arg23) = m ((c.tc : Thread Cert.QueryReferenceIdeal.nD Cert.QueryReferenceIdeal.τ).loc Cert.QueryReferenceIdeal.main_arg23)
      ∧ r.2.mem ((c.tc : Thread Cert.QueryReferenceIdeal.nD Cert.QueryReferenceIdeal.τ).loc Cert.QueryReferenceIdeal.main_arg24) = m ((c.tc : Thread Cert.QueryReferenceIdeal.nD Cert.QueryReferenceIdeal.τ).loc Cert.QueryReferenceIdeal.main_arg24)
      ∧ r.2.mem ((c.tc : Thread Cert.QueryReferenceIdeal.nD Cert.QueryReferenceIdeal.τ).loc Cert.QueryReferenceIdeal.main_arg25) = m ((c.tc : Thread Cert.QueryReferenceIdeal.nD Cert.QueryReferenceIdeal.τ).loc Cert.QueryReferenceIdeal.main_arg25)
      ∧ r.2.mem ((c.tc : Thread Cert.QueryReferenceIdeal.nD Cert.QueryReferenceIdeal.τ).loc Cert.QueryReferenceIdeal.main_arg26) = m ((c.tc : Thread Cert.QueryReferenceIdeal.nD Cert.QueryReferenceIdeal.τ).loc Cert.QueryReferenceIdeal.main_arg26)
      ∧ r.2.mem ((c.tc : Thread Cert.QueryReferenceIdeal.nD Cert.QueryReferenceIdeal.τ).loc Cert.QueryReferenceIdeal.main_arg27) = m ((c.tc : Thread Cert.QueryReferenceIdeal.nD Cert.QueryReferenceIdeal.τ).loc Cert.QueryReferenceIdeal.main_arg27)
      ∧ r.2.mem ((c.tc : Thread Cert.QueryReferenceIdeal.nD Cert.QueryReferenceIdeal.τ).loc Cert.QueryReferenceIdeal.main_arg28) = m ((c.tc : Thread Cert.QueryReferenceIdeal.nD Cert.QueryReferenceIdeal.τ).loc Cert.QueryReferenceIdeal.main_arg28)
      ∧ r.2.mem ((c.tc : Thread Cert.QueryReferenceIdeal.nD Cert.QueryReferenceIdeal.τ).loc Cert.QueryReferenceIdeal.main_arg29) = m ((c.tc : Thread Cert.QueryReferenceIdeal.nD Cert.QueryReferenceIdeal.τ).loc Cert.QueryReferenceIdeal.main_arg29)
      ∧ r.2.mem ((c.tc : Thread Cert.QueryReferenceIdeal.nD Cert.QueryReferenceIdeal.τ).loc Cert.QueryReferenceIdeal.main_arg30) = m ((c.tc : Thread Cert.QueryReferenceIdeal.nD Cert.QueryReferenceIdeal.τ).loc Cert.QueryReferenceIdeal.main_arg30)
      ∧ r.2.mem ((c.tc : Thread Cert.QueryReferenceIdeal.nD Cert.QueryReferenceIdeal.τ).loc Cert.QueryReferenceIdeal.main_arg31) = m ((c.tc : Thread Cert.QueryReferenceIdeal.nD Cert.QueryReferenceIdeal.τ).loc Cert.QueryReferenceIdeal.main_arg31)
      ∧ r.2.mem ((c.tc : Thread Cert.QueryReferenceIdeal.nD Cert.QueryReferenceIdeal.τ).loc Cert.QueryReferenceIdeal.main_arg32) = m ((c.tc : Thread Cert.QueryReferenceIdeal.nD Cert.QueryReferenceIdeal.τ).loc Cert.QueryReferenceIdeal.main_arg32)
      ∧ r.2.mem ((c.tc : Thread Cert.QueryReferenceIdeal.nD Cert.QueryReferenceIdeal.τ).loc Cert.QueryReferenceIdeal.main_arg33) = m ((c.tc : Thread Cert.QueryReferenceIdeal.nD Cert.QueryReferenceIdeal.τ).loc Cert.QueryReferenceIdeal.main_arg33)
      ∧ r.2.mem ((c.tc : Thread Cert.QueryReferenceIdeal.nD Cert.QueryReferenceIdeal.τ).loc Cert.QueryReferenceIdeal.main_arg34) = m ((c.tc : Thread Cert.QueryReferenceIdeal.nD Cert.QueryReferenceIdeal.τ).loc Cert.QueryReferenceIdeal.main_arg34)
      ∧ r.2.mem ((c.tc : Thread Cert.QueryReferenceIdeal.nD Cert.QueryReferenceIdeal.τ).loc Cert.QueryReferenceIdeal.main_arg35) = m ((c.tc : Thread Cert.QueryReferenceIdeal.nD Cert.QueryReferenceIdeal.τ).loc Cert.QueryReferenceIdeal.main_arg35)
      ∧ r.2.mem ((c.tc : Thread Cert.QueryReferenceIdeal.nD Cert.QueryReferenceIdeal.τ).loc Cert.QueryReferenceIdeal.main_arg36) = m ((c.tc : Thread Cert.QueryReferenceIdeal.nD Cert.QueryReferenceIdeal.τ).loc Cert.QueryReferenceIdeal.main_arg36)
      ∧ r.2.mem ((c.tc : Thread Cert.QueryReferenceIdeal.nD Cert.QueryReferenceIdeal.τ).loc Cert.QueryReferenceIdeal.main_arg37) = m ((c.tc : Thread Cert.QueryReferenceIdeal.nD Cert.QueryReferenceIdeal.τ).loc Cert.QueryReferenceIdeal.main_arg37)
      ∧ r.2.mem ((c.tc : Thread Cert.QueryReferenceIdeal.nD Cert.QueryReferenceIdeal.τ).loc Cert.QueryReferenceIdeal.main_arg38) = m ((c.tc : Thread Cert.QueryReferenceIdeal.nD Cert.QueryReferenceIdeal.τ).loc Cert.QueryReferenceIdeal.main_arg38)
      ∧ r.2.mem ((c.tc : Thread Cert.QueryReferenceIdeal.nD Cert.QueryReferenceIdeal.τ).loc Cert.QueryReferenceIdeal.main_arg39) = m ((c.tc : Thread Cert.QueryReferenceIdeal.nD Cert.QueryReferenceIdeal.τ).loc Cert.QueryReferenceIdeal.main_arg39)
      ∧ r.2.mem ((c.tc : Thread Cert.QueryReferenceIdeal.nD Cert.QueryReferenceIdeal.τ).loc Cert.QueryReferenceIdeal.main_arg40) = m ((c.tc : Thread Cert.QueryReferenceIdeal.nD Cert.QueryReferenceIdeal.τ).loc Cert.QueryReferenceIdeal.main_arg40)
      ∧ r.2.mem ((c.tc : Thread Cert.QueryReferenceIdeal.nD Cert.QueryReferenceIdeal.τ).loc Cert.QueryReferenceIdeal.main_arg41) = m ((c.tc : Thread Cert.QueryReferenceIdeal.nD Cert.QueryReferenceIdeal.τ).loc Cert.QueryReferenceIdeal.main_arg41)
      ∧ r.2.mem ((c.tc : Thread Cert.QueryReferenceIdeal.nD Cert.QueryReferenceIdeal.τ).loc Cert.QueryReferenceIdeal.main_arg42) = m ((c.tc : Thread Cert.QueryReferenceIdeal.nD Cert.QueryReferenceIdeal.τ).loc Cert.QueryReferenceIdeal.main_arg42)
      ∧ r.2.mem ((c.tc : Thread Cert.QueryReferenceIdeal.nD Cert.QueryReferenceIdeal.τ).loc Cert.QueryReferenceIdeal.main_arg43) = m ((c.tc : Thread Cert.QueryReferenceIdeal.nD Cert.QueryReferenceIdeal.τ).loc Cert.QueryReferenceIdeal.main_arg43))
      ∧ r.2.sem = fun _ => 0)

def preserves_Kernel_KernelIdeal : Prop :=
  IdealRules.bf16_pair.BufferStatement Cert.KernelIdeal.S2x936x2x128 Cert.KernelIdeal.S2x936x1x128
  ∧ IdealRules.bf16_pair.PackStatement Cert.KernelIdeal.S100x256
  ∧ IdealRules.bf16_pair.Statement Cert.KernelIdeal.S1x100x2x128 Cert.KernelIdeal.S1x100x1x128
  ∧ IdealRules.bf16_pair.Statement Cert.KernelIdeal.S1x8x2x128 Cert.KernelIdeal.S1x8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)
      ∧ m' ((c.tc : Thread Cert.QueryReferenceIdeal.nD Cert.QueryReferenceIdeal.τ).loc Cert.QueryReferenceIdeal.main_arg4) = m ((c.tc : Thread Cert.QueryIdeal.nD Cert.QueryIdeal.τ).loc Cert.QueryIdeal.main_arg4)
      ∧ m' ((c.tc : Thread Cert.QueryReferenceIdeal.nD Cert.QueryReferenceIdeal.τ).loc Cert.QueryReferenceIdeal.main_arg5) = m ((c.tc : Thread Cert.QueryIdeal.nD Cert.QueryIdeal.τ).loc Cert.QueryIdeal.main_arg5)
      ∧ m' ((c.tc : Thread Cert.QueryReferenceIdeal.nD Cert.QueryReferenceIdeal.τ).loc Cert.QueryReferenceIdeal.main_arg6) = m ((c.tc : Thread Cert.QueryIdeal.nD Cert.QueryIdeal.τ).loc Cert.QueryIdeal.main_arg6)
      ∧ m' ((c.tc : Thread Cert.QueryReferenceIdeal.nD Cert.QueryReferenceIdeal.τ).loc Cert.QueryReferenceIdeal.main_arg7) = m ((c.tc : Thread Cert.QueryIdeal.nD Cert.QueryIdeal.τ).loc Cert.QueryIdeal.main_arg7)
      ∧ m' ((c.tc : Thread Cert.QueryReferenceIdeal.nD Cert.QueryReferenceIdeal.τ).loc Cert.QueryReferenceIdeal.main_arg8) = m ((c.tc : Thread Cert.QueryIdeal.nD Cert.QueryIdeal.τ).loc Cert.QueryIdeal.main_arg8)
      ∧ m' ((c.tc : Thread Cert.QueryReferenceIdeal.nD Cert.QueryReferenceIdeal.τ).loc Cert.QueryReferenceIdeal.main_arg9) = m ((c.tc : Thread Cert.QueryIdeal.nD Cert.QueryIdeal.τ).loc Cert.QueryIdeal.main_arg9)
      ∧ m' ((c.tc : Thread Cert.QueryReferenceIdeal.nD Cert.QueryReferenceIdeal.τ).loc Cert.QueryReferenceIdeal.main_arg10) = m ((c.tc : Thread Cert.QueryIdeal.nD Cert.QueryIdeal.τ).loc Cert.QueryIdeal.main_arg10)
      ∧ m' ((c.tc : Thread Cert.QueryReferenceIdeal.nD Cert.QueryReferenceIdeal.τ).loc Cert.QueryReferenceIdeal.main_arg11) = m ((c.tc : Thread Cert.QueryIdeal.nD Cert.QueryIdeal.τ).loc Cert.QueryIdeal.main_arg11)
      ∧ m' ((c.tc : Thread Cert.QueryReferenceIdeal.nD Cert.QueryReferenceIdeal.τ).loc Cert.QueryReferenceIdeal.main_arg12) = m ((c.tc : Thread Cert.QueryIdeal.nD Cert.QueryIdeal.τ).loc Cert.QueryIdeal.main_arg12)
      ∧ m' ((c.tc : Thread Cert.QueryReferenceIdeal.nD Cert.QueryReferenceIdeal.τ).loc Cert.QueryReferenceIdeal.main_arg13) = m ((c.tc : Thread Cert.QueryIdeal.nD Cert.QueryIdeal.τ).loc Cert.QueryIdeal.main_arg13)
      ∧ m' ((c.tc : Thread Cert.QueryReferenceIdeal.nD Cert.QueryReferenceIdeal.τ).loc Cert.QueryReferenceIdeal.main_arg14) = m ((c.tc : Thread Cert.QueryIdeal.nD Cert.QueryIdeal.τ).loc Cert.QueryIdeal.main_arg14)
      ∧ m' ((c.tc : Thread Cert.QueryReferenceIdeal.nD Cert.QueryReferenceIdeal.τ).loc Cert.QueryReferenceIdeal.main_arg15) = m ((c.tc : Thread Cert.QueryIdeal.nD Cert.QueryIdeal.τ).loc Cert.QueryIdeal.main_arg15)
      ∧ m' ((c.tc : Thread Cert.QueryReferenceIdeal.nD Cert.QueryReferenceIdeal.τ).loc Cert.QueryReferenceIdeal.main_arg16) = m ((c.tc : Thread Cert.QueryIdeal.nD Cert.QueryIdeal.τ).loc Cert.QueryIdeal.main_arg16)
      ∧ m' ((c.tc : Thread Cert.QueryReferenceIdeal.nD Cert.QueryReferenceIdeal.τ).loc Cert.QueryReferenceIdeal.main_arg17) = m ((c.tc : Thread Cert.QueryIdeal.nD Cert.QueryIdeal.τ).loc Cert.QueryIdeal.main_arg17)
      ∧ m' ((c.tc : Thread Cert.QueryReferenceIdeal.nD Cert.QueryReferenceIdeal.τ).loc Cert.QueryReferenceIdeal.main_arg18) = m ((c.tc : Thread Cert.QueryIdeal.nD Cert.QueryIdeal.τ).loc Cert.QueryIdeal.main_arg18)
      ∧ m' ((c.tc : Thread Cert.QueryReferenceIdeal.nD Cert.QueryReferenceIdeal.τ).loc Cert.QueryReferenceIdeal.main_arg19) = m ((c.tc : Thread Cert.QueryIdeal.nD Cert.QueryIdeal.τ).loc Cert.QueryIdeal.main_arg19)
      ∧ m' ((c.tc : Thread Cert.QueryReferenceIdeal.nD Cert.QueryReferenceIdeal.τ).loc Cert.QueryReferenceIdeal.main_arg20) = m ((c.tc : Thread Cert.QueryIdeal.nD Cert.QueryIdeal.τ).loc Cert.QueryIdeal.main_arg20)
      ∧ m' ((c.tc : Thread Cert.QueryReferenceIdeal.nD Cert.QueryReferenceIdeal.τ).loc Cert.QueryReferenceIdeal.main_arg21) = m ((c.tc : Thread Cert.QueryIdeal.nD Cert.QueryIdeal.τ).loc Cert.QueryIdeal.main_arg21)
      ∧ m' ((c.tc : Thread Cert.QueryReferenceIdeal.nD Cert.QueryReferenceIdeal.τ).loc Cert.QueryReferenceIdeal.main_arg22) = m ((c.tc : Thread Cert.QueryIdeal.nD Cert.QueryIdeal.τ).loc Cert.QueryIdeal.main_arg22)
      ∧ m' ((c.tc : Thread Cert.QueryReferenceIdeal.nD Cert.QueryReferenceIdeal.τ).loc Cert.QueryReferenceIdeal.main_arg23) = m ((c.tc : Thread Cert.QueryIdeal.nD Cert.QueryIdeal.τ).loc Cert.QueryIdeal.main_arg23)
      ∧ m' ((c.tc : Thread Cert.QueryReferenceIdeal.nD Cert.QueryReferenceIdeal.τ).loc Cert.QueryReferenceIdeal.main_arg24) = m ((c.tc : Thread Cert.QueryIdeal.nD Cert.QueryIdeal.τ).loc Cert.QueryIdeal.main_arg24)
      ∧ m' ((c.tc : Thread Cert.QueryReferenceIdeal.nD Cert.QueryReferenceIdeal.τ).loc Cert.QueryReferenceIdeal.main_arg25) = m ((c.tc : Thread Cert.QueryIdeal.nD Cert.QueryIdeal.τ).loc Cert.QueryIdeal.main_arg25)
      ∧ m' ((c.tc : Thread Cert.QueryReferenceIdeal.nD Cert.QueryReferenceIdeal.τ).loc Cert.QueryReferenceIdeal.main_arg26) = m ((c.tc : Thread Cert.QueryIdeal.nD Cert.QueryIdeal.τ).loc Cert.QueryIdeal.main_arg26)
      ∧ m' ((c.tc : Thread Cert.QueryReferenceIdeal.nD Cert.QueryReferenceIdeal.τ).loc Cert.QueryReferenceIdeal.main_arg27) = m ((c.tc : Thread Cert.QueryIdeal.nD Cert.QueryIdeal.τ).loc Cert.QueryIdeal.main_arg27)
      ∧ m' ((c.tc : Thread Cert.QueryReferenceIdeal.nD Cert.QueryReferenceIdeal.τ).loc Cert.QueryReferenceIdeal.main_arg28) = m ((c.tc : Thread Cert.QueryIdeal.nD Cert.QueryIdeal.τ).loc Cert.QueryIdeal.main_arg28)
      ∧ m' ((c.tc : Thread Cert.QueryReferenceIdeal.nD Cert.QueryReferenceIdeal.τ).loc Cert.QueryReferenceIdeal.main_arg29) = m ((c.tc : Thread Cert.QueryIdeal.nD Cert.QueryIdeal.τ).loc Cert.QueryIdeal.main_arg29)
      ∧ m' ((c.tc : Thread Cert.QueryReferenceIdeal.nD Cert.QueryReferenceIdeal.τ).loc Cert.QueryReferenceIdeal.main_arg30) = m ((c.tc : Thread Cert.QueryIdeal.nD Cert.QueryIdeal.τ).loc Cert.QueryIdeal.main_arg30)
      ∧ m' ((c.tc : Thread Cert.QueryReferenceIdeal.nD Cert.QueryReferenceIdeal.τ).loc Cert.QueryReferenceIdeal.main_arg31) = m ((c.tc : Thread Cert.QueryIdeal.nD Cert.QueryIdeal.τ).loc Cert.QueryIdeal.main_arg31)
      ∧ m' ((c.tc : Thread Cert.QueryReferenceIdeal.nD Cert.QueryReferenceIdeal.τ).loc Cert.QueryReferenceIdeal.main_arg32) = m ((c.tc : Thread Cert.QueryIdeal.nD Cert.QueryIdeal.τ).loc Cert.QueryIdeal.main_arg32)
      ∧ m' ((c.tc : Thread Cert.QueryReferenceIdeal.nD Cert.QueryReferenceIdeal.τ).loc Cert.QueryReferenceIdeal.main_arg33) = m ((c.tc : Thread Cert.QueryIdeal.nD Cert.QueryIdeal.τ).loc Cert.QueryIdeal.main_arg33)
      ∧ m' ((c.tc : Thread Cert.QueryReferenceIdeal.nD Cert.QueryReferenceIdeal.τ).loc Cert.QueryReferenceIdeal.main_arg34) = m ((c.tc : Thread Cert.QueryIdeal.nD Cert.QueryIdeal.τ).loc Cert.QueryIdeal.main_arg34)
      ∧ m' ((c.tc : Thread Cert.QueryReferenceIdeal.nD Cert.QueryReferenceIdeal.τ).loc Cert.QueryReferenceIdeal.main_arg35) = m ((c.tc : Thread Cert.QueryIdeal.nD Cert.QueryIdeal.τ).loc Cert.QueryIdeal.main_arg35)
      ∧ m' ((c.tc : Thread Cert.QueryReferenceIdeal.nD Cert.QueryReferenceIdeal.τ).loc Cert.QueryReferenceIdeal.main_arg36) = m ((c.tc : Thread Cert.QueryIdeal.nD Cert.QueryIdeal.τ).loc Cert.QueryIdeal.main_arg36)
      ∧ m' ((c.tc : Thread Cert.QueryReferenceIdeal.nD Cert.QueryReferenceIdeal.τ).loc Cert.QueryReferenceIdeal.main_arg37) = m ((c.tc : Thread Cert.QueryIdeal.nD Cert.QueryIdeal.τ).loc Cert.QueryIdeal.main_arg37)
      ∧ m' ((c.tc : Thread Cert.QueryReferenceIdeal.nD Cert.QueryReferenceIdeal.τ).loc Cert.QueryReferenceIdeal.main_arg38) = m ((c.tc : Thread Cert.QueryIdeal.nD Cert.QueryIdeal.τ).loc Cert.QueryIdeal.main_arg38)
      ∧ m' ((c.tc : Thread Cert.QueryReferenceIdeal.nD Cert.QueryReferenceIdeal.τ).loc Cert.QueryReferenceIdeal.main_arg39) = m ((c.tc : Thread Cert.QueryIdeal.nD Cert.QueryIdeal.τ).loc Cert.QueryIdeal.main_arg39)
      ∧ m' ((c.tc : Thread Cert.QueryReferenceIdeal.nD Cert.QueryReferenceIdeal.τ).loc Cert.QueryReferenceIdeal.main_arg40) = m ((c.tc : Thread Cert.QueryIdeal.nD Cert.QueryIdeal.τ).loc Cert.QueryIdeal.main_arg40)
      ∧ m' ((c.tc : Thread Cert.QueryReferenceIdeal.nD Cert.QueryReferenceIdeal.τ).loc Cert.QueryReferenceIdeal.main_arg41) = m ((c.tc : Thread Cert.QueryIdeal.nD Cert.QueryIdeal.τ).loc Cert.QueryIdeal.main_arg41)
      ∧ m' ((c.tc : Thread Cert.QueryReferenceIdeal.nD Cert.QueryReferenceIdeal.τ).loc Cert.QueryReferenceIdeal.main_arg42) = m ((c.tc : Thread Cert.QueryIdeal.nD Cert.QueryIdeal.τ).loc Cert.QueryIdeal.main_arg42)
      ∧ m' ((c.tc : Thread Cert.QueryReferenceIdeal.nD Cert.QueryReferenceIdeal.τ).loc Cert.QueryReferenceIdeal.main_arg43) = m ((c.tc : Thread Cert.QueryIdeal.nD Cert.QueryIdeal.τ).loc Cert.QueryIdeal.main_arg43)) →
    ∃ (v0 : (c : Dev Cert.QueryIdeal.nD) → Buf (Elt Ideal) ((c.tc : Thread Cert.QueryIdeal.nD Cert.QueryIdeal.τ).loc Cert.QueryIdeal.main_v32_3)) (v1 : (c : Dev Cert.QueryIdeal.nD) → Buf (Elt Ideal) ((c.tc : Thread Cert.QueryIdeal.nD Cert.QueryIdeal.τ).loc Cert.QueryIdeal.main_v32_4)) (v2 : (c : Dev Cert.QueryIdeal.nD) → Buf (Elt Ideal) ((c.tc : Thread Cert.QueryIdeal.nD Cert.QueryIdeal.τ).loc Cert.QueryIdeal.main_v32_5)) (v3 : (c : Dev Cert.QueryIdeal.nD) → Buf (Elt Ideal) ((c.tc : Thread Cert.QueryIdeal.nD Cert.QueryIdeal.τ).loc Cert.QueryIdeal.main_v32_6)) (v4 : (c : Dev Cert.QueryIdeal.nD) → Buf (Elt Ideal) ((c.tc : Thread Cert.QueryIdeal.nD Cert.QueryIdeal.τ).loc Cert.QueryIdeal.main_v32_7)) (v5 : (c : Dev Cert.QueryIdeal.nD) → Buf (Elt Ideal) ((c.tc : Thread Cert.QueryIdeal.nD Cert.QueryIdeal.τ).loc Cert.QueryIdeal.main_v32_8)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v32_3) = v0 c
          ∧ r.2.mem ((c.tc : Thread Cert.QueryIdeal.nD Cert.QueryIdeal.τ).loc Cert.QueryIdeal.main_v32_4) = v1 c
          ∧ r.2.mem ((c.tc : Thread Cert.QueryIdeal.nD Cert.QueryIdeal.τ).loc Cert.QueryIdeal.main_v32_5) = v2 c
          ∧ r.2.mem ((c.tc : Thread Cert.QueryIdeal.nD Cert.QueryIdeal.τ).loc Cert.QueryIdeal.main_v32_6) = v3 c
          ∧ r.2.mem ((c.tc : Thread Cert.QueryIdeal.nD Cert.QueryIdeal.τ).loc Cert.QueryIdeal.main_v32_7) = v4 c
          ∧ r.2.mem ((c.tc : Thread Cert.QueryIdeal.nD Cert.QueryIdeal.τ).loc Cert.QueryIdeal.main_v32_8) = v5 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
          ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
          ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7)
          ∧ r.2.mem ((c.tc : Thread Cert.QueryIdeal.nD Cert.QueryIdeal.τ).loc Cert.QueryIdeal.main_arg8) = m ((c.tc : Thread Cert.QueryIdeal.nD Cert.QueryIdeal.τ).loc Cert.QueryIdeal.main_arg8)
          ∧ r.2.mem ((c.tc : Thread Cert.QueryIdeal.nD Cert.QueryIdeal.τ).loc Cert.QueryIdeal.main_arg9) = m ((c.tc : Thread Cert.QueryIdeal.nD Cert.QueryIdeal.τ).loc Cert.QueryIdeal.main_arg9)
          ∧ r.2.mem ((c.tc : Thread Cert.QueryIdeal.nD Cert.QueryIdeal.τ).loc Cert.QueryIdeal.main_arg10) = m ((c.tc : Thread Cert.QueryIdeal.nD Cert.QueryIdeal.τ).loc Cert.QueryIdeal.main_arg10)
          ∧ r.2.mem ((c.tc : Thread Cert.QueryIdeal.nD Cert.QueryIdeal.τ).loc Cert.QueryIdeal.main_arg11) = m ((c.tc : Thread Cert.QueryIdeal.nD Cert.QueryIdeal.τ).loc Cert.QueryIdeal.main_arg11)
          ∧ r.2.mem ((c.tc : Thread Cert.QueryIdeal.nD Cert.QueryIdeal.τ).loc Cert.QueryIdeal.main_arg12) = m ((c.tc : Thread Cert.QueryIdeal.nD Cert.QueryIdeal.τ).loc Cert.QueryIdeal.main_arg12)
          ∧ r.2.mem ((c.tc : Thread Cert.QueryIdeal.nD Cert.QueryIdeal.τ).loc Cert.QueryIdeal.main_arg13) = m ((c.tc : Thread Cert.QueryIdeal.nD Cert.QueryIdeal.τ).loc Cert.QueryIdeal.main_arg13)
          ∧ r.2.mem ((c.tc : Thread Cert.QueryIdeal.nD Cert.QueryIdeal.τ).loc Cert.QueryIdeal.main_arg14) = m ((c.tc : Thread Cert.QueryIdeal.nD Cert.QueryIdeal.τ).loc Cert.QueryIdeal.main_arg14)
          ∧ r.2.mem ((c.tc : Thread Cert.QueryIdeal.nD Cert.QueryIdeal.τ).loc Cert.QueryIdeal.main_arg15) = m ((c.tc : Thread Cert.QueryIdeal.nD Cert.QueryIdeal.τ).loc Cert.QueryIdeal.main_arg15)
          ∧ r.2.mem ((c.tc : Thread Cert.QueryIdeal.nD Cert.QueryIdeal.τ).loc Cert.QueryIdeal.main_arg16) = m ((c.tc : Thread Cert.QueryIdeal.nD Cert.QueryIdeal.τ).loc Cert.QueryIdeal.main_arg16)
          ∧ r.2.mem ((c.tc : Thread Cert.QueryIdeal.nD Cert.QueryIdeal.τ).loc Cert.QueryIdeal.main_arg17) = m ((c.tc : Thread Cert.QueryIdeal.nD Cert.QueryIdeal.τ).loc Cert.QueryIdeal.main_arg17)
          ∧ r.2.mem ((c.tc : Thread Cert.QueryIdeal.nD Cert.QueryIdeal.τ).loc Cert.QueryIdeal.main_arg18) = m ((c.tc : Thread Cert.QueryIdeal.nD Cert.QueryIdeal.τ).loc Cert.QueryIdeal.main_arg18)
          ∧ r.2.mem ((c.tc : Thread Cert.QueryIdeal.nD Cert.QueryIdeal.τ).loc Cert.QueryIdeal.main_arg19) = m ((c.tc : Thread Cert.QueryIdeal.nD Cert.QueryIdeal.τ).loc Cert.QueryIdeal.main_arg19)
          ∧ r.2.mem ((c.tc : Thread Cert.QueryIdeal.nD Cert.QueryIdeal.τ).loc Cert.QueryIdeal.main_arg20) = m ((c.tc : Thread Cert.QueryIdeal.nD Cert.QueryIdeal.τ).loc Cert.QueryIdeal.main_arg20)
          ∧ r.2.mem ((c.tc : Thread Cert.QueryIdeal.nD Cert.QueryIdeal.τ).loc Cert.QueryIdeal.main_arg21) = m ((c.tc : Thread Cert.QueryIdeal.nD Cert.QueryIdeal.τ).loc Cert.QueryIdeal.main_arg21)
          ∧ r.2.mem ((c.tc : Thread Cert.QueryIdeal.nD Cert.QueryIdeal.τ).loc Cert.QueryIdeal.main_arg22) = m ((c.tc : Thread Cert.QueryIdeal.nD Cert.QueryIdeal.τ).loc Cert.QueryIdeal.main_arg22)
          ∧ r.2.mem ((c.tc : Thread Cert.QueryIdeal.nD Cert.QueryIdeal.τ).loc Cert.QueryIdeal.main_arg23) = m ((c.tc : Thread Cert.QueryIdeal.nD Cert.QueryIdeal.τ).loc Cert.QueryIdeal.main_arg23)
          ∧ r.2.mem ((c.tc : Thread Cert.QueryIdeal.nD Cert.QueryIdeal.τ).loc Cert.QueryIdeal.main_arg24) = m ((c.tc : Thread Cert.QueryIdeal.nD Cert.QueryIdeal.τ).loc Cert.QueryIdeal.main_arg24)
          ∧ r.2.mem ((c.tc : Thread Cert.QueryIdeal.nD Cert.QueryIdeal.τ).loc Cert.QueryIdeal.main_arg25) = m ((c.tc : Thread Cert.QueryIdeal.nD Cert.QueryIdeal.τ).loc Cert.QueryIdeal.main_arg25)
          ∧ r.2.mem ((c.tc : Thread Cert.QueryIdeal.nD Cert.QueryIdeal.τ).loc Cert.QueryIdeal.main_arg26) = m ((c.tc : Thread Cert.QueryIdeal.nD Cert.QueryIdeal.τ).loc Cert.QueryIdeal.main_arg26)
          ∧ r.2.mem ((c.tc : Thread Cert.QueryIdeal.nD Cert.QueryIdeal.τ).loc Cert.QueryIdeal.main_arg27) = m ((c.tc : Thread Cert.QueryIdeal.nD Cert.QueryIdeal.τ).loc Cert.QueryIdeal.main_arg27)
          ∧ r.2.mem ((c.tc : Thread Cert.QueryIdeal.nD Cert.QueryIdeal.τ).loc Cert.QueryIdeal.main_arg28) = m ((c.tc : Thread Cert.QueryIdeal.nD Cert.QueryIdeal.τ).loc Cert.QueryIdeal.main_arg28)
          ∧ r.2.mem ((c.tc : Thread Cert.QueryIdeal.nD Cert.QueryIdeal.τ).loc Cert.QueryIdeal.main_arg29) = m ((c.tc : Thread Cert.QueryIdeal.nD Cert.QueryIdeal.τ).loc Cert.QueryIdeal.main_arg29)
          ∧ r.2.mem ((c.tc : Thread Cert.QueryIdeal.nD Cert.QueryIdeal.τ).loc Cert.QueryIdeal.main_arg30) = m ((c.tc : Thread Cert.QueryIdeal.nD Cert.QueryIdeal.τ).loc Cert.QueryIdeal.main_arg30)
          ∧ r.2.mem ((c.tc : Thread Cert.QueryIdeal.nD Cert.QueryIdeal.τ).loc Cert.QueryIdeal.main_arg31) = m ((c.tc : Thread Cert.QueryIdeal.nD Cert.QueryIdeal.τ).loc Cert.QueryIdeal.main_arg31)
          ∧ r.2.mem ((c.tc : Thread Cert.QueryIdeal.nD Cert.QueryIdeal.τ).loc Cert.QueryIdeal.main_arg32) = m ((c.tc : Thread Cert.QueryIdeal.nD Cert.QueryIdeal.τ).loc Cert.QueryIdeal.main_arg32)
          ∧ r.2.mem ((c.tc : Thread Cert.QueryIdeal.nD Cert.QueryIdeal.τ).loc Cert.QueryIdeal.main_arg33) = m ((c.tc : Thread Cert.QueryIdeal.nD Cert.QueryIdeal.τ).loc Cert.QueryIdeal.main_arg33)
          ∧ r.2.mem ((c.tc : Thread Cert.QueryIdeal.nD Cert.QueryIdeal.τ).loc Cert.QueryIdeal.main_arg34) = m ((c.tc : Thread Cert.QueryIdeal.nD Cert.QueryIdeal.τ).loc Cert.QueryIdeal.main_arg34)
          ∧ r.2.mem ((c.tc : Thread Cert.QueryIdeal.nD Cert.QueryIdeal.τ).loc Cert.QueryIdeal.main_arg35) = m ((c.tc : Thread Cert.QueryIdeal.nD Cert.QueryIdeal.τ).loc Cert.QueryIdeal.main_arg35)
          ∧ r.2.mem ((c.tc : Thread Cert.QueryIdeal.nD Cert.QueryIdeal.τ).loc Cert.QueryIdeal.main_arg36) = m ((c.tc : Thread Cert.QueryIdeal.nD Cert.QueryIdeal.τ).loc Cert.QueryIdeal.main_arg36)
          ∧ r.2.mem ((c.tc : Thread Cert.QueryIdeal.nD Cert.QueryIdeal.τ).loc Cert.QueryIdeal.main_arg37) = m ((c.tc : Thread Cert.QueryIdeal.nD Cert.QueryIdeal.τ).loc Cert.QueryIdeal.main_arg37)
          ∧ r.2.mem ((c.tc : Thread Cert.QueryIdeal.nD Cert.QueryIdeal.τ).loc Cert.QueryIdeal.main_arg38) = m ((c.tc : Thread Cert.QueryIdeal.nD Cert.QueryIdeal.τ).loc Cert.QueryIdeal.main_arg38)
          ∧ r.2.mem ((c.tc : Thread Cert.QueryIdeal.nD Cert.QueryIdeal.τ).loc Cert.QueryIdeal.main_arg39) = m ((c.tc : Thread Cert.QueryIdeal.nD Cert.QueryIdeal.τ).loc Cert.QueryIdeal.main_arg39)
          ∧ r.2.mem ((c.tc : Thread Cert.QueryIdeal.nD Cert.QueryIdeal.τ).loc Cert.QueryIdeal.main_arg40) = m ((c.tc : Thread Cert.QueryIdeal.nD Cert.QueryIdeal.τ).loc Cert.QueryIdeal.main_arg40)
          ∧ r.2.mem ((c.tc : Thread Cert.QueryIdeal.nD Cert.QueryIdeal.τ).loc Cert.QueryIdeal.main_arg41) = m ((c.tc : Thread Cert.QueryIdeal.nD Cert.QueryIdeal.τ).loc Cert.QueryIdeal.main_arg41)
          ∧ r.2.mem ((c.tc : Thread Cert.QueryIdeal.nD Cert.QueryIdeal.τ).loc Cert.QueryIdeal.main_arg42) = m ((c.tc : Thread Cert.QueryIdeal.nD Cert.QueryIdeal.τ).loc Cert.QueryIdeal.main_arg42)
          ∧ r.2.mem ((c.tc : Thread Cert.QueryIdeal.nD Cert.QueryIdeal.τ).loc Cert.QueryIdeal.main_arg43) = m ((c.tc : Thread Cert.QueryIdeal.nD Cert.QueryIdeal.τ).loc Cert.QueryIdeal.main_arg43))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v14) = v0 c
          ∧ r.2.mem ((c.tc : Thread Cert.QueryReferenceIdeal.nD Cert.QueryReferenceIdeal.τ).loc Cert.QueryReferenceIdeal.main_v7) = v1 c
          ∧ r.2.mem ((c.tc : Thread Cert.QueryReferenceIdeal.nD Cert.QueryReferenceIdeal.τ).loc Cert.QueryReferenceIdeal.main_v70) = v2 c
          ∧ r.2.mem ((c.tc : Thread Cert.QueryReferenceIdeal.nD Cert.QueryReferenceIdeal.τ).loc Cert.QueryReferenceIdeal.main_v63) = v3 c
          ∧ r.2.mem ((c.tc : Thread Cert.QueryReferenceIdeal.nD Cert.QueryReferenceIdeal.τ).loc Cert.QueryReferenceIdeal.main_v84) = v4 c
          ∧ r.2.mem ((c.tc : Thread Cert.QueryReferenceIdeal.nD Cert.QueryReferenceIdeal.τ).loc Cert.QueryReferenceIdeal.main_v77) = v5 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4)
          ∧ r.2.mem ((c.tc : Thread Cert.QueryReferenceIdeal.nD Cert.QueryReferenceIdeal.τ).loc Cert.QueryReferenceIdeal.main_arg5) = m' ((c.tc : Thread Cert.QueryReferenceIdeal.nD Cert.QueryReferenceIdeal.τ).loc Cert.QueryReferenceIdeal.main_arg5)
          ∧ r.2.mem ((c.tc : Thread Cert.QueryReferenceIdeal.nD Cert.QueryReferenceIdeal.τ).loc Cert.QueryReferenceIdeal.main_arg6) = m' ((c.tc : Thread Cert.QueryReferenceIdeal.nD Cert.QueryReferenceIdeal.τ).loc Cert.QueryReferenceIdeal.main_arg6)
          ∧ r.2.mem ((c.tc : Thread Cert.QueryReferenceIdeal.nD Cert.QueryReferenceIdeal.τ).loc Cert.QueryReferenceIdeal.main_arg7) = m' ((c.tc : Thread Cert.QueryReferenceIdeal.nD Cert.QueryReferenceIdeal.τ).loc Cert.QueryReferenceIdeal.main_arg7)
          ∧ r.2.mem ((c.tc : Thread Cert.QueryReferenceIdeal.nD Cert.QueryReferenceIdeal.τ).loc Cert.QueryReferenceIdeal.main_arg8) = m' ((c.tc : Thread Cert.QueryReferenceIdeal.nD Cert.QueryReferenceIdeal.τ).loc Cert.QueryReferenceIdeal.main_arg8)
          ∧ r.2.mem ((c.tc : Thread Cert.QueryReferenceIdeal.nD Cert.QueryReferenceIdeal.τ).loc Cert.QueryReferenceIdeal.main_arg9) = m' ((c.tc : Thread Cert.QueryReferenceIdeal.nD Cert.QueryReferenceIdeal.τ).loc Cert.QueryReferenceIdeal.main_arg9)
          ∧ r.2.mem ((c.tc : Thread Cert.QueryReferenceIdeal.nD Cert.QueryReferenceIdeal.τ).loc Cert.QueryReferenceIdeal.main_arg10) = m' ((c.tc : Thread Cert.QueryReferenceIdeal.nD Cert.QueryReferenceIdeal.τ).loc Cert.QueryReferenceIdeal.main_arg10)
          ∧ r.2.mem ((c.tc : Thread Cert.QueryReferenceIdeal.nD Cert.QueryReferenceIdeal.τ).loc Cert.QueryReferenceIdeal.main_arg11) = m' ((c.tc : Thread Cert.QueryReferenceIdeal.nD Cert.QueryReferenceIdeal.τ).loc Cert.QueryReferenceIdeal.main_arg11)
          ∧ r.2.mem ((c.tc : Thread Cert.QueryReferenceIdeal.nD Cert.QueryReferenceIdeal.τ).loc Cert.QueryReferenceIdeal.main_arg12) = m' ((c.tc : Thread Cert.QueryReferenceIdeal.nD Cert.QueryReferenceIdeal.τ).loc Cert.QueryReferenceIdeal.main_arg12)
          ∧ r.2.mem ((c.tc : Thread Cert.QueryReferenceIdeal.nD Cert.QueryReferenceIdeal.τ).loc Cert.QueryReferenceIdeal.main_arg13) = m' ((c.tc : Thread Cert.QueryReferenceIdeal.nD Cert.QueryReferenceIdeal.τ).loc Cert.QueryReferenceIdeal.main_arg13)
          ∧ r.2.mem ((c.tc : Thread Cert.QueryReferenceIdeal.nD Cert.QueryReferenceIdeal.τ).loc Cert.QueryReferenceIdeal.main_arg14) = m' ((c.tc : Thread Cert.QueryReferenceIdeal.nD Cert.QueryReferenceIdeal.τ).loc Cert.QueryReferenceIdeal.main_arg14)
          ∧ r.2.mem ((c.tc : Thread Cert.QueryReferenceIdeal.nD Cert.QueryReferenceIdeal.τ).loc Cert.QueryReferenceIdeal.main_arg15) = m' ((c.tc : Thread Cert.QueryReferenceIdeal.nD Cert.QueryReferenceIdeal.τ).loc Cert.QueryReferenceIdeal.main_arg15)
          ∧ r.2.mem ((c.tc : Thread Cert.QueryReferenceIdeal.nD Cert.QueryReferenceIdeal.τ).loc Cert.QueryReferenceIdeal.main_arg16) = m' ((c.tc : Thread Cert.QueryReferenceIdeal.nD Cert.QueryReferenceIdeal.τ).loc Cert.QueryReferenceIdeal.main_arg16)
          ∧ r.2.mem ((c.tc : Thread Cert.QueryReferenceIdeal.nD Cert.QueryReferenceIdeal.τ).loc Cert.QueryReferenceIdeal.main_arg17) = m' ((c.tc : Thread Cert.QueryReferenceIdeal.nD Cert.QueryReferenceIdeal.τ).loc Cert.QueryReferenceIdeal.main_arg17)
          ∧ r.2.mem ((c.tc : Thread Cert.QueryReferenceIdeal.nD Cert.QueryReferenceIdeal.τ).loc Cert.QueryReferenceIdeal.main_arg18) = m' ((c.tc : Thread Cert.QueryReferenceIdeal.nD Cert.QueryReferenceIdeal.τ).loc Cert.QueryReferenceIdeal.main_arg18)
          ∧ r.2.mem ((c.tc : Thread Cert.QueryReferenceIdeal.nD Cert.QueryReferenceIdeal.τ).loc Cert.QueryReferenceIdeal.main_arg19) = m' ((c.tc : Thread Cert.QueryReferenceIdeal.nD Cert.QueryReferenceIdeal.τ).loc Cert.QueryReferenceIdeal.main_arg19)
          ∧ r.2.mem ((c.tc : Thread Cert.QueryReferenceIdeal.nD Cert.QueryReferenceIdeal.τ).loc Cert.QueryReferenceIdeal.main_arg20) = m' ((c.tc : Thread Cert.QueryReferenceIdeal.nD Cert.QueryReferenceIdeal.τ).loc Cert.QueryReferenceIdeal.main_arg20)
          ∧ r.2.mem ((c.tc : Thread Cert.QueryReferenceIdeal.nD Cert.QueryReferenceIdeal.τ).loc Cert.QueryReferenceIdeal.main_arg21) = m' ((c.tc : Thread Cert.QueryReferenceIdeal.nD Cert.QueryReferenceIdeal.τ).loc Cert.QueryReferenceIdeal.main_arg21)
          ∧ r.2.mem ((c.tc : Thread Cert.QueryReferenceIdeal.nD Cert.QueryReferenceIdeal.τ).loc Cert.QueryReferenceIdeal.main_arg22) = m' ((c.tc : Thread Cert.QueryReferenceIdeal.nD Cert.QueryReferenceIdeal.τ).loc Cert.QueryReferenceIdeal.main_arg22)
          ∧ r.2.mem ((c.tc : Thread Cert.QueryReferenceIdeal.nD Cert.QueryReferenceIdeal.τ).loc Cert.QueryReferenceIdeal.main_arg23) = m' ((c.tc : Thread Cert.QueryReferenceIdeal.nD Cert.QueryReferenceIdeal.τ).loc Cert.QueryReferenceIdeal.main_arg23)
          ∧ r.2.mem ((c.tc : Thread Cert.QueryReferenceIdeal.nD Cert.QueryReferenceIdeal.τ).loc Cert.QueryReferenceIdeal.main_arg24) = m' ((c.tc : Thread Cert.QueryReferenceIdeal.nD Cert.QueryReferenceIdeal.τ).loc Cert.QueryReferenceIdeal.main_arg24)
          ∧ r.2.mem ((c.tc : Thread Cert.QueryReferenceIdeal.nD Cert.QueryReferenceIdeal.τ).loc Cert.QueryReferenceIdeal.main_arg25) = m' ((c.tc : Thread Cert.QueryReferenceIdeal.nD Cert.QueryReferenceIdeal.τ).loc Cert.QueryReferenceIdeal.main_arg25)
          ∧ r.2.mem ((c.tc : Thread Cert.QueryReferenceIdeal.nD Cert.QueryReferenceIdeal.τ).loc Cert.QueryReferenceIdeal.main_arg26) = m' ((c.tc : Thread Cert.QueryReferenceIdeal.nD Cert.QueryReferenceIdeal.τ).loc Cert.QueryReferenceIdeal.main_arg26)
          ∧ r.2.mem ((c.tc : Thread Cert.QueryReferenceIdeal.nD Cert.QueryReferenceIdeal.τ).loc Cert.QueryReferenceIdeal.main_arg27) = m' ((c.tc : Thread Cert.QueryReferenceIdeal.nD Cert.QueryReferenceIdeal.τ).loc Cert.QueryReferenceIdeal.main_arg27)
          ∧ r.2.mem ((c.tc : Thread Cert.QueryReferenceIdeal.nD Cert.QueryReferenceIdeal.τ).loc Cert.QueryReferenceIdeal.main_arg28) = m' ((c.tc : Thread Cert.QueryReferenceIdeal.nD Cert.QueryReferenceIdeal.τ).loc Cert.QueryReferenceIdeal.main_arg28)
          ∧ r.2.mem ((c.tc : Thread Cert.QueryReferenceIdeal.nD Cert.QueryReferenceIdeal.τ).loc Cert.QueryReferenceIdeal.main_arg29) = m' ((c.tc : Thread Cert.QueryReferenceIdeal.nD Cert.QueryReferenceIdeal.τ).loc Cert.QueryReferenceIdeal.main_arg29)
          ∧ r.2.mem ((c.tc : Thread Cert.QueryReferenceIdeal.nD Cert.QueryReferenceIdeal.τ).loc Cert.QueryReferenceIdeal.main_arg30) = m' ((c.tc : Thread Cert.QueryReferenceIdeal.nD Cert.QueryReferenceIdeal.τ).loc Cert.QueryReferenceIdeal.main_arg30)
          ∧ r.2.mem ((c.tc : Thread Cert.QueryReferenceIdeal.nD Cert.QueryReferenceIdeal.τ).loc Cert.QueryReferenceIdeal.main_arg31) = m' ((c.tc : Thread Cert.QueryReferenceIdeal.nD Cert.QueryReferenceIdeal.τ).loc Cert.QueryReferenceIdeal.main_arg31)
          ∧ r.2.mem ((c.tc : Thread Cert.QueryReferenceIdeal.nD Cert.QueryReferenceIdeal.τ).loc Cert.QueryReferenceIdeal.main_arg32) = m' ((c.tc : Thread Cert.QueryReferenceIdeal.nD Cert.QueryReferenceIdeal.τ).loc Cert.QueryReferenceIdeal.main_arg32)
          ∧ r.2.mem ((c.tc : Thread Cert.QueryReferenceIdeal.nD Cert.QueryReferenceIdeal.τ).loc Cert.QueryReferenceIdeal.main_arg33) = m' ((c.tc : Thread Cert.QueryReferenceIdeal.nD Cert.QueryReferenceIdeal.τ).loc Cert.QueryReferenceIdeal.main_arg33)
          ∧ r.2.mem ((c.tc : Thread Cert.QueryReferenceIdeal.nD Cert.QueryReferenceIdeal.τ).loc Cert.QueryReferenceIdeal.main_arg34) = m' ((c.tc : Thread Cert.QueryReferenceIdeal.nD Cert.QueryReferenceIdeal.τ).loc Cert.QueryReferenceIdeal.main_arg34)
          ∧ r.2.mem ((c.tc : Thread Cert.QueryReferenceIdeal.nD Cert.QueryReferenceIdeal.τ).loc Cert.QueryReferenceIdeal.main_arg35) = m' ((c.tc : Thread Cert.QueryReferenceIdeal.nD Cert.QueryReferenceIdeal.τ).loc Cert.QueryReferenceIdeal.main_arg35)
          ∧ r.2.mem ((c.tc : Thread Cert.QueryReferenceIdeal.nD Cert.QueryReferenceIdeal.τ).loc Cert.QueryReferenceIdeal.main_arg36) = m' ((c.tc : Thread Cert.QueryReferenceIdeal.nD Cert.QueryReferenceIdeal.τ).loc Cert.QueryReferenceIdeal.main_arg36)
          ∧ r.2.mem ((c.tc : Thread Cert.QueryReferenceIdeal.nD Cert.QueryReferenceIdeal.τ).loc Cert.QueryReferenceIdeal.main_arg37) = m' ((c.tc : Thread Cert.QueryReferenceIdeal.nD Cert.QueryReferenceIdeal.τ).loc Cert.QueryReferenceIdeal.main_arg37)
          ∧ r.2.mem ((c.tc : Thread Cert.QueryReferenceIdeal.nD Cert.QueryReferenceIdeal.τ).loc Cert.QueryReferenceIdeal.main_arg38) = m' ((c.tc : Thread Cert.QueryReferenceIdeal.nD Cert.QueryReferenceIdeal.τ).loc Cert.QueryReferenceIdeal.main_arg38)
          ∧ r.2.mem ((c.tc : Thread Cert.QueryReferenceIdeal.nD Cert.QueryReferenceIdeal.τ).loc Cert.QueryReferenceIdeal.main_arg39) = m' ((c.tc : Thread Cert.QueryReferenceIdeal.nD Cert.QueryReferenceIdeal.τ).loc Cert.QueryReferenceIdeal.main_arg39)
          ∧ r.2.mem ((c.tc : Thread Cert.QueryReferenceIdeal.nD Cert.QueryReferenceIdeal.τ).loc Cert.QueryReferenceIdeal.main_arg40) = m' ((c.tc : Thread Cert.QueryReferenceIdeal.nD Cert.QueryReferenceIdeal.τ).loc Cert.QueryReferenceIdeal.main_arg40)
          ∧ r.2.mem ((c.tc : Thread Cert.QueryReferenceIdeal.nD Cert.QueryReferenceIdeal.τ).loc Cert.QueryReferenceIdeal.main_arg41) = m' ((c.tc : Thread Cert.QueryReferenceIdeal.nD Cert.QueryReferenceIdeal.τ).loc Cert.QueryReferenceIdeal.main_arg41)
          ∧ r.2.mem ((c.tc : Thread Cert.QueryReferenceIdeal.nD Cert.QueryReferenceIdeal.τ).loc Cert.QueryReferenceIdeal.main_arg42) = m' ((c.tc : Thread Cert.QueryReferenceIdeal.nD Cert.QueryReferenceIdeal.τ).loc Cert.QueryReferenceIdeal.main_arg42)
          ∧ r.2.mem ((c.tc : Thread Cert.QueryReferenceIdeal.nD Cert.QueryReferenceIdeal.τ).loc Cert.QueryReferenceIdeal.main_arg43) = m' ((c.tc : Thread Cert.QueryReferenceIdeal.nD Cert.QueryReferenceIdeal.τ).loc Cert.QueryReferenceIdeal.main_arg43))

def Claim : Prop :=
  ∃ (hKernel : Cert.Kernel.Facts) (hKernelIdeal : Cert.KernelIdeal.Facts) (hReferenceIdeal : Cert.ReferenceIdeal.Facts) (hQuery : Cert.Query.Facts) (hQueryIdeal : Cert.QueryIdeal.Facts) (hQueryReferenceIdeal : Cert.QueryReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ preserves_Kernel_KernelIdeal
    ∧ algebraic_KernelIdeal_ReferenceIdeal (hKernelIdeal := hKernelIdeal) (hReferenceIdeal := hReferenceIdeal)
    ∧ preserves_Query_QueryIdeal
    ∧ algebraic_QueryIdeal_QueryReferenceIdeal (hQueryIdeal := hQueryIdeal) (hQueryReferenceIdeal := hQueryReferenceIdeal)
-- ==== Kernel.lean ====
abbrev S6x100x256 : Shape := ⟨3, ![6, 100, 256]⟩
abbrev S6x100 : Shape := ⟨2, ![6, 100]⟩
abbrev S6x208x272x256 : Shape := ⟨4, ![6, 208, 272, 256]⟩
abbrev S6x208x272 : Shape := ⟨3, ![6, 208, 272]⟩
abbrev S6x100x1 : Shape := ⟨3, ![6, 100, 1]⟩
abbrev S6x100x128 : Shape := ⟨3, ![6, 100, 128]⟩
abbrev S6x272x208 : Shape := ⟨3, ![6, 272, 208]⟩
abbrev S6x100x272x208 : Shape := ⟨4, ![6, 100, 272, 208]⟩
abbrev S6x100x136x104 : Shape := ⟨4, ![6, 100, 136, 104]⟩
abbrev S1x100x256 : Shape := ⟨3, ![1, 100, 256]⟩
abbrev S1x100x128 : Shape := ⟨3, ![1, 100, 128]⟩
abbrev S1x208x8x128 : Shape := ⟨4, ![1, 208, 8, 128]⟩
abbrev S1x16x208 : Shape := ⟨3, ![1, 16, 208]⟩
abbrev S1x100x16x208 : Shape := ⟨4, ![1, 100, 16, 208]⟩
abbrev S1x100x8x104 : Shape := ⟨4, ![1, 100, 8, 104]⟩
abbrev S2x936x128 : Shape := ⟨3, ![2, 936, 128]⟩
abbrev S936x128 : Shape := ⟨2, ![936, 128]⟩
abbrev S100x256 : Shape := ⟨2, ![100, 256]⟩
abbrev S100x128 : Shape := ⟨2, ![100, 128]⟩
abbrev S100x80 : Shape := ⟨2, ![100, 80]⟩
abbrev S100x208 : Shape := ⟨2, ![100, 208]⟩
abbrev S208x8x128 : Shape := ⟨3, ![208, 8, 128]⟩
abbrev S208x2x128 : Shape := ⟨3, ![208, 2, 128]⟩
abbrev S52x8x128 : Shape := ⟨3, ![52, 8, 128]⟩
abbrev S8x1x128 : Shape := ⟨3, ![8, 1, 128]⟩
abbrev S8x128 : Shape := ⟨2, ![8, 128]⟩
abbrev S16x128 : Shape := ⟨2, ![16, 128]⟩
abbrev S32x128 : Shape := ⟨2, ![32, 128]⟩
abbrev S4x1x128 : Shape := ⟨3, ![4, 1, 128]⟩
abbrev S4x128 : Shape := ⟨2, ![4, 128]⟩
abbrev S208x128 : Shape := ⟨2, ![208, 128]⟩
abbrev S208x256 : Shape := ⟨2, ![208, 256]⟩
abbrev S1x1x208 : Shape := ⟨3, ![1, 1, 208]⟩
abbrev S1x208 : Shape := ⟨2, ![1, 208]⟩
abbrev S100x48 : Shape := ⟨2, ![100, 48]⟩
abbrev S100x128x1 : Shape := ⟨3, ![100, 128, 1]⟩
abbrev S1x8x128 : Shape := ⟨3, ![1, 8, 128]⟩
abbrev S1x1x16x128 : Shape := ⟨4, ![1, 1, 16, 128]⟩
abbrev S16x80 : Shape := ⟨2, ![16, 80]⟩
abbrev S1x1x16x80 : Shape := ⟨4, ![1, 1, 16, 80]⟩
abbrev S8x104 : Shape := ⟨2, ![8, 104]⟩
abbrev S1x1x8x104 : Shape := ⟨4, ![1, 1, 8, 104]⟩

abbrev nBuf : Space → Nat
  | .hbm => 9
  | .vmem => 20
  | .smem => 0
  | _ => 0

abbrev bufTy : (tb : Table) → Fin (tcTables nBuf tb) → BufTy
  | .hbm, ⟨0, _⟩ => ⟨S6x100x256, .i8⟩
  | .hbm, ⟨1, _⟩ => ⟨S6x100, .f32⟩
  | .hbm, ⟨2, _⟩ => ⟨S6x208x272x256, .i8⟩
  | .hbm, ⟨3, _⟩ => ⟨S6x208x272, .f32⟩
  | .hbm, ⟨4, _⟩ => ⟨S6x100x1, .f32⟩
  | .hbm, ⟨5, _⟩ => ⟨S6x100x128, .f32⟩
  | .hbm, ⟨6, _⟩ => ⟨S6x272x208, .f32⟩
  | .hbm, ⟨7, _⟩ => ⟨S6x100x272x208, .bf16⟩
  | .hbm, ⟨8, _⟩ => ⟨S6x100x136x104, .f32⟩
  | .local _ .vmem, ⟨0, _⟩ => ⟨S1x100x256, .i8⟩
  | .local _ .vmem, ⟨1, _⟩ => ⟨S1x100x256, .i8⟩
  | .local _ .vmem, ⟨2, _⟩ => ⟨S1x100x128, .f32⟩
  | .local _ .vmem, ⟨3, _⟩ => ⟨S1x100x128, .f32⟩
  | .local _ .vmem, ⟨4, _⟩ => ⟨S1x208x8x128, .i8⟩
  | .local _ .vmem, ⟨5, _⟩ => ⟨S1x208x8x128, .i8⟩
  | .local _ .vmem, ⟨6, _⟩ => ⟨S1x208x8x128, .i8⟩
  | .local _ .vmem, ⟨7, _⟩ => ⟨S1x208x8x128, .i8⟩
  | .local _ .vmem, ⟨8, _⟩ => ⟨S1x208x8x128, .i8⟩
  | .local _ .vmem, ⟨9, _⟩ => ⟨S1x208x8x128, .i8⟩
  | .local _ .vmem, ⟨10, _⟩ => ⟨S1x208x8x128, .i8⟩
  | .local _ .vmem, ⟨11, _⟩ => ⟨S1x208x8x128, .i8⟩
  | .local _ .vmem, ⟨12, _⟩ => ⟨S1x16x208, .f32⟩
  | .local _ .vmem, ⟨13, _⟩ => ⟨S1x16x208, .f32⟩
  | .local _ .vmem, ⟨14, _⟩ => ⟨S1x100x16x208, .bf16⟩
  | .local _ .vmem, ⟨15, _⟩ => ⟨S1x100x16x208, .bf16⟩
  | .local _ .vmem, ⟨16, _⟩ => ⟨S1x100x8x104, .f32⟩
  | .local _ .vmem, ⟨17, _⟩ => ⟨S1x100x8x104, .f32⟩
  | .local _ .vmem, ⟨18, _⟩ => ⟨S2x936x128, .i32⟩
  | .local _ .vmem, ⟨19, _⟩ => ⟨S936x128, .f32⟩
  | _, _ => ⟨S6x100x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨2, ![6, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c1_i32 : BitVec 32 := 1#32
  let c0_i32_1 : BitVec 32 := 0#32
  ![arg0.toNat, c0_i32_0.toNat, v1.toNat, c1_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, c0_i32.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c1_i32_0 : BitVec 32 := 1#32
  let c0_i32_1 : BitVec 32 := 0#32
  ![arg0.toNat, c0_i32.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x100x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x100x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x208x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x208x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x208x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x208x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x208 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x100x16x208 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x100x8x104 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S2x936x2x128 : Shape := ⟨4, ![2, 936, 2, 128]⟩
abbrev S2x936x1x128 : Shape := ⟨4, ![2, 936, 1, 128]⟩
abbrev S1x100x2x128 : Shape := ⟨4, ![1, 100, 2, 128]⟩
abbrev S1x100x1x128 : Shape := ⟨4, ![1, 100, 1, 128]⟩
abbrev S1x8x2x128 : Shape := ⟨4, ![1, 8, 2, 128]⟩
abbrev S1x8x1x128 : Shape := ⟨4, ![1, 8, 1, 128]⟩
  | .local _ .vmem, ⟨18, _⟩ => ⟨S2x936x2x128, .bf16⟩
variable {F : FTy → Type} [FloatOps F]
-- ==== ReferenceIdeal.lean ====
abbrev S6x100x256 : Shape := ⟨3, ![6, 100, 256]⟩
abbrev S6x100 : Shape := ⟨2, ![6, 100]⟩
abbrev S6x208x272x256 : Shape := ⟨4, ![6, 208, 272, 256]⟩
abbrev S6x208x272 : Shape := ⟨3, ![6, 208, 272]⟩
abbrev S6x100x208x272 : Shape := ⟨4, ![6, 100, 208, 272]⟩
abbrev S6x100x1x1 : Shape := ⟨4, ![6, 100, 1, 1]⟩
abbrev S6x1x208x272 : Shape := ⟨4, ![6, 1, 208, 272]⟩
abbrev S104 : Shape := ⟨1, ![104]⟩
abbrev S104x1 : Shape := ⟨2, ![104, 1]⟩
abbrev S_ : Shape := ⟨0, ![]⟩
abbrev S208 : Shape := ⟨1, ![208]⟩
abbrev S1x208 : Shape := ⟨2, ![1, 208]⟩
abbrev S104x208 : Shape := ⟨2, ![104, 208]⟩
abbrev S6x100x272x104 : Shape := ⟨4, ![6, 100, 272, 104]⟩
abbrev S6x100x104x272 : Shape := ⟨4, ![6, 100, 104, 272]⟩
abbrev S136 : Shape := ⟨1, ![136]⟩
abbrev S136x1 : Shape := ⟨2, ![136, 1]⟩
abbrev S272 : Shape := ⟨1, ![272]⟩
abbrev S1x272 : Shape := ⟨2, ![1, 272]⟩
abbrev S136x272 : Shape := ⟨2, ![136, 272]⟩
abbrev S6x100x104x136 : Shape := ⟨4, ![6, 100, 104, 136]⟩
abbrev S6x100x272x208 : Shape := ⟨4, ![6, 100, 272, 208]⟩
abbrev S6x100x136x104 : Shape := ⟨4, ![6, 100, 136, 104]⟩

abbrev nBuf : Space → Nat
  | .hbm => 81
  | .vmem => 0
  | .smem => 0
  | _ => 0

abbrev bufTy : (tb : Table) → Fin (tcTables nBuf tb) → BufTy
  | .hbm, ⟨0, _⟩ => ⟨S6x100x256, .i8⟩
  | .hbm, ⟨1, _⟩ => ⟨S6x100, .f32⟩
  | .hbm, ⟨2, _⟩ => ⟨S6x208x272x256, .i8⟩
  | .hbm, ⟨3, _⟩ => ⟨S6x208x272, .f32⟩
  | .hbm, ⟨4, _⟩ => ⟨S6x100x256, .i32⟩
  | .hbm, ⟨5, _⟩ => ⟨S6x100x256, .f32⟩
  | .hbm, ⟨6, _⟩ => ⟨S6x100x256, .bf16⟩
  | .hbm, ⟨7, _⟩ => ⟨S6x208x272x256, .i32⟩
  | .hbm, ⟨8, _⟩ => ⟨S6x208x272x256, .f32⟩
  | .hbm, ⟨9, _⟩ => ⟨S6x208x272x256, .bf16⟩
  | .hbm, ⟨10, _⟩ => ⟨S6x100x208x272, .f32⟩
  | .hbm, ⟨11, _⟩ => ⟨S6x100x1x1, .f32⟩
  | .hbm, ⟨12, _⟩ => ⟨S6x100x208x272, .f32⟩
  | .hbm, ⟨13, _⟩ => ⟨S6x100x208x272, .f32⟩
  | .hbm, ⟨14, _⟩ => ⟨S6x1x208x272, .f32⟩
  | .hbm, ⟨15, _⟩ => ⟨S6x100x208x272, .f32⟩
  | .hbm, ⟨16, _⟩ => ⟨S6x100x208x272, .f32⟩
  | .hbm, ⟨17, _⟩ => ⟨S6x100x208x272, .bf16⟩
  | .hbm, ⟨18, _⟩ => ⟨S104, .i32⟩
  | .hbm, ⟨19, _⟩ => ⟨S104x1, .i32⟩
  | .hbm, ⟨20, _⟩ => ⟨S_, .i32⟩
  | .hbm, ⟨21, _⟩ => ⟨S104x1, .i32⟩
  | .hbm, ⟨22, _⟩ => ⟨S104x1, .i32⟩
  | .hbm, ⟨23, _⟩ => ⟨S_, .i32⟩
  | .hbm, ⟨24, _⟩ => ⟨S104x1, .i32⟩
  | .hbm, ⟨25, _⟩ => ⟨S104x1, .i32⟩
  | .hbm, ⟨26, _⟩ => ⟨S_, .i32⟩
  | .hbm, ⟨27, _⟩ => ⟨S104x1, .i32⟩
  | .hbm, ⟨28, _⟩ => ⟨S104x1, .i32⟩
  | .hbm, ⟨29, _⟩ => ⟨S208, .i32⟩
  | .hbm, ⟨30, _⟩ => ⟨S1x208, .i32⟩
  | .hbm, ⟨31, _⟩ => ⟨S104x208, .i32⟩
  | .hbm, ⟨32, _⟩ => ⟨S104x208, .i32⟩
  | .hbm, ⟨33, _⟩ => ⟨S104x208, .i1⟩
  | .hbm, ⟨34, _⟩ => ⟨S_, .i32⟩
  | .hbm, ⟨35, _⟩ => ⟨S104x1, .i32⟩
  | .hbm, ⟨36, _⟩ => ⟨S104x1, .i32⟩
  | .hbm, ⟨37, _⟩ => ⟨S104x208, .i32⟩
  | .hbm, ⟨38, _⟩ => ⟨S104x208, .i32⟩
  | .hbm, ⟨39, _⟩ => ⟨S104x208, .i1⟩
  | .hbm, ⟨40, _⟩ => ⟨S104x208, .i1⟩
  | .hbm, ⟨41, _⟩ => ⟨S_, .f32⟩
  | .hbm, ⟨42, _⟩ => ⟨S_, .f32⟩
  | .hbm, ⟨43, _⟩ => ⟨S104x208, .f32⟩
  | .hbm, ⟨44, _⟩ => ⟨S104x208, .f32⟩
  | .hbm, ⟨45, _⟩ => ⟨S104x208, .f32⟩
  | .hbm, ⟨46, _⟩ => ⟨S104x208, .f32⟩
  | .hbm, ⟨47, _⟩ => ⟨S6x100x272x104, .f32⟩
  | .hbm, ⟨48, _⟩ => ⟨S6x100x104x272, .f32⟩
  | .hbm, ⟨49, _⟩ => ⟨S136, .i32⟩
  | .hbm, ⟨50, _⟩ => ⟨S136x1, .i32⟩
  | .hbm, ⟨51, _⟩ => ⟨S_, .i32⟩
  | .hbm, ⟨52, _⟩ => ⟨S136x1, .i32⟩
  | .hbm, ⟨53, _⟩ => ⟨S136x1, .i32⟩
  | .hbm, ⟨54, _⟩ => ⟨S_, .i32⟩
  | .hbm, ⟨55, _⟩ => ⟨S136x1, .i32⟩
  | .hbm, ⟨56, _⟩ => ⟨S136x1, .i32⟩
  | .hbm, ⟨57, _⟩ => ⟨S_, .i32⟩
  | .hbm, ⟨58, _⟩ => ⟨S136x1, .i32⟩
  | .hbm, ⟨59, _⟩ => ⟨S136x1, .i32⟩
  | .hbm, ⟨60, _⟩ => ⟨S272, .i32⟩
  | .hbm, ⟨61, _⟩ => ⟨S1x272, .i32⟩
  | .hbm, ⟨62, _⟩ => ⟨S136x272, .i32⟩
  | .hbm, ⟨63, _⟩ => ⟨S136x272, .i32⟩
  | .hbm, ⟨64, _⟩ => ⟨S136x272, .i1⟩
  | .hbm, ⟨65, _⟩ => ⟨S_, .i32⟩
  | .hbm, ⟨66, _⟩ => ⟨S136x1, .i32⟩
  | .hbm, ⟨67, _⟩ => ⟨S136x1, .i32⟩
  | .hbm, ⟨68, _⟩ => ⟨S136x272, .i32⟩
  | .hbm, ⟨69, _⟩ => ⟨S136x272, .i32⟩
  | .hbm, ⟨70, _⟩ => ⟨S136x272, .i1⟩
  | .hbm, ⟨71, _⟩ => ⟨S136x272, .i1⟩
  | .hbm, ⟨72, _⟩ => ⟨S_, .f32⟩
  | .hbm, ⟨73, _⟩ => ⟨S_, .f32⟩
  | .hbm, ⟨74, _⟩ => ⟨S136x272, .f32⟩
  | .hbm, ⟨75, _⟩ => ⟨S136x272, .f32⟩
  | .hbm, ⟨76, _⟩ => ⟨S136x272, .f32⟩
  | .hbm, ⟨77, _⟩ => ⟨S136x272, .f32⟩
  | .hbm, ⟨78, _⟩ => ⟨S6x100x104x136, .f32⟩
  | .hbm, ⟨79, _⟩ => ⟨S6x100x272x208, .bf16⟩
  | .hbm, ⟨80, _⟩ => ⟨S6x100x136x104, .f32⟩
  | _, _ => ⟨S6x100x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Query.lean ====
abbrev S6x100x256 : Shape := ⟨3, ![6, 100, 256]⟩
abbrev S100x256 : Shape := ⟨2, ![100, 256]⟩
abbrev S6x100 : Shape := ⟨2, ![6, 100]⟩
abbrev S256x256 : Shape := ⟨2, ![256, 256]⟩
abbrev S256 : Shape := ⟨1, ![256]⟩
abbrev S256x2048 : Shape := ⟨2, ![256, 2048]⟩
abbrev S2048 : Shape := ⟨1, ![2048]⟩
abbrev S2048x256 : Shape := ⟨2, ![2048, 256]⟩
abbrev S256x134 : Shape := ⟨2, ![256, 134]⟩
abbrev S134 : Shape := ⟨1, ![134]⟩
abbrev S6x100x1 : Shape := ⟨3, ![6, 100, 1]⟩
abbrev S6x100x128 : Shape := ⟨3, ![6, 100, 128]⟩
abbrev S1x256 : Shape := ⟨2, ![1, 256]⟩
abbrev S1x2048 : Shape := ⟨2, ![1, 2048]⟩
abbrev S134x256 : Shape := ⟨2, ![134, 256]⟩
abbrev S1x134 : Shape := ⟨2, ![1, 134]⟩
abbrev S6x134x100 : Shape := ⟨3, ![6, 134, 100]⟩
abbrev S6x100x2048 : Shape := ⟨3, ![6, 100, 2048]⟩
abbrev S6x104x256 : Shape := ⟨3, ![6, 104, 256]⟩
abbrev S1x100x256 : Shape := ⟨3, ![1, 100, 256]⟩
abbrev S624x256 : Shape := ⟨2, ![624, 256]⟩
abbrev S624 : Shape := ⟨1, ![624]⟩
abbrev S624x1 : Shape := ⟨2, ![624, 1]⟩
abbrev S104x256 : Shape := ⟨2, ![104, 256]⟩
abbrev S832x104 : Shape := ⟨2, ![832, 104]⟩
abbrev S832x256 : Shape := ⟨2, ![832, 256]⟩
abbrev S832 : Shape := ⟨1, ![832]⟩
abbrev S832x1 : Shape := ⟨2, ![832, 1]⟩
abbrev S624x2048 : Shape := ⟨2, ![624, 2048]⟩
abbrev S100x2048 : Shape := ⟨2, ![100, 2048]⟩
abbrev S1x100x2048 : Shape := ⟨3, ![1, 100, 2048]⟩
abbrev S624x134 : Shape := ⟨2, ![624, 134]⟩
abbrev S104x134 : Shape := ⟨2, ![104, 134]⟩
abbrev S134x104 : Shape := ⟨2, ![134, 104]⟩
abbrev S134x100 : Shape := ⟨2, ![134, 100]⟩
abbrev S1x134x100 : Shape := ⟨3, ![1, 134, 100]⟩
abbrev S624x128 : Shape := ⟨2, ![624, 128]⟩
abbrev S100x128 : Shape := ⟨2, ![100, 128]⟩
abbrev S1x100x128 : Shape := ⟨3, ![1, 100, 128]⟩
abbrev S128x100 : Shape := ⟨2, ![128, 100]⟩
abbrev S1x100 : Shape := ⟨2, ![1, 100]⟩

abbrev nBuf : Space → Nat
  | .hbm => 100
  | .vmem => 69
  | .smem => 0
  | _ => 0

abbrev bufTy : (tb : Table) → Fin (tcTables nBuf tb) → BufTy
  | .hbm, ⟨0, _⟩ => ⟨S6x100x256, .bf16⟩
  | .hbm, ⟨1, _⟩ => ⟨S100x256, .f32⟩
  | .hbm, ⟨2, _⟩ => ⟨S6x100x256, .f32⟩
  | .hbm, ⟨3, _⟩ => ⟨S6x100, .f32⟩
  | .hbm, ⟨4, _⟩ => ⟨S256x256, .i8⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .i8⟩
  | .hbm, ⟨10, _⟩ => ⟨S256, .f32⟩
  | .hbm, ⟨11, _⟩ => ⟨S256, .f32⟩
  | .hbm, ⟨12, _⟩ => ⟨S256x256, .i8⟩
  | .hbm, ⟨13, _⟩ => ⟨S256, .f32⟩
  | .hbm, ⟨14, _⟩ => ⟨S256x256, .i8⟩
  | .hbm, ⟨15, _⟩ => ⟨S256, .f32⟩
  | .hbm, ⟨16, _⟩ => ⟨S256, .f32⟩
  | .hbm, ⟨17, _⟩ => ⟨S256x256, .i8⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x2048, .i8⟩
  | .hbm, ⟨23, _⟩ => ⟨S2048, .f32⟩
  | .hbm, ⟨24, _⟩ => ⟨S2048, .f32⟩
  | .hbm, ⟨25, _⟩ => ⟨S2048x256, .i8⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256x134, .i8⟩
  | .hbm, ⟨33, _⟩ => ⟨S134, .f32⟩
  | .hbm, ⟨34, _⟩ => ⟨S134, .f32⟩
  | .hbm, ⟨35, _⟩ => ⟨S256x256, .i8⟩
  | .hbm, ⟨36, _⟩ => ⟨S256, .f32⟩
  | .hbm, ⟨37, _⟩ => ⟨S256, .f32⟩
  | .hbm, ⟨38, _⟩ => ⟨S256x256, .i8⟩
  | .hbm, ⟨39, _⟩ => ⟨S256, .f32⟩
  | .hbm, ⟨40, _⟩ => ⟨S256, .f32⟩
  | .hbm, ⟨41, _⟩ => ⟨S256x256, .i8⟩
  | .hbm, ⟨42, _⟩ => ⟨S256, .f32⟩
  | .hbm, ⟨43, _⟩ => ⟨S256, .f32⟩
  | .hbm, ⟨44, _⟩ => ⟨S6x100x1, .f32⟩
  | .hbm, ⟨45, _⟩ => ⟨S6x100x128, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x2048, .f32⟩
  | .hbm, ⟨60, _⟩ => ⟨S1x2048, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S134x256, .i8⟩
  | .hbm, ⟨68, _⟩ => ⟨S1x134, .f32⟩
  | .hbm, ⟨69, _⟩ => ⟨S1x134, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S6x100x256, .bf16⟩
  | .hbm, ⟨77, _⟩ => ⟨S6x134x100, .f32⟩
  | .hbm, ⟨78, _⟩ => ⟨S6x100, .f32⟩
  | .hbm, ⟨79, _⟩ => ⟨S6x100x256, .i8⟩
  | .hbm, ⟨80, _⟩ => ⟨S6x100, .f32⟩
  | .hbm, ⟨81, _⟩ => ⟨S6x100x256, .i8⟩
  | .hbm, ⟨82, _⟩ => ⟨S6x100, .f32⟩
  | .hbm, ⟨83, _⟩ => ⟨S6x100x256, .i8⟩
  | .hbm, ⟨84, _⟩ => ⟨S6x100, .f32⟩
  | .hbm, ⟨85, _⟩ => ⟨S6x100x256, .i8⟩
  | .hbm, ⟨86, _⟩ => ⟨S6x100, .f32⟩
  | .hbm, ⟨87, _⟩ => ⟨S6x100x256, .i8⟩
  | .hbm, ⟨88, _⟩ => ⟨S6x100, .f32⟩
  | .hbm, ⟨89, _⟩ => ⟨S6x100x2048, .i8⟩
  | .hbm, ⟨90, _⟩ => ⟨S6x100, .f32⟩
  | .hbm, ⟨91, _⟩ => ⟨S6x100x256, .i8⟩
  | .hbm, ⟨92, _⟩ => ⟨S6x100, .f32⟩
  | .hbm, ⟨93, _⟩ => ⟨S6x100x256, .i8⟩
  | .hbm, ⟨94, _⟩ => ⟨S6x100, .f32⟩
  | .hbm, ⟨95, _⟩ => ⟨S6x100x256, .i8⟩
  | .hbm, ⟨96, _⟩ => ⟨S6x100, .f32⟩
  | .hbm, ⟨97, _⟩ => ⟨S6x100x256, .i8⟩
  | .hbm, ⟨98, _⟩ => ⟨S6x100, .f32⟩
  | .hbm, ⟨99, _⟩ => ⟨S6x100x128, .f32⟩
  | .local _ .vmem, ⟨0, _⟩ => ⟨S6x100x256, .bf16⟩
  | .local _ .vmem, ⟨1, _⟩ => ⟨S100x256, .f32⟩
  | .local _ .vmem, ⟨2, _⟩ => ⟨S6x100x256, .f32⟩
  | .local _ .vmem, ⟨3, _⟩ => ⟨S6x100x128, .f32⟩
  | .local _ .vmem, ⟨4, _⟩ => ⟨S256x256, .i8⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .i8⟩
  | .local _ .vmem, ⟨10, _⟩ => ⟨S1x256, .f32⟩
  | .local _ .vmem, ⟨11, _⟩ => ⟨S1x256, .f32⟩
  | .local _ .vmem, ⟨12, _⟩ => ⟨S256x256, .i8⟩
  | .local _ .vmem, ⟨13, _⟩ => ⟨S1x256, .f32⟩
  | .local _ .vmem, ⟨14, _⟩ => ⟨S256x256, .i8⟩
  | .local _ .vmem, ⟨15, _⟩ => ⟨S1x256, .f32⟩
  | .local _ .vmem, ⟨16, _⟩ => ⟨S1x256, .f32⟩
  | .local _ .vmem, ⟨17, _⟩ => ⟨S256x256, .i8⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x2048, .i8⟩
  | .local _ .vmem, ⟨23, _⟩ => ⟨S1x2048, .f32⟩
  | .local _ .vmem, ⟨24, _⟩ => ⟨S1x2048, .f32⟩
  | .local _ .vmem, ⟨25, _⟩ => ⟨S2048x256, .i8⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S134x256, .i8⟩
  | .local _ .vmem, ⟨33, _⟩ => ⟨S1x134, .f32⟩
  | .local _ .vmem, ⟨34, _⟩ => ⟨S1x134, .f32⟩
  | .local _ .vmem, ⟨35, _⟩ => ⟨S256x256, .i8⟩
  | .local _ .vmem, ⟨36, _⟩ => ⟨S1x256, .f32⟩
  | .local _ .vmem, ⟨37, _⟩ => ⟨S1x256, .f32⟩
  | .local _ .vmem, ⟨38, _⟩ => ⟨S256x256, .i8⟩
  | .local _ .vmem, ⟨39, _⟩ => ⟨S1x256, .f32⟩
  | .local _ .vmem, ⟨40, _⟩ => ⟨S1x256, .f32⟩
  | .local _ .vmem, ⟨41, _⟩ => ⟨S256x256, .i8⟩
  | .local _ .vmem, ⟨42, _⟩ => ⟨S1x256, .f32⟩
  | .local _ .vmem, ⟨43, _⟩ => ⟨S1x256, .f32⟩
  | .local _ .vmem, ⟨44, _⟩ => ⟨S6x100x256, .bf16⟩
  | .local _ .vmem, ⟨45, _⟩ => ⟨S6x134x100, .f32⟩
  | .local _ .vmem, ⟨46, _⟩ => ⟨S6x100, .f32⟩
  | .local _ .vmem, ⟨47, _⟩ => ⟨S6x100x256, .i8⟩
  | .local _ .vmem, ⟨48, _⟩ => ⟨S6x100, .f32⟩
  | .local _ .vmem, ⟨49, _⟩ => ⟨S6x100x256, .i8⟩
  | .local _ .vmem, ⟨50, _⟩ => ⟨S6x100, .f32⟩
  | .local _ .vmem, ⟨51, _⟩ => ⟨S6x100x256, .i8⟩
  | .local _ .vmem, ⟨52, _⟩ => ⟨S6x100, .f32⟩
  | .local _ .vmem, ⟨53, _⟩ => ⟨S6x100x256, .i8⟩
  | .local _ .vmem, ⟨54, _⟩ => ⟨S6x100, .f32⟩
  | .local _ .vmem, ⟨55, _⟩ => ⟨S6x100x256, .i8⟩
  | .local _ .vmem, ⟨56, _⟩ => ⟨S6x100, .f32⟩
  | .local _ .vmem, ⟨57, _⟩ => ⟨S6x100x2048, .i8⟩
  | .local _ .vmem, ⟨58, _⟩ => ⟨S6x100, .f32⟩
  | .local _ .vmem, ⟨59, _⟩ => ⟨S6x100x256, .i8⟩
  | .local _ .vmem, ⟨60, _⟩ => ⟨S6x100, .f32⟩
  | .local _ .vmem, ⟨61, _⟩ => ⟨S6x100x256, .i8⟩
  | .local _ .vmem, ⟨62, _⟩ => ⟨S6x100, .f32⟩
  | .local _ .vmem, ⟨63, _⟩ => ⟨S6x100x256, .i8⟩
  | .local _ .vmem, ⟨64, _⟩ => ⟨S6x100, .f32⟩
  | .local _ .vmem, ⟨65, _⟩ => ⟨S6x100x256, .i8⟩
  | .local _ .vmem, ⟨66, _⟩ => ⟨S6x100, .f32⟩
  | .local _ .vmem, ⟨67, _⟩ => ⟨S6x100x128, .f32⟩
  | .local _ .vmem, ⟨68, _⟩ => ⟨S6x104x256, .f32⟩
  | _, _ => ⟨S6x100x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32_0 : Ref sig .tc := ⟨.hbm, 76, rfl⟩
abbrev main_v32_1 : Ref sig .tc := ⟨.hbm, 77, rfl⟩
abbrev main_v32_2 : Ref sig .tc := ⟨.hbm, 78, rfl⟩
abbrev main_v32_3 : Ref sig .tc := ⟨.hbm, 79, rfl⟩
abbrev main_v32_4 : Ref sig .tc := ⟨.hbm, 80, rfl⟩
abbrev main_v32_5 : Ref sig .tc := ⟨.hbm, 81, rfl⟩
abbrev main_v32_6 : Ref sig .tc := ⟨.hbm, 82, rfl⟩
abbrev main_v32_7 : Ref sig .tc := ⟨.hbm, 83, rfl⟩
abbrev main_v32_8 : Ref sig .tc := ⟨.hbm, 84, rfl⟩
abbrev main_v32_9 : Ref sig .tc := ⟨.hbm, 85, rfl⟩
abbrev main_v32_10 : Ref sig .tc := ⟨.hbm, 86, rfl⟩
abbrev main_v32_11 : Ref sig .tc := ⟨.hbm, 87, rfl⟩
abbrev main_v32_12 : Ref sig .tc := ⟨.hbm, 88, rfl⟩
abbrev main_v32_13 : Ref sig .tc := ⟨.hbm, 89, rfl⟩
abbrev main_v32_14 : Ref sig .tc := ⟨.hbm, 90, rfl⟩
abbrev main_v32_15 : Ref sig .tc := ⟨.hbm, 91, rfl⟩
abbrev main_v32_16 : Ref sig .tc := ⟨.hbm, 92, rfl⟩
abbrev main_v32_17 : Ref sig .tc := ⟨.hbm, 93, rfl⟩
abbrev main_v32_18 : Ref sig .tc := ⟨.hbm, 94, rfl⟩
abbrev main_v32_19 : Ref sig .tc := ⟨.hbm, 95, rfl⟩
abbrev main_v32_20 : Ref sig .tc := ⟨.hbm, 96, rfl⟩
abbrev main_v32_21 : Ref sig .tc := ⟨.hbm, 97, rfl⟩
abbrev main_v32_22 : Ref sig .tc := ⟨.hbm, 98, rfl⟩
abbrev main_v32_23 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_scratch0 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67

abbrev nD : Nat := 1
abbrev τ : Topo := Topo.v7x

variable {F : FTy → Type} [FloatOps F]

abbrev grid0 : Pipeline.Grid := .none

abbrev stage0_0 : Fin 1 → Memref sig .tc .vmem S6x100x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x256 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x256 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x256 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x2048 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2048x256 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S134x256 .i8 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x134 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x134 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S256x256 .i8 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S256x256 .i8 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x256 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S256x256 .i8 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x256 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x256 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S6x100x256 .bf16 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S6x134x100 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S6x100 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S6x100x256 .i8 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S6x100 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S6x100x256 .i8 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S6x100 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S6x100x256 .i8 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S6x100 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S6x100x256 .i8 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S6x100 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S6x100x256 .i8 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S6x100 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S6x100x2048 .i8 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S6x100 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S6x100x256 .i8 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S6x100 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S6x100x256 .i8 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S6x100 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S6x100x256 .i8 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S6x100 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S6x100x256 .i8 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S6x100 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S6x100x128 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))
-- ==== QueryReferenceIdeal.lean ====
abbrev S6x100x256 : Shape := ⟨3, ![6, 100, 256]⟩
abbrev S100x256 : Shape := ⟨2, ![100, 256]⟩
abbrev S6x100 : Shape := ⟨2, ![6, 100]⟩
abbrev S256x256 : Shape := ⟨2, ![256, 256]⟩
abbrev S256 : Shape := ⟨1, ![256]⟩
abbrev S256x2048 : Shape := ⟨2, ![256, 2048]⟩
abbrev S2048 : Shape := ⟨1, ![2048]⟩
abbrev S2048x256 : Shape := ⟨2, ![2048, 256]⟩
abbrev S256x134 : Shape := ⟨2, ![256, 134]⟩
abbrev S134 : Shape := ⟨1, ![134]⟩
abbrev S_ : Shape := ⟨0, ![]⟩
abbrev S6x100x1 : Shape := ⟨3, ![6, 100, 1]⟩
abbrev S1x1x256 : Shape := ⟨3, ![1, 1, 256]⟩
abbrev S1x100x256 : Shape := ⟨3, ![1, 100, 256]⟩

abbrev nBuf : Space → Nat
  | .hbm => 173
  | .vmem => 0
  | .smem => 0
  | _ => 0

abbrev hbmTy0_0 (i : Nat) : BufTy := match i % 128 with
  | 0 => ⟨S6x100x256, .bf16⟩
  | 1 => ⟨S100x256, .f32⟩
  | 2 => ⟨S6x100x256, .f32⟩
  | 3 => ⟨S6x100, .f32⟩
  | 4 => ⟨S256x256, .i8⟩
  | 5 => ⟨S256, .f32⟩
  | 6 => ⟨S256, .f32⟩
  | 7 => ⟨S256, .f32⟩
  | 8 => ⟨S256, .f32⟩
  | 9 => ⟨S256x256, .i8⟩
  | 10 => ⟨S256, .f32⟩
  | 11 => ⟨S256, .f32⟩
  | 12 => ⟨S256x256, .i8⟩
  | 13 => ⟨S256, .f32⟩
  | 14 => ⟨S256x256, .i8⟩
  | 15 => ⟨S256, .f32⟩
  | 16 => ⟨S256, .f32⟩
  | 17 => ⟨S256x256, .i8⟩
  | 18 => ⟨S256, .f32⟩
  | 19 => ⟨S256, .f32⟩
  | 20 => ⟨S256, .f32⟩
  | 21 => ⟨S256, .f32⟩
  | 22 => ⟨S256x2048, .i8⟩
  | 23 => ⟨S2048, .f32⟩
  | 24 => ⟨S2048, .f32⟩
  | 25 => ⟨S2048x256, .i8⟩
  | 26 => ⟨S256, .f32⟩
  | 27 => ⟨S256, .f32⟩
  | 28 => ⟨S256, .f32⟩
  | 29 => ⟨S256, .f32⟩
  | 30 => ⟨S256, .f32⟩
  | 31 => ⟨S256, .f32⟩
  | 32 => ⟨S256x134, .i8⟩
  | 33 => ⟨S134, .f32⟩
  | 34 => ⟨S134, .f32⟩
  | 35 => ⟨S256x256, .i8⟩
  | 36 => ⟨S256, .f32⟩
  | 37 => ⟨S256, .f32⟩
  | 38 => ⟨S256x256, .i8⟩
  | 39 => ⟨S256, .f32⟩
  | 40 => ⟨S256, .f32⟩
  | 41 => ⟨S256x256, .i8⟩
  | 42 => ⟨S256, .f32⟩
  | 43 => ⟨S256, .f32⟩
  | 44 => ⟨S6x100x256, .f32⟩
  | 45 => ⟨S6x100x256, .f32⟩
  | 46 => ⟨S_, .f32⟩
  | 47 => ⟨S6x100, .f32⟩
  | 48 => ⟨S_, .f32⟩
  | 49 => ⟨S6x100, .f32⟩
  | 50 => ⟨S6x100, .i1⟩
  | 51 => ⟨S_, .f32⟩
  | 52 => ⟨S6x100, .f32⟩
  | 53 => ⟨S6x100, .f32⟩
  | 54 => ⟨S_, .f32⟩
  | 55 => ⟨S_, .f32⟩
  | 56 => ⟨S6x100, .f32⟩
  | 57 => ⟨S6x100, .f32⟩
  | 58 => ⟨S6x100x1, .f32⟩
  | 59 => ⟨S6x100x256, .f32⟩
  | 60 => ⟨S6x100x256, .f32⟩
  | 61 => ⟨S6x100x256, .f32⟩
  | 62 => ⟨S_, .i32⟩
  | 63 => ⟨S_, .i32⟩
  | 64 => ⟨S_, .f32⟩
  | 65 => ⟨S6x100x256, .f32⟩
  | 66 => ⟨S6x100x256, .f32⟩
  | 67 => ⟨S_, .f32⟩
  | 68 => ⟨S6x100x256, .f32⟩
  | 69 => ⟨S6x100x256, .f32⟩
  | 70 => ⟨S6x100x256, .i32⟩
  | 71 => ⟨S6x100x256, .i8⟩
  | 72 => ⟨S6x100x256, .i32⟩
  | 73 => ⟨S6x100x256, .f32⟩
  | 74 => ⟨S6x100x256, .bf16⟩
  | 75 => ⟨S256x256, .i32⟩
  | 76 => ⟨S256x256, .f32⟩
  | 77 => ⟨S256x256, .bf16⟩
  | 78 => ⟨S6x100x256, .f32⟩
  | 79 => ⟨S6x100x1, .f32⟩
  | 80 => ⟨S6x100x256, .f32⟩
  | 81 => ⟨S6x100x256, .f32⟩
  | 82 => ⟨S1x1x256, .f32⟩
  | 83 => ⟨S6x100x256, .f32⟩
  | 84 => ⟨S6x100x256, .f32⟩
  | 85 => ⟨S1x1x256, .f32⟩
  | 86 => ⟨S6x100x256, .f32⟩
  | 87 => ⟨S6x100x256, .f32⟩
  | 88 => ⟨S6x100x256, .f32⟩
  | 89 => ⟨S_, .f32⟩
  | 90 => ⟨S6x100, .f32⟩
  | 91 => ⟨S6x100x1, .f32⟩
  | 92 => ⟨S_, .f32⟩
  | 93 => ⟨S6x100x1, .f32⟩
  | 94 => ⟨S6x100x1, .f32⟩
  | 95 => ⟨S6x100x256, .f32⟩
  | 96 => ⟨S6x100x256, .f32⟩
  | 97 => ⟨S6x100x256, .f32⟩
  | 98 => ⟨S_, .f32⟩
  | 99 => ⟨S6x100, .f32⟩
  | 100 => ⟨S6x100x1, .f32⟩
  | 101 => ⟨S_, .f32⟩
  | 102 => ⟨S6x100x1, .f32⟩
  | 103 => ⟨S6x100x1, .f32⟩
  | 104 => ⟨S_, .f32⟩
  | 105 => ⟨S6x100x1, .f32⟩
  | 106 => ⟨S6x100x1, .f32⟩
  | 107 => ⟨S6x100x1, .f32⟩
  | 108 => ⟨S6x100x256, .f32⟩
  | 109 => ⟨S6x100x256, .f32⟩
  | 110 => ⟨S1x1x256, .f32⟩
  | 111 => ⟨S6x100x256, .f32⟩
  | 112 => ⟨S6x100x256, .f32⟩
  | 113 => ⟨S1x1x256, .f32⟩
  | 114 => ⟨S6x100x256, .f32⟩
  | 115 => ⟨S6x100x256, .f32⟩
  | 116 => ⟨S1x100x256, .f32⟩
  | 117 => ⟨S6x100x256, .f32⟩
  | 118 => ⟨S6x100x256, .f32⟩
  | 119 => ⟨S6x100x256, .f32⟩
  | 120 => ⟨S_, .f32⟩
  | 121 => ⟨S6x100, .f32⟩
  | 122 => ⟨S_, .f32⟩
  | 123 => ⟨S6x100, .f32⟩
  | 124 => ⟨S6x100, .i1⟩
  | 125 => ⟨S_, .f32⟩
  | 126 => ⟨S6x100, .f32⟩
  | 127 => ⟨S6x100, .f32⟩
  | _ => ⟨S6x100x256, .bf16⟩

abbrev hbmTy0_1 (i : Nat) : BufTy := match i % 128 with
  | 0 => ⟨S_, .f32⟩
  | 1 => ⟨S_, .f32⟩
  | 2 => ⟨S6x100, .f32⟩
  | 3 => ⟨S6x100, .f32⟩
  | 4 => ⟨S6x100x1, .f32⟩
  | 5 => ⟨S6x100x256, .f32⟩
  | 6 => ⟨S6x100x256, .f32⟩
  | 7 => ⟨S6x100x256, .f32⟩
  | 8 => ⟨S_, .i32⟩
  | 9 => ⟨S_, .i32⟩
  | 10 => ⟨S_, .f32⟩
  | 11 => ⟨S6x100x256, .f32⟩
  | 12 => ⟨S6x100x256, .f32⟩
  | 13 => ⟨S_, .f32⟩
  | 14 => ⟨S6x100x256, .f32⟩
  | 15 => ⟨S6x100x256, .f32⟩
  | 16 => ⟨S6x100x256, .i32⟩
  | 17 => ⟨S6x100x256, .i8⟩
  | 18 => ⟨S6x100x256, .f32⟩
  | 19 => ⟨S_, .f32⟩
  | 20 => ⟨S6x100, .f32⟩
  | 21 => ⟨S_, .f32⟩
  | 22 => ⟨S6x100, .f32⟩
  | 23 => ⟨S6x100, .i1⟩
  | 24 => ⟨S_, .f32⟩
  | 25 => ⟨S6x100, .f32⟩
  | 26 => ⟨S6x100, .f32⟩
  | 27 => ⟨S_, .f32⟩
  | 28 => ⟨S_, .f32⟩
  | 29 => ⟨S6x100, .f32⟩
  | 30 => ⟨S6x100, .f32⟩
  | 31 => ⟨S6x100x1, .f32⟩
  | 32 => ⟨S6x100x256, .f32⟩
  | 33 => ⟨S6x100x256, .f32⟩
  | 34 => ⟨S6x100x256, .f32⟩
  | 35 => ⟨S_, .i32⟩
  | 36 => ⟨S_, .i32⟩
  | 37 => ⟨S_, .f32⟩
  | 38 => ⟨S6x100x256, .f32⟩
  | 39 => ⟨S6x100x256, .f32⟩
  | 40 => ⟨S_, .f32⟩
  | 41 => ⟨S6x100x256, .f32⟩
  | 42 => ⟨S6x100x256, .f32⟩
  | 43 => ⟨S6x100x256, .i32⟩
  | 44 => ⟨S6x100x256, .i8⟩
  | _ => ⟨S6x100x256, .bf16⟩

abbrev hbmTy (i : Nat) : BufTy := match i / 128 with
  | 0 => hbmTy0_0 i
  | 1 => hbmTy0_1 i
  | _ => ⟨S6x100x256, .bf16⟩

abbrev bufTy : (tb : Table) → Fin (tcTables nBuf tb) → BufTy
  | .hbm, ⟨i, _⟩ => hbmTy i
  | _, _ => ⟨S6x100x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_cst : Ref sig .tc := ⟨.hbm, 46, rfl⟩
abbrev main_v2 : Ref sig .tc := ⟨.hbm, 47, rfl⟩
abbrev main_cst_0 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c : Ref sig .tc := ⟨.hbm, 62, rfl⟩
abbrev main_c_3 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_4 : Ref sig .tc := ⟨.hbm, 89, rfl⟩
abbrev main_v32 : Ref sig .tc := ⟨.hbm, 90, rfl⟩
abbrev main_v33 : Ref sig .tc := ⟨.hbm, 91, rfl⟩
abbrev main_cst_5 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_6 : Ref sig .tc := ⟨.hbm, 98, rfl⟩
abbrev main_v39 : Ref sig .tc := ⟨.hbm, 99, rfl⟩
abbrev main_v40 : Ref sig .tc := ⟨.hbm, 100, rfl⟩
abbrev main_cst_7 : Ref sig .tc := ⟨.hbm, 101, rfl⟩
abbrev main_v41 : Ref sig .tc := ⟨.hbm, 102, rfl⟩
abbrev main_v42 : Ref sig .tc := ⟨.hbm, 103, rfl⟩
abbrev main_cst_8 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_9 : Ref sig .tc := ⟨.hbm, 120, rfl⟩
abbrev main_v58 : Ref sig .tc := ⟨.hbm, 121, rfl⟩
abbrev main_cst_10 : Ref sig .tc := ⟨.hbm, 122, rfl⟩
abbrev main_v59 : Ref sig .tc := ⟨.hbm, 123, rfl⟩
abbrev main_v60 : Ref sig .tc := ⟨.hbm, 124, rfl⟩
abbrev main_cst_11 : Ref sig .tc := ⟨.hbm, 125, rfl⟩
abbrev main_v61 : Ref sig .tc := ⟨.hbm, 126, rfl⟩
abbrev main_v62 : Ref sig .tc := ⟨.hbm, 127, rfl⟩
abbrev main_cst_12 : Ref sig .tc := ⟨.hbm, 128, rfl⟩
abbrev main_call3_v0 : Ref sig .tc := ⟨.hbm, 129, rfl⟩
abbrev main_call3_v1 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_c_13 : Ref sig .tc := ⟨.hbm, 136, rfl⟩
abbrev main_c_14 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_cst_15 : Ref sig .tc := ⟨.hbm, 147, rfl⟩
abbrev main_v72 : Ref sig .tc := ⟨.hbm, 148, rfl⟩
abbrev main_cst_16 : Ref sig .tc := ⟨.hbm, 149, rfl⟩
abbrev main_v73 : Ref sig .tc := ⟨.hbm, 150, rfl⟩
abbrev main_v74 : Ref sig .tc := ⟨.hbm, 151, rfl⟩
abbrev main_cst_17 : Ref sig .tc := ⟨.hbm, 152, rfl⟩
abbrev main_v75 : Ref sig .tc := ⟨.hbm, 153, rfl⟩
abbrev main_v76 : Ref sig .tc := ⟨.hbm, 154, rfl⟩
abbrev main_cst_18 : Ref sig .tc := ⟨.hbm, 155, rfl⟩
abbrev main_call6_v0 : Ref sig .tc := ⟨.hbm, 156, rfl⟩
abbrev main_call6_v1 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_c_19 : Ref sig .tc := ⟨.hbm, 163, rfl⟩
abbrev main_c_20 : Ref sig .tc := ⟨.hbm, 164, rfl⟩
abbrev main_call8_v0 : Ref sig .tc := ⟨.hbm, 165, rfl⟩
abbrev main_call8_v1 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩

abbrev nD : Nat := 1
abbrev τ : Topo := Topo.v7x

variable {F : FTy → Type} [FloatOps F]
-- ==== Proof.Claims.lean ====
/- The frames of the three programs and the `preserves` claim. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof.MaskClaims

/-- The kernel as printed terminates without a fault, keeps its arguments, and leaves every semaphore at zero. -/
theorem frame_p [Cert.Kernel.Facts] : Cert.quiescent_Kernel := fun m ρ _ => Cert.Kernel.Gen.frame m ρ
/-- The same of the kernel over the extended reals. -/
theorem frame_pi [Cert.KernelIdeal.Facts] : Cert.quiescent_KernelIdeal := fun m ρ _ => Cert.KernelIdeal.Gen.frame m ρ
/-- The same of the reference over the extended reals: its run names the results and keeps the arguments; it has no semaphores. -/
theorem frame_ri [Cert.ReferenceIdeal.Facts] : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The five distinct statements of the rewrites: the scratch of packed words kept as a buffer of bf16 pairs; the pack of two
    f32 vectors; the strided stores of a row of pairs, the loads of eight rows of pairs, and the pairs read as sixteen rows. -/
theorem preserves : Cert.preserves_Kernel_KernelIdeal :=
  open Cert.KernelIdeal IdealRules.bf16_pair in
  ⟨bufferStatement S2x936x2x128 S2x936x1x128, packStatement S100x256, statement S1x100x2x128 S1x100x1x128,
    statement S1x8x2x128 S1x8x1x128, statement S16x128 S8x128⟩

end Cert.Proof.MaskClaims

end
-- ==== Proof.Bytes.lean ====
module

public import Idealize.ShloMosaic.Lib.BitcastPair
public import Idealize.ShloMosaic.Lib.BitcastFour
public import Idealize.ShloMosaic.Lib.Pointwise

/-! Vectors of words cut into bytes, read bit by bit. -/

@[expose] public section

noncomputable section

open Idealize.ShloMosaic

namespace Cert.Proof.Bytes

variable {n : Nat}

/-- A rank-two shape of `m` rows of 128 lanes. -/
abbrev R (m : Nat) : Shape := ⟨2, ![m, 128]⟩

/-- Rank-2 `bitcast`, narrowing: bit `q` of result row `p` is bit `q'` of source row `r`. -/
theorem bitcast_bit {v w : Nat} {m k : Nat} (x : IVec (R m) v) (h : (R m).Bitcasts v (R k) w) (a : Fin k) (l : Fin 128) (q : Nat) (hq : q < w)
    (hv : 0 < v) (r : Fin m) (q' : Nat) (e : a.val * w + q = r.val * v + q') (hq' : q' < v) :
    (bitcast (R k) w x h (ix2 a l)).getLsbD q = (x (ix2 r l)).getLsbD q' := by
  have hrow : (R k).row (ix2 a l) = a.val := rfl
  have e1 : ((R k).row (ix2 a l) * w + q) / v = r.val := by
    rw [hrow, e, Nat.mul_comm, Nat.mul_add_div hv, Nat.div_eq_of_lt hq', Nat.add_zero]
  have e2 : ((R k).row (ix2 a l) * w + q) % v = q' := by
    rw [hrow, e, Nat.mul_comm, Nat.mul_add_mod, Nat.mod_eq_of_lt hq']
  rw [bitcast_getLsbD x h _ q hq hv, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The low byte of `u` below the low byte of `v`, bit by bit. -/
theorem mix_bit (u v : BitVec 16) (i : Nat) (hi : i < 16) :
    (IntOp.ori (IntOp.andi u 255#16) (IntOp.shli ArithUnit.vector v 8#16)).getLsbD i
      = if i < 8 then u.getLsbD i else v.getLsbD (i - 8) := by
  have e : IntOp.ori (IntOp.andi u 255#16) (IntOp.shli ArithUnit.vector v 8#16) = (u &&& 255#16) ||| (v <<< 8) := rfl
  have h255 : (255#16 : BitVec 16).getLsbD i = decide (i < 8) := by interval_cases i <;> rfl
  rw [e, BitVec.getLsbD_or, BitVec.getLsbD_and, BitVec.getLsbD_shiftLeft, h255]
  by_cases h : i < 8 <;> simp [h, hi]

/-- Two vectors of words cut into 16-bit halves, the low byte of each half of `a` below the low byte of the same half of
    `b`, and the bytes laid out as rows: rows 4r, 4r+1, 4r+2, 4r+3 are bytes 0 of a, 0 of b, 2 of a, 2 of b in row r. -/
def pack8 {n n2 n4 : Nat} (a b : IVec (R n) 32) (h1 : (R n).Bitcasts 32 (R n2) 16) (h2 : (R n2).Bitcasts 16 (R n) 32)
    (h3 : (R n).Bitcasts 32 (R n4) 8) : IVec (R n4) 8 :=
  bitcast (R n4) 8 (bitcast (R n) 32 (ori (andi (bitcast (R n2) 16 a h1) (broadcast (R n2) 255#16))
    (shli (bitcast (R n2) 16 b h1) (broadcast (R n2) 8#16))) h2) h3

/-- The bit read of `pack8`: bit `q` of row `4r + 2p + s` is bit `16p + q` of row `r` of the `s`-th operand. -/
theorem pack8_bit {n n2 n4 : Nat} (a b : IVec (R n) 32) (h1 : (R n).Bitcasts 32 (R n2) 16) (h2 : (R n2).Bitcasts 16 (R n) 32)
    (h3 : (R n).Bitcasts 32 (R n4) 8) (hn2 : n2 = 2 * n) (y : Fin n4) (l : Fin 128) (r : Fin n) (p s : Fin 2)
    (hy : y.val = 4 * r.val + 2 * p.val + s.val) (q : Nat) (hq : q < 8) :
    (pack8 a b h1 h2 h3 (ix2 y l)).getLsbD q
      = ((if s = 0 then a else b) (ix2 r l)).getLsbD (16 * p.val + q) := by
  have hr := r.isLt
  have hp := p.isLt
  have hs := s.isLt
  unfold pack8
  rw [bitcast_bit _ h3 y l q hq (by decide) r (16 * p.val + 8 * s.val + q) (by omega) (by omega)]
  rw [bitcast_bit _ h2 r l (16 * p.val + 8 * s.val + q) (by omega) (by decide) ⟨2 * r.val + p.val, by omega⟩ (8 * s.val + q) (by show _ = (2 * r.val + p.val) * 16 + _; omega) (by omega)]
  have ha : ∀ (x : IVec (R n) 32) (q' : Nat), q' < 16 → (bitcast (R n2) 16 x h1 (ix2 (⟨2 * r.val + p.val, by omega⟩ : Fin n2) l)).getLsbD q'
      = (x (ix2 r l)).getLsbD (16 * p.val + q') := fun x q' hq' =>
    bitcast_bit _ h1 ⟨2 * r.val + p.val, by omega⟩ l q' hq' (by decide) r (16 * p.val + q') (by show (2 * r.val + p.val) * 16 + _ = _; omega) (by omega)
  pointwise
  rw [mix_bit]
  rcases (by omega : s.val = 0 ∨ s.val = 1) with h0 | h0
  · obtain rfl : s = 0 := Fin.ext h0
    rw [if_pos (show 8 * (0 : Fin 2).val + q < 8 by show 8 * 0 + q < 8; omega), if_pos rfl, ha _ _ (by show 8 * 0 + q < 16; omega)]
    congr 1; show 16 * p.val + (8 * 0 + q) = _; omega
  · obtain rfl : s = 1 := Fin.ext h0
    rw [if_neg (show ¬ 8 * (1 : Fin 2).val + q < 8 by show ¬ 8 * 1 + q < 8; omega), if_neg (by decide), ha _ _ (by show 8 * 1 + q - 8 < 16; omega)]
    congr 1; show 16 * p.val + (8 * 1 + q - 8) = _; omega
  · show 8 * s.val + q < 16; omega

/-- Bit `i` of a word moved right by `k` places. -/
theorem shr_bit (v : BitVec 32) (k : Nat) (hk : k < 32) (i : Nat) :
    (IntOp.shrui ArithUnit.vector v (BitVec.ofNat 32 k)).getLsbD i = v.getLsbD (k + i) := by
  have e : IntOp.shrui ArithUnit.vector v (BitVec.ofNat 32 k) = v >>> k := by
    unfold IntOp.shrui
    simp [hk, Nat.mod_eq_of_lt (show k < 4294967296 by omega)]
  rw [e, BitVec.getLsbD_ushiftRight]

/-- Bit `i` of two words packed into the halves of one. -/
theorem pack16_bit (u v : BitVec 32) (i : Nat) (hi : i < 32) :
    (v.setWidth 16 ++ u.setWidth 16 : BitVec 32).getLsbD i = if i < 16 then u.getLsbD i else v.getLsbD (i - 16) := by
  rw [BitVec.getLsbD_append]
  by_cases h : i < 16
  · simp [h]
  · have : i - 16 < 16 := by omega
    simp [h, this]

/-- Four blocks of words turned into four blocks of byte rows: block `k` of the result holds byte `k` of every word, the
    rows of the four operands interleaved (row `4r + j` is row `r` of operand `j`). -/
def quad {n n2 n4 : Nat} (x0 x1 x2 x3 : IVec (R n) 32) (h1 : (R n).Bitcasts 32 (R n2) 16) (h2 : (R n2).Bitcasts 16 (R n) 32)
    (h3 : (R n).Bitcasts 32 (R n4) 8) : Fin 4 → IVec (R n4) 8
  | 0 => pack8 (packElementwiseI16 x0 x2) (packElementwiseI16 x1 x3) h1 h2 h3
  | 1 => pack8 (shrui (packElementwiseI16 x0 x2) (broadcast (R n) 8#32)) (shrui (packElementwiseI16 x1 x3) (broadcast (R n) 8#32)) h1 h2 h3
  | 2 => pack8 (packElementwiseI16 (shrui x0 (broadcast (R n) 16#32)) (shrui x2 (broadcast (R n) 16#32)))
      (packElementwiseI16 (shrui x1 (broadcast (R n) 16#32)) (shrui x3 (broadcast (R n) 16#32))) h1 h2 h3
  | 3 => pack8 (shrui (packElementwiseI16 (shrui x0 (broadcast (R n) 16#32)) (shrui x2 (broadcast (R n) 16#32))) (broadcast (R n) 8#32))
      (shrui (packElementwiseI16 (shrui x1 (broadcast (R n) 16#32)) (shrui x3 (broadcast (R n) 16#32))) (broadcast (R n) 8#32)) h1 h2 h3

/-- The bit read of `quad`: bit `q` of row `4r + j` of block `k` is bit `8k + q` of row `r` of operand `j`. -/
theorem quad_bit {n n2 n4 : Nat} (x : Fin 4 → IVec (R n) 32) (h1 : (R n).Bitcasts 32 (R n2) 16) (h2 : (R n2).Bitcasts 16 (R n) 32)
    (h3 : (R n).Bitcasts 32 (R n4) 8) (hn2 : n2 = 2 * n) (k : Fin 4) (y : Fin n4) (l : Fin 128) (r : Fin n) (j : Fin 4)
    (hy : y.val = 4 * r.val + j.val) (q : Nat) (hq : q < 8) :
    (quad (x 0) (x 1) (x 2) (x 3) h1 h2 h3 k (ix2 y l)).getLsbD q = (x j (ix2 r l)).getLsbD (8 * k.val + q) := by
  have hpack : ∀ (u v : IVec (R n) 32) (i : (R n).Idx) (b : Nat), b < 32 →
      (packElementwiseI16 u v i).getLsbD b = if b < 16 then (u i).getLsbD b else (v i).getLsbD (b - 16) := fun u v i b hb => by
    rw [packElementwiseI16_apply, pack16_bit _ _ _ hb]
  have hshr : ∀ (u : IVec (R n) 32) (i : (R n).Idx) (s b : Nat), s < 32 →
      (shrui u (broadcast (R n) (BitVec.ofNat 32 s)) i).getLsbD b = (u i).getLsbD (s + b) := fun u i s b hs => by
    exact shr_bit (u i) s hs b
  have h := fun (a b : IVec (R n) 32) (p s : Fin 2) (e : y.val = 4 * r.val + 2 * p.val + s.val) =>
    pack8_bit a b h1 h2 h3 hn2 y l r p s e q hq
  fin_cases j <;> [have h := fun a b => h a b 0 0 (by simpa using hy); have h := fun a b => h a b 0 1 (by simpa using hy);
      have h := fun a b => h a b 1 0 (by simpa using hy); have h := fun a b => h a b 1 1 (by simpa [Nat.add_assoc] using hy)] <;>
    fin_cases k <;> simp only [quad] <;>
    · refine (h _ _).trans ?_
      simp only [Fin.zero_eta, Fin.mk_one, Fin.reduceFinMk, if_true, if_false, Fin.isValue, one_ne_zero, ↓reduceIte, Fin.val_zero, Fin.val_one]
      repeat first
        | rw [hshr _ _ _ _ (by decide)]
        | (rw [hpack _ _ _ _ (by omega)]; first | rw [if_pos (by omega)] | rw [if_neg (by omega)])
      all_goals (congr 1; try omega)

end Cert.Proof.Bytes

end
-- ==== Proof.Tile.lean ====
module

public import proofs.«01_k».proof.Proof.Gen.KernelIdeal
public import proofs.«01_k».proof.Proof.Bytes

/-! The mask kernel's values, written once: the pixel rows cut out of the packed feature blocks, one output tile (a
    matrix product scaled by row and by column), the stored pair of tiles and the stored down-sampled rows. -/

@[expose] public section

noncomputable section

open Idealize.ShloMosaic

namespace Cert.Proof.Tile

open Cert.KernelIdeal Cert.KernelIdeal.Gen Cert.Proof.Bytes

variable {F : FTy → Type} [FloatOps F]

/-- Eight rows of words: sub-row `s` of rows `m … m+7`. -/
def row8 (w : IVec S52x8x128 32) (m s : Nat) (h : S52x8x128.Slices ![m, s, 0] S8x1x128) : IVec S8x128 32 :=
  shapeCast S8x128 (extractStridedSlice S8x1x128 ![m, s, 0] w h) shapeCasts_S8x1x128_S8x128

/-- Four rows of words: sub-row `s` of rows `m … m+3`. -/
def row4 (w : IVec S52x8x128 32) (m s : Nat) (h : S52x8x128.Slices ![m, s, 0] S4x1x128) : IVec S4x128 32 :=
  shapeCast S4x128 (extractStridedSlice S4x1x128 ![m, s, 0] w h) shapeCasts_S4x1x128_S4x128

theorem slices8 (m s : Nat) (hm : m + 8 ≤ 52) (hs : s + 1 ≤ 8) : S52x8x128.Slices ![m, s, 0] S8x1x128 :=
  ⟨rfl, fun a => by
    match a with
    | ⟨0, _⟩ => exact hm
    | ⟨1, _⟩ => exact hs
    | ⟨2, _⟩ => exact Nat.le_refl 128⟩

theorem slices4 (m s : Nat) (hm : m + 4 ≤ 52) (hs : s + 1 ≤ 8) : S52x8x128.Slices ![m, s, 0] S4x1x128 :=
  ⟨rfl, fun a => by
    match a with
    | ⟨0, _⟩ => exact hm
    | ⟨1, _⟩ => exact hs
    | ⟨2, _⟩ => exact Nat.le_refl 128⟩

/-- Thirty-two pixel rows as bf16: byte `k` of the words in half `g` of rows `m … m+7`. -/
def piece32 (w : IVec S52x8x128 32) (g : Fin 2) (k : Fin 4) (m : Nat) (hm : m + 8 ≤ 52) : FVec F S32x128 .bf16 :=
  sitofp .bf16 (quad (n := 8) (n2 := 16) (n4 := 32) (row8 w m (0 + g.val) (slices8 _ _ hm (by omega))) (row8 w m (2 + g.val) (slices8 _ _ hm (by omega)))
    (row8 w m (4 + g.val) (slices8 _ _ hm (by omega))) (row8 w m (6 + g.val) (slices8 _ _ hm (by omega)))
    bitcasts_S8x128_w32_S16x128_w16 bitcasts_S16x128_w16_S8x128_w32 bitcasts_S8x128_w32_S32x128_w8 k)

/-- The last sixteen pixel rows. -/
def piece16 (w : IVec S52x8x128 32) (g : Fin 2) (k : Fin 4) : FVec F S16x128 .bf16 :=
  sitofp .bf16 (quad (n := 4) (n2 := 8) (n4 := 16) (row4 w 48 (0 + g.val) (slices4 _ _ (by decide) (by omega))) (row4 w 48 (2 + g.val) (slices4 _ _ (by decide) (by omega)))
    (row4 w 48 (4 + g.val) (slices4 _ _ (by decide) (by omega))) (row4 w 48 (6 + g.val) (slices4 _ _ (by decide) (by omega)))
    bitcasts_S4x128_w32_S8x128_w16 bitcasts_S8x128_w16_S4x128_w32 bitcasts_S4x128_w32_S16x128_w8 k)

/-- All 208 pixel rows of byte `k` of half `g`. -/
def pix (w : IVec S52x8x128 32) (g : Fin 2) (k : Fin 4) : FVec F S208x128 .bf16 :=
  concatenate S208x128 0 [⟨S32x128, piece32 w g k 0 (by decide)⟩, ⟨S32x128, piece32 w g k 8 (by decide)⟩,
    ⟨S32x128, piece32 w g k 16 (by decide)⟩, ⟨S32x128, piece32 w g k 24 (by decide)⟩, ⟨S32x128, piece32 w g k 32 (by decide)⟩,
    ⟨S32x128, piece32 w g k 40 (by decide)⟩, ⟨S16x128, piece16 w g k⟩]
    concatenates_S32x128_S32x128_S32x128_S32x128_S32x128_S32x128_S16x128_S208x128_d0

/-- The words of a feature block. -/
def words (f : Vec F S1x208x8x128 .i8) : IVec S52x8x128 32 :=
  shapeCast S52x8x128 (bitcast S208x2x128 32 (shapeCast S208x8x128 f shapeCasts_S1x208x8x128_S208x8x128)
    bitcasts_S208x8x128_w8_S208x2x128_w32) shapeCasts_S208x2x128_S52x8x128

/-- The embedding rows as bf16. -/
def emb (e : Vec F S1x100x256 .i8) : FVec F S100x256 .bf16 :=
  sitofp .bf16 (shapeCast S100x256 e shapeCasts_S1x100x256_S100x256)

/-- The row scales, one column per output column. -/
def rowScale (s : Vec F S1x100x128 .f32) : FVec F S100x208 .f32 :=
  concatenate S100x208 1 [⟨S100x128, shapeCast S100x128 s shapeCasts_S1x100x128_S100x128⟩,
    ⟨S100x80, extractStridedSlice S100x80 ![0, 0] (shapeCast S100x128 s shapeCasts_S1x100x128_S100x128) slices_S100x128_o0_0_S100x80⟩]
    concatenates_S100x128_S100x80_S100x208_d1

/-- One tile: the product of the embeddings with the pixel rows of one column, scaled by row and by column. -/
def tile (e : Vec F S1x100x256 .i8) (es : Vec F S1x100x128 .f32) (fa fb : Vec F S1x208x8x128 .i8) (g : Fin 2) (k : Fin 4)
    (fs : Vec F S1x1x208 .f32) : FVec F S100x208 .f32 :=
  mulf (mulf (matmul dot_S100x256_S208x256_S100x208_1_1_0_0_n_n none (emb e)
      (concatenate S208x256 1 [⟨S208x128, pix (words fa) g k⟩, ⟨S208x128, pix (words fb) g k⟩] concatenates_S208x128_S208x128_S208x256_d1)
      (constant S100x208 .f32 0x00000000#32)) (rowScale es))
    (broadcastTo S100x208 (shapeCast S1x208 fs shapeCasts_S1x1x208_S1x208) broadcasts_S1x208_S100x208)

/-- A tile rounded to bf16 and widened with zeros to 256 columns. -/
def wide (t : FVec F S100x208 .f32) : FVec F S100x256 .bf16 :=
  truncf .bf16 (concatenate S100x256 1 [⟨S100x208, t⟩, ⟨S100x48, broadcast S100x48 (Scalar.ofBits .f32 0x00000000#32)⟩]
    concatenates_S100x208_S100x48_S100x256_d1)

/-- The first 128 columns of two tiles, as pairs of rows. -/
def pairLo (t0 t1 : FVec F S100x208 .f32) : Vec F S1x100x2x128 .bf16 :=
  interleaveRows S1x100x2x128
    (shapeCast S1x100x1x128 (shapeCast S1x100x128 (extractStridedSlice S100x128 ![0, 0] (wide t0) slices_S100x256_o0_0_S100x128) shapeCasts_S100x128_S1x100x128) shapeCasts_S1x100x128_S1x100x1x128)
    (shapeCast S1x100x1x128 (shapeCast S1x100x128 (extractStridedSlice S100x128 ![0, 0] (wide t1) slices_S100x256_o0_0_S100x128) shapeCasts_S100x128_S1x100x128) shapeCasts_S1x100x128_S1x100x1x128)
    bitcasts_S1x100x2x128_w16_S1x100x1x128_w32

/-- The other columns of two tiles, as pairs of rows. -/
def pairHi (t0 t1 : FVec F S100x208 .f32) : Vec F S1x100x2x128 .bf16 :=
  interleaveRows S1x100x2x128
    (shapeCast S1x100x1x128 (shapeCast S1x100x128 (extractStridedSlice S100x128 ![0, 128] (wide t0) slices_S100x256_o0_128_S100x128) shapeCasts_S100x128_S1x100x128) shapeCasts_S1x100x128_S1x100x1x128)
    (shapeCast S1x100x1x128 (shapeCast S1x100x128 (extractStridedSlice S100x128 ![0, 128] (wide t1) slices_S100x256_o0_128_S100x128) shapeCasts_S100x128_S1x100x128) shapeCasts_S1x100x128_S1x100x1x128)
    bitcasts_S1x100x2x128_w16_S1x100x1x128_w32

/-- The column number of each lane. -/
def lane : IVec S100x128 32 := iota .tc S100x128 32 [1] iota_S100x128_d1_w32
/-- The even lanes. -/
def even : IVec S100x128 1 := cmpi .eq (andi lane (broadcast S100x128 1#32)) (broadcast S100x128 0#32)
/-- An index counted from the end where it is negative. -/
def wrap (x : IVec S100x128 32) : IVec S100x128 32 :=
  shapeCast S100x128 (shapeCast S100x128x1 (select (cmpi .slt x (broadcast S100x128 0#32)) (addi x (broadcast S100x128 128#32)) x)
    shapeCasts_S100x128_S100x128x1) shapeCasts_S100x128x1_S100x128
/-- Each lane's neighbour in its pair. -/
def swapIdx : IVec S100x128 32 := wrap (xori lane (broadcast S100x128 1#32))
/-- The even lanes first, then the odd lanes. -/
def permIdx : IVec S100x128 32 :=
  wrap (select (cmpi .slt lane (broadcast S100x128 64#32)) (muli (broadcast S100x128 2#32) lane)
    (subi (muli (broadcast S100x128 2#32) lane) (broadcast S100x128 127#32)))

/-- The sum of two tiles, the first 128 columns. -/
def sumLo (t0 t1 : FVec F S100x208 .f32) : FVec F S100x128 .f32 :=
  extractStridedSlice S100x128 ![0, 0] (addf t0 t1) slices_S100x208_o0_0_S100x128
/-- The sum of two tiles, the other columns and zeros. -/
def sumHi (t0 t1 : FVec F S100x208 .f32) : FVec F S100x128 .f32 :=
  concatenate S100x128 1 [⟨S100x80, extractStridedSlice S100x80 ![0, 128] (addf t0 t1) slices_S100x208_o0_128_S100x80⟩,
    ⟨S100x48, broadcast S100x48 (Scalar.ofBits .f32 0x00000000#32)⟩] concatenates_S100x80_S100x48_S100x128_d1

/-- The down-sampled rows of two neighbouring tiles: each the quarter of a sum of four. -/
def down (t0 t1 : FVec F S100x208 .f32) : FVec F S100x128 .f32 :=
  shapeCast S100x128 (mulf (dynamicGather 1 (addf (select even (sumLo t0 t1) (sumHi t0 t1))
      (dynamicGather 1 (select even (sumHi t0 t1) (sumLo t0 t1)) swapIdx)) permIdx)
    (broadcast S100x128 (Scalar.ofBits .f32 0x3E800000#32))) shapeCasts_S100x128_S100x128

end Cert.Proof.Tile

end
-- ==== Proof.Pieces.lean ====
module

public import proofs.«01_k».proof.Proof.Gen.KernelIdeal.Frame
public import proofs.«01_k».proof.Proof.Tile

/-! The pieces the mask kernel's run leaves in its scratch buffers and its outputs, over the tiles of Tile.lean: a list
    of the pieces in closed form, and that the run's own lists are these (the kernel evaluates both). -/

@[expose] public section

set_option maxRecDepth 16384

noncomputable section

open Idealize.ShloMosaic Idealize.SL.Sem

namespace Cert.Proof.Pieces

open Cert.KernelIdeal Cert.KernelIdeal.Gen Cert.Proof.Tile

variable {F : FTy → Type} [FloatOps F]

/-- The rows `wp, wp + 9, …` of plane `ch` of the packed scratch buffer. -/
def maskRect (ch : Fin 2) (wp : Fin 8) : Rect S2x936x2x128 where
  off := ![ch.val, wp.val, 0, 0]
  size := S1x100x2x128.size
  stride := ![1, 9, 1, 1]
  inb := fun a => by
    have := ch.isLt; have := wp.isLt
    match a with
    | ⟨0, _⟩ => exact Or.inr (show ch.val + 1 * (1 - 1) < 2 by omega)
    | ⟨1, _⟩ => exact Or.inr (show wp.val + 9 * (100 - 1) < 936 by omega)
    | ⟨2, _⟩ => exact Or.inr (show 0 + 1 * (2 - 1) < 2 by decide)
    | ⟨3, _⟩ => exact Or.inr (show 0 + 1 * (128 - 1) < 128 by decide)
  stride_pos := spos_1_9_1_1

/-- The rows `wp, wp + 9, …` of the down-sampled scratch buffer. -/
def downRect (wp : Fin 8) : Rect S936x128 where
  off := ![wp.val, 0]
  size := S100x128.size
  stride := ![9, 1]
  inb := fun a => by
    have := wp.isLt
    match a with
    | ⟨0, _⟩ => exact Or.inr (show wp.val + 9 * (100 - 1) < 936 by omega)
    | ⟨1, _⟩ => exact Or.inr (show 0 + 1 * (128 - 1) < 128 by decide)
  stride_pos := spos_9_1

/-- The packed scratch buffer's pieces, the last written first. -/
def maskPieces (T : Fin 16 → FVec F S100x208 .f32) : List (View.Piece (Elt F) S2x936x2x128 .bf16) :=
  [⟨maskRect 1 7, pairHi (T 14) (T 15)⟩,
    ⟨maskRect 0 7, pairLo (T 14) (T 15)⟩,
    ⟨maskRect 1 6, pairHi (T 12) (T 13)⟩,
    ⟨maskRect 0 6, pairLo (T 12) (T 13)⟩,
    ⟨maskRect 1 5, pairHi (T 10) (T 11)⟩,
    ⟨maskRect 0 5, pairLo (T 10) (T 11)⟩,
    ⟨maskRect 1 4, pairHi (T 8) (T 9)⟩,
    ⟨maskRect 0 4, pairLo (T 8) (T 9)⟩,
    ⟨maskRect 1 3, pairHi (T 6) (T 7)⟩,
    ⟨maskRect 0 3, pairLo (T 6) (T 7)⟩,
    ⟨maskRect 1 2, pairHi (T 4) (T 5)⟩,
    ⟨maskRect 0 2, pairLo (T 4) (T 5)⟩,
    ⟨maskRect 1 1, pairHi (T 2) (T 3)⟩,
    ⟨maskRect 0 1, pairLo (T 2) (T 3)⟩,
    ⟨maskRect 1 0, pairHi (T 0) (T 1)⟩,
    ⟨maskRect 0 0, pairLo (T 0) (T 1)⟩]

/-- The down-sampled scratch buffer's pieces, the last written first. -/
def downPieces (T : Fin 16 → FVec F S100x208 .f32) : List (View.Piece (Elt F) S936x128 .f32) :=
  [⟨downRect 7, down (T 14) (T 15)⟩,
    ⟨downRect 6, down (T 12) (T 13)⟩,
    ⟨downRect 5, down (T 10) (T 11)⟩,
    ⟨downRect 4, down (T 8) (T 9)⟩,
    ⟨downRect 3, down (T 6) (T 7)⟩,
    ⟨downRect 2, down (T 4) (T 5)⟩,
    ⟨downRect 1, down (T 2) (T 3)⟩,
    ⟨downRect 0, down (T 0) (T 1)⟩]

/-- The sixteen tiles over the values the body loads. -/
def loaded (c : Dev nD) (arg2 : Memref sig .tc .vmem S1x100x256 .i8) (harg2 : arg2.IsWhole) (arg3 : Memref sig .tc .vmem S1x100x128 .f32) (harg3 : arg3.IsWhole) (arg4 : Memref sig .tc .vmem S1x208x8x128 .i8) (harg4 : arg4.IsWhole) (arg5 : Memref sig .tc .vmem S1x208x8x128 .i8) (harg5 : arg5.IsWhole) (arg6 : Memref sig .tc .vmem S1x208x8x128 .i8) (harg6 : arg6.IsWhole) (arg7 : Memref sig .tc .vmem S1x208x8x128 .i8) (harg7 : arg7.IsWhole) (arg8 : Memref sig .tc .vmem S1x16x208 .f32) (harg8 : arg8.IsWhole)
    (x0 : Vec F S1x100x256 .i8) (x1 : Vec F S1x100x128 .f32) (x2 : Vec F S1x208x8x128 .i8) (x3 : Vec F S1x208x8x128 .i8) (x4 : Vec F S1x208x8x128 .i8) (x5 : Vec F S1x208x8x128 .i8) (x6 : Vec F S1x16x208 .f32) : Fin 16 → FVec F S100x208 .f32 := fun w => match w.val with
  | 0 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 0 0 (View.readAt (Elt F) arg8.view (Rect.unit ![0, 0, 0] S1x1x208.size inb_S1x16x208_S1x1x208_0_0_0 : Rect S1x16x208).toLoadRect (harg8.unread x6))
  | 1 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 0 1 (View.readAt (Elt F) arg8.view (Rect.unit ![0, 1, 0] S1x1x208.size inb_S1x16x208_S1x1x208_0_1_0 : Rect S1x16x208).toLoadRect (harg8.unread x6))
  | 2 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 0 2 (View.readAt (Elt F) arg8.view (Rect.unit ![0, 2, 0] S1x1x208.size inb_S1x16x208_S1x1x208_0_2_0 : Rect S1x16x208).toLoadRect (harg8.unread x6))
  | 3 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 0 3 (View.readAt (Elt F) arg8.view (Rect.unit ![0, 3, 0] S1x1x208.size inb_S1x16x208_S1x1x208_0_3_0 : Rect S1x16x208).toLoadRect (harg8.unread x6))
  | 4 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 1 0 (View.readAt (Elt F) arg8.view (Rect.unit ![0, 4, 0] S1x1x208.size inb_S1x16x208_S1x1x208_0_4_0 : Rect S1x16x208).toLoadRect (harg8.unread x6))
  | 5 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 1 1 (View.readAt (Elt F) arg8.view (Rect.unit ![0, 5, 0] S1x1x208.size inb_S1x16x208_S1x1x208_0_5_0 : Rect S1x16x208).toLoadRect (harg8.unread x6))
  | 6 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 1 2 (View.readAt (Elt F) arg8.view (Rect.unit ![0, 6, 0] S1x1x208.size inb_S1x16x208_S1x1x208_0_6_0 : Rect S1x16x208).toLoadRect (harg8.unread x6))
  | 7 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg4.view (Rect.unit ![0, 0, 0, 0] S1x208x8x128.size inb_S1x208x8x128_S1x208x8x128_0_0_0_0).toLoadRect (harg4.unread x2)) (View.readAt (Elt F) arg5.view (Rect.unit ![0, 0, 0, 0] S1x208x8x128.size inb_S1x208x8x128_S1x208x8x128_0_0_0_0).toLoadRect (harg5.unread x3)) 1 3 (View.readAt (Elt F) arg8.view (Rect.unit ![0, 7, 0] S1x1x208.size inb_S1x16x208_S1x1x208_0_7_0 : Rect S1x16x208).toLoadRect (harg8.unread x6))
  | 8 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 0 0 (View.readAt (Elt F) arg8.view (Rect.unit ![0, 8, 0] S1x1x208.size inb_S1x16x208_S1x1x208_0_8_0 : Rect S1x16x208).toLoadRect (harg8.unread x6))
  | 9 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 0 1 (View.readAt (Elt F) arg8.view (Rect.unit ![0, 9, 0] S1x1x208.size inb_S1x16x208_S1x1x208_0_9_0 : Rect S1x16x208).toLoadRect (harg8.unread x6))
  | 10 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 0 2 (View.readAt (Elt F) arg8.view (Rect.unit ![0, 10, 0] S1x1x208.size inb_S1x16x208_S1x1x208_0_10_0 : Rect S1x16x208).toLoadRect (harg8.unread x6))
  | 11 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 0 3 (View.readAt (Elt F) arg8.view (Rect.unit ![0, 11, 0] S1x1x208.size inb_S1x16x208_S1x1x208_0_11_0 : Rect S1x16x208).toLoadRect (harg8.unread x6))
  | 12 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 1 0 (View.readAt (Elt F) arg8.view (Rect.unit ![0, 12, 0] S1x1x208.size inb_S1x16x208_S1x1x208_0_12_0 : Rect S1x16x208).toLoadRect (harg8.unread x6))
  | 13 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 1 1 (View.readAt (Elt F) arg8.view (Rect.unit ![0, 13, 0] S1x1x208.size inb_S1x16x208_S1x1x208_0_13_0 : Rect S1x16x208).toLoadRect (harg8.unread x6))
  | 14 => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 1 2 (View.readAt (Elt F) arg8.view (Rect.unit ![0, 14, 0] S1x1x208.size inb_S1x16x208_S1x1x208_0_14_0 : Rect S1x16x208).toLoadRect (harg8.unread x6))
  | _ => tile (View.readAt (Elt F) arg2.view (Rect.unit ![0, 0, 0] S1x100x256.size inb_S1x100x256_S1x100x256_0_0_0).toLoadRect (harg2.unread x0)) (View.readAt (Elt F) arg3.view (Rect.unit ![0, 0, 0] S1x100x128.size inb_S1x100x128_S1x100x128_0_0_0).toLoadRect (harg3.unread x1)) (View.readAt (Elt F) arg6.view (Rect.unit ![0, 0, 0, 0] S1x208x8x128.size inb_S1x208x8x128_S1x208x8x128_0_0_0_0).toLoadRect (harg6.unread x4)) (View.readAt (Elt F) arg7.view (Rect.unit ![0, 0, 0, 0] S1x208x8x128.size inb_S1x208x8x128_S1x208x8x128_0_0_0_0).toLoadRect (harg7.unread x5)) 1 3 (View.readAt (Elt F) arg8.view (Rect.unit ![0, 15, 0] S1x1x208.size inb_S1x16x208_S1x1x208_0_15_0 : Rect S1x16x208).toLoadRect (harg8.unread x6))

variable (c : Dev nD) (arg2 : Memref sig .tc .vmem S1x100x256 .i8) (harg2 : arg2.IsWhole) (arg3 : Memref sig .tc .vmem S1x100x128 .f32) (harg3 : arg3.IsWhole) (arg4 : Memref sig .tc .vmem S1x208x8x128 .i8) (harg4 : arg4.IsWhole) (arg5 : Memref sig .tc .vmem S1x208x8x128 .i8) (harg5 : arg5.IsWhole) (arg6 : Memref sig .tc .vmem S1x208x8x128 .i8) (harg6 : arg6.IsWhole) (arg7 : Memref sig .tc .vmem S1x208x8x128 .i8) (harg7 : arg7.IsWhole) (arg8 : Memref sig .tc .vmem S1x16x208 .f32) (harg8 : arg8.IsWhole)
  (x0 : Vec F S1x100x256 .i8) (x1 : Vec F S1x100x128 .f32) (x2 : Vec F S1x208x8x128 .i8) (x3 : Vec F S1x208x8x128 .i8) (x4 : Vec F S1x208x8x128 .i8) (x5 : Vec F S1x208x8x128 .i8) (x6 : Vec F S1x16x208 .f32)

/-- The packed scratch buffer's pieces in the run are these. -/
theorem maskPieces_eq : kernelRun0_A.sl.HS0_16 c arg2 harg2 arg3 harg3 arg4 harg4 arg5 harg5 arg6 harg6 arg7 harg7 arg8 harg8 x0 x1 x2 x3 x4 x5 x6 = maskPieces (loaded c arg2 harg2 arg3 harg3 arg4 harg4 arg5 harg5 arg6 harg6 arg7 harg7 arg8 harg8 x0 x1 x2 x3 x4 x5 x6) := by
  sl_kernel_rfl

/-- The down-sampled scratch buffer's pieces in the run are these. -/
theorem downPieces_eq : kernelRun0_A.sl.HS1_8 c arg2 harg2 arg3 harg3 arg4 harg4 arg5 harg5 arg6 harg6 arg7 harg7 arg8 harg8 x0 x1 x2 x3 x4 x5 x6 = downPieces (loaded c arg2 harg2 arg3 harg3 arg4 harg4 arg5 harg5 arg6 harg6 arg7 harg7 arg8 harg8 x0 x1 x2 x3 x4 x5 x6) := by
  sl_kernel_rfl

end Cert.Proof.Pieces

end
-- ==== Proof.OutPieces.lean ====
module

public import proofs.«01_k».proof.Proof.Pieces

/-! The pieces the mask kernel's run leaves in its two outputs: for every query the rows of the scratch buffers it reads
    back. -/

@[expose] public section

set_option maxRecDepth 16384

noncomputable section

open Idealize.ShloMosaic Idealize.SL.Sem

namespace Cert.Proof.OutPieces

open Cert.KernelIdeal Cert.KernelIdeal.Gen Cert.Proof.Tile Cert.Proof.Pieces

variable {F : FTy → Type} [FloatOps F]

/-- The eight rows of plane `ch` of the packed scratch buffer that hold query `q`. -/
def maskSrc (ch : Fin 2) (q : Nat) (h : q < 100) : Rect S2x936x2x128 :=
  Rect.unit ![ch.val, 9 * q, 0, 0] S1x8x2x128.size fun a => by
    have := ch.isLt
    match a with
    | ⟨0, _⟩ => exact (show ch.val + 1 ≤ 2 by omega)
    | ⟨1, _⟩ => exact (show 9 * q + 8 ≤ 936 by omega)
    | ⟨2, _⟩ => exact (show 0 + 2 ≤ 2 by decide)
    | ⟨3, _⟩ => exact (show 0 + 128 ≤ 128 by decide)

/-- The eight rows of the down-sampled scratch buffer that hold query `q`. -/
def downSrc (q : Nat) (h : q < 100) : Rect S936x128 :=
  Rect.unit ![9 * q, 0] S8x128.size fun a => by
    match a with
    | ⟨0, _⟩ => exact (show 9 * q + 8 ≤ 936 by omega)
    | ⟨1, _⟩ => exact (show 0 + 128 ≤ 128 by decide)

/-- Query `q`'s first 128 columns in the mask output. -/
def maskDstLo (q : Nat) (h : q < 100) : Rect S1x100x16x208 :=
  Rect.unit ![0, q, 0, 0] S1x1x16x128.size fun a => by
    match a with
    | ⟨0, _⟩ => exact (show 0 + 1 ≤ 1 by decide)
    | ⟨1, _⟩ => exact (show q + 1 ≤ 100 by omega)
    | ⟨2, _⟩ => exact (show 0 + 16 ≤ 16 by decide)
    | ⟨3, _⟩ => exact (show 0 + 128 ≤ 208 by decide)

/-- Query `q`'s other columns in the mask output. -/
def maskDstHi (q : Nat) (h : q < 100) : Rect S1x100x16x208 :=
  Rect.unit ![0, q, 0, 128] S1x1x16x80.size fun a => by
    match a with
    | ⟨0, _⟩ => exact (show 0 + 1 ≤ 1 by decide)
    | ⟨1, _⟩ => exact (show q + 1 ≤ 100 by omega)
    | ⟨2, _⟩ => exact (show 0 + 16 ≤ 16 by decide)
    | ⟨3, _⟩ => exact (show 128 + 80 ≤ 208 by decide)

/-- Query `q`'s rows in the down-sampled output. -/
def downDst (q : Nat) (h : q < 100) : Rect S1x100x8x104 :=
  Rect.unit ![0, q, 0, 0] S1x1x8x104.size fun a => by
    match a with
    | ⟨0, _⟩ => exact (show 0 + 1 ≤ 1 by decide)
    | ⟨1, _⟩ => exact (show q + 1 ≤ 100 by omega)
    | ⟨2, _⟩ => exact (show 0 + 8 ≤ 8 by decide)
    | ⟨3, _⟩ => exact (show 0 + 104 ≤ 104 by decide)

/-- Eight rows of pairs as sixteen rows. -/
def unpair (v : Vec F S1x8x2x128 .bf16) : FVec F S16x128 .bf16 :=
  interleaveRows S16x128
    (shapeCast S8x128 (shapeCast S1x8x128 (rowsOfParity 0 S1x8x1x128 v bitcasts_S1x8x2x128_w16_S1x8x1x128_w32) shapeCasts_S1x8x1x128_S1x8x128) shapeCasts_S1x8x128_S8x128)
    (shapeCast S8x128 (shapeCast S1x8x128 (rowsOfParity 1 S1x8x1x128 v bitcasts_S1x8x2x128_w16_S1x8x1x128_w32) shapeCasts_S1x8x1x128_S1x8x128) shapeCasts_S1x8x128_S8x128)
    bitcasts_S16x128_w16_S8x128_w32

/-- The stored first 128 columns. -/
def outLo (v : Vec F S1x8x2x128 .bf16) : Vec F S1x1x16x128 .bf16 :=
  shapeCast S1x1x16x128 (unpair v) shapeCasts_S16x128_S1x1x16x128

/-- The stored other columns. -/
def outHi (v : Vec F S1x8x2x128 .bf16) : Vec F S1x1x16x80 .bf16 :=
  shapeCast S1x1x16x80 (extractStridedSlice S16x80 ![0, 0] (unpair v) slices_S16x128_o0_0_S16x80) shapeCasts_S16x80_S1x1x16x80

/-- The stored down-sampled rows. -/
def outDown (v : Vec F S8x128 .f32) : Vec F S1x1x8x104 .f32 :=
  shapeCast S1x1x8x104 (extractStridedSlice S8x104 ![0, 0] v slices_S8x128_o0_0_S8x104) shapeCasts_S8x104_S1x1x8x104

/-- The mask output's pieces for the first `n` queries, the last written first. -/
def maskOut (arg11 : Memref sig .tc .vmem S2x936x2x128 .bf16) (L : List (View.Piece (Elt F) S2x936x2x128 .bf16)) :
    (n : Nat) → n ≤ 100 → List (View.Piece (Elt F) S1x100x16x208 .bf16)
  | 0, _ => []
  | n + 1, h =>
    ⟨maskDstHi n h, outHi (arg11.view.readCov L (maskSrc 1 n h).toLoadRect)⟩ ::
    ⟨maskDstLo n h, outLo (arg11.view.readCov L (maskSrc 0 n h).toLoadRect)⟩ :: maskOut arg11 L n (Nat.le_of_succ_le h)

/-- The down-sampled output's pieces for the first `n` queries, the last written first. -/
def downOut (arg12 : Memref sig .tc .vmem S936x128 .f32) (L : List (View.Piece (Elt F) S936x128 .f32)) :
    (n : Nat) → n ≤ 100 → List (View.Piece (Elt F) S1x100x8x104 .f32)
  | 0, _ => []
  | n + 1, h => ⟨downDst n h, outDown (arg12.view.readCov L (downSrc n h).toLoadRect)⟩ :: downOut arg12 L n (Nat.le_of_succ_le h)

variable (c : Dev nD) (i : grid0.Coords) (arg2 : Memref sig .tc .vmem S1x100x256 .i8) (harg2 : arg2.IsWhole) (arg3 : Memref sig .tc .vmem S1x100x128 .f32) (harg3 : arg3.IsWhole) (arg4 : Memref sig .tc .vmem S1x208x8x128 .i8) (harg4 : arg4.IsWhole) (arg5 : Memref sig .tc .vmem S1x208x8x128 .i8) (harg5 : arg5.IsWhole) (arg6 : Memref sig .tc .vmem S1x208x8x128 .i8) (harg6 : arg6.IsWhole) (arg7 : Memref sig .tc .vmem S1x208x8x128 .i8) (harg7 : arg7.IsWhole) (arg8 : Memref sig .tc .vmem S1x16x208 .f32) (harg8 : arg8.IsWhole) (arg9 : Memref sig .tc .vmem S1x100x16x208 .bf16) (harg9 : arg9.IsWhole) (arg10 : Memref sig .tc .vmem S1x100x8x104 .f32) (harg10 : arg10.IsWhole) (arg11 : Memref sig .tc .vmem S2x936x2x128 .bf16) (harg11 : arg11.IsWhole) (arg12 : Memref sig .tc .vmem S936x128 .f32) (harg12 : arg12.IsWhole)
  (x0 : Vec F S1x100x256 .i8) (x1 : Vec F S1x100x128 .f32) (x2 : Vec F S1x208x8x128 .i8) (x3 : Vec F S1x208x8x128 .i8) (x4 : Vec F S1x208x8x128 .i8) (x5 : Vec F S1x208x8x128 .i8) (x6 : Vec F S1x16x208 .f32)

/-- The mask output's pieces in the run are these. -/
theorem maskOut_eq : (kernelRun0_A c i arg2 harg2 arg3 harg3 arg4 harg4 arg5 harg5 arg6 harg6 arg7 harg7 arg8 harg8 arg9 harg9 arg10 harg10 arg11 harg11 arg12 harg12 x0 x1 x2 x3 x4 x5 x6).1
    = maskOut arg11 (kernelRun0_A.sl.HS0_16 c arg2 harg2 arg3 harg3 arg4 harg4 arg5 harg5 arg6 harg6 arg7 harg7 arg8 harg8 x0 x1 x2 x3 x4 x5 x6) 100 (Nat.le_refl 100) := by
  sl_kernel_rfl

/-- The down-sampled output's pieces in the run are these. -/
theorem downOut_eq : (kernelRun0_A c i arg2 harg2 arg3 harg3 arg4 harg4 arg5 harg5 arg6 harg6 arg7 harg7 arg8 harg8 arg9 harg9 arg10 harg10 arg11 harg11 arg12 harg12 x0 x1 x2 x3 x4 x5 x6).2.1
    = downOut arg12 (kernelRun0_A.sl.HS1_8 c arg2 harg2 arg3 harg3 arg4 harg4 arg5 harg5 arg6 harg6 arg7 harg7 arg8 harg8 x0 x1 x2 x3 x4 x5 x6) 100 (Nat.le_refl 100) := by
  sl_kernel_rfl

end Cert.Proof.OutPieces

end
-- ==== Proof.Pixels.lean ====
module

public import proofs.«01_k».proof.Proof.Tile
public import Idealize.ShloMosaic.Lib.Pipeline.Value

/-! What the pixel rows of Tile.lean hold: column `4g + k` of the feature block, row by row. -/

@[expose] public section

set_option maxRecDepth 16384

noncomputable section

open Idealize.ShloMosaic

namespace Cert.Proof.Pixels

open Cert.KernelIdeal Cert.KernelIdeal.Gen Cert.Proof.Bytes Cert.Proof.Tile

variable {F : FTy → Type} [FloatOps F]

/-- Bit `8k + q` of word `(a, b, l)` is bit `q` of the block's byte in row `4a + b / 2`, column `4 (b % 2) + k`. -/
theorem words_bit (f : Vec F S1x208x8x128 .i8) (a : Fin 52) (b : Fin 8) (l : Fin 128) (h : Fin 208) (u : Fin 8) (k : Fin 4)
    (hh : h.val = 4 * a.val + b.val / 2) (hu : u.val = 4 * (b.val % 2) + k.val) (q : Nat) (hq : q < 8) :
    (words f (ix3 a b l)).getLsbD (8 * k.val + q) = BitVec.getLsbD (f (ix4 0 h u l) : BitVec 8) q := by
  have hk := k.isLt
  unfold words
  rw [shapeCast_apply (s := S208x2x128) (t := S52x8x128) _ _ (ix3 a b l) (ix3 h (⟨b.val % 2, by omega⟩ : Fin 2) l) (by
    rw [rowMajor_val3 _ 256 128 rfl rfl, rowMajor_val3 _ 1024 128 rfl rfl]
    show h.val * 256 + (b.val % 2) * 128 + l.val = a.val * 1024 + b.val * 128 + l.val
    omega)]
  rw [bitcast_8_32_getLsbD _ _ _ _ (by omega)]
  have e1 : (8 * k.val + q) / 8 = k.val := by omega
  have e2 : (8 * k.val + q) % 8 = q := by omega
  rw [e2]
  refine congrArg (fun z : BitVec 8 => z.getLsbD q) ?_
  refine shapeCast_apply (s := S1x208x8x128) (t := S208x8x128) _ _ _ (ix4 0 h u l) ?_
  have hs : ∀ (z : Nat) (hz), bitcasts_S208x8x128_w8_S208x2x128_w32.srcIdx (ix3 h (⟨b.val % 2, by omega⟩ : Fin 2) l) z hz
      = ix3 h (⟨z, (hz (1 : Fin 3) rfl : z < 8)⟩ : Fin 8) l := fun z hz => by
    funext c
    match c with
    | ⟨0, _⟩ => exact Fin.ext (Shape.Bitcasts.srcIdx_other _ _ _ _ ⟨0, by decide⟩ (by decide))
    | ⟨1, _⟩ => exact Fin.ext (Shape.Bitcasts.srcIdx_row _ _ _ _ ⟨1, by decide⟩ rfl)
    | ⟨2, _⟩ => exact Fin.ext (Shape.Bitcasts.srcIdx_other _ _ _ _ ⟨2, by decide⟩ (by decide))
  have er : S208x2x128.row (ix3 h (⟨b.val % 2, by omega⟩ : Fin 2) l) = b.val % 2 := rfl
  rw [hs, rowMajor_val4 _ 212992 1024 128 rfl rfl rfl, rowMajor_val3 _ 1024 128 rfl rfl]
  simp only [er, e1]
  show 0 * 212992 + h.val * 1024 + u.val * 128 + l.val = h.val * 1024 + (4 * (b.val % 2) + k.val) * 128 + l.val
  omega

theorem row8_apply (w : IVec S52x8x128 32) (m s : Nat) (h : S52x8x128.Slices ![m, s, 0] S8x1x128) (r : Fin 8) (l : Fin 128)
    (a : Fin 52) (b : Fin 8) (ha : a.val = m + r.val) (hb : b.val = s) : row8 w m s h (ix2 r l) = w (ix3 a b l) := by
  unfold row8
  rw [shapeCast_apply (s := S8x1x128) (t := S8x128) _ _ (ix2 r l) (ix3 r 0 l) (by
    rw [rowMajor_val3 _ 128 128 rfl rfl, rowMajor_val2 _ 128 rfl]
    show r.val * 128 + 0 * 128 + l.val = r.val * 128 + l.val
    omega)]
  refine extractStridedSlice_apply _ _ _ _ (ix3 a b l) fun c => ?_
  match c with
  | ⟨0, _⟩ => exact ha
  | ⟨1, _⟩ => exact hb
  | ⟨2, _⟩ => exact (Nat.zero_add _).symm

theorem row4_apply (w : IVec S52x8x128 32) (m s : Nat) (h : S52x8x128.Slices ![m, s, 0] S4x1x128) (r : Fin 4) (l : Fin 128)
    (a : Fin 52) (b : Fin 8) (ha : a.val = m + r.val) (hb : b.val = s) : row4 w m s h (ix2 r l) = w (ix3 a b l) := by
  unfold row4
  rw [shapeCast_apply (s := S4x1x128) (t := S4x128) _ _ (ix2 r l) (ix3 r 0 l) (by
    rw [rowMajor_val3 _ 128 128 rfl rfl, rowMajor_val2 _ 128 rfl]
    show r.val * 128 + 0 * 128 + l.val = r.val * 128 + l.val
    omega)]
  refine extractStridedSlice_apply _ _ _ _ (ix3 a b l) fun c => ?_
  match c with
  | ⟨0, _⟩ => exact ha
  | ⟨1, _⟩ => exact hb
  | ⟨2, _⟩ => exact (Nat.zero_add _).symm

/-- Row `y` of a piece of 32 rows is row `4m + y` of the block. -/
theorem piece32_apply (f : Vec F S1x208x8x128 .i8) (g : Fin 2) (k : Fin 4) (m : Nat) (hm : m + 8 ≤ 52) (y : Fin 32) (l : Fin 128)
    (h : Fin 208) (u : Fin 8) (hh : h.val = 4 * m + y.val) (hu : u.val = 4 * g.val + k.val) :
    (piece32 (words f) g k m hm : FVec F S32x128 .bf16) (ix2 y l) = FloatOps.sitofp .bf16 (f (ix4 0 h u l) : BitVec 8) := by
  have hg := g.isLt
  refine congrArg (FloatOps.sitofp FTy.bf16) ?_
  refine BitVec.eq_of_getLsbD_eq fun q hq => ?_
  refine (quad_bit (fun j : Fin 4 => row8 (words f) m (2 * j.val + g.val) (slices8 _ _ hm (by omega))) _ _ _ rfl k y l ⟨y.val / 4, by omega⟩ ⟨y.val % 4, by omega⟩
    (by show y.val = 4 * (y.val / 4) + y.val % 4; omega) q hq).trans ?_
  rw [row8_apply (words f) m _ _ _ l ⟨m + y.val / 4, by omega⟩ ⟨2 * (y.val % 4) + g.val, by omega⟩ rfl rfl]
  exact words_bit f _ _ l h u k (by show h.val = 4 * (m + y.val / 4) + (2 * (y.val % 4) + g.val) / 2; omega)
    (by show u.val = 4 * ((2 * (y.val % 4) + g.val) % 2) + k.val; omega) q hq

/-- Row `y` of the last piece is row `192 + y` of the block. -/
theorem piece16_apply (f : Vec F S1x208x8x128 .i8) (g : Fin 2) (k : Fin 4) (y : Fin 16) (l : Fin 128)
    (h : Fin 208) (u : Fin 8) (hh : h.val = 192 + y.val) (hu : u.val = 4 * g.val + k.val) :
    (piece16 (words f) g k : FVec F S16x128 .bf16) (ix2 y l) = FloatOps.sitofp .bf16 (f (ix4 0 h u l) : BitVec 8) := by
  have hg := g.isLt
  refine congrArg (FloatOps.sitofp FTy.bf16) ?_
  refine BitVec.eq_of_getLsbD_eq fun q hq => ?_
  refine (quad_bit (fun j : Fin 4 => row4 (words f) 48 (2 * j.val + g.val) (slices4 _ _ (by decide) (by omega))) _ _ _ rfl k y l ⟨y.val / 4, by omega⟩ ⟨y.val % 4, by omega⟩
    (by show y.val = 4 * (y.val / 4) + y.val % 4; omega) q hq).trans ?_
  rw [row4_apply (words f) 48 _ _ _ l ⟨48 + y.val / 4, by omega⟩ ⟨2 * (y.val % 4) + g.val, by omega⟩ rfl rfl]
  exact words_bit f _ _ l h u k (by show h.val = 4 * (48 + y.val / 4) + (2 * (y.val % 4) + g.val) / 2; omega)
    (by show u.val = 4 * ((2 * (y.val % 4) + g.val) % 2) + k.val; omega) q hq

/-- The pixel rows of byte `k` of half `g` are column `4g + k` of the block. -/
theorem pix_apply (f : Vec F S1x208x8x128 .i8) (g : Fin 2) (k : Fin 4) (h : Fin 208) (l : Fin 128) (u : Fin 8) (hu : u.val = 4 * g.val + k.val) :
    (pix (words f) g k : FVec F S208x128 .bf16) (ix2 h l) = FloatOps.sitofp .bf16 (f (ix4 0 h u l) : BitVec 8) := by
  unfold pix
  pointwise
  split
  · rw [piece32_apply f g k 0 _ _ l h u (by simp) hu]
  split
  · rw [piece32_apply f g k 8 _ _ l h u (by simp; omega) hu]
  split
  · rw [piece32_apply f g k 16 _ _ l h u (by simp; omega) hu]
  split
  · rw [piece32_apply f g k 24 _ _ l h u (by simp; omega) hu]
  split
  · rw [piece32_apply f g k 32 _ _ l h u (by simp; omega) hu]
  split
  · rw [piece32_apply f g k 40 _ _ l h u (by simp; omega) hu]
  · rw [piece16_apply f g k _ l h u (by simp; omega) hu]

end Cert.Proof.Pixels

end
-- ==== Proof.TileValue.lean ====
module

public import proofs.«01_k».proof.Proof.Pixels
public import Idealize.ShloMosaic.Lib.Pointwise

/-! The tiles of Tile.lean over the extended reals, read at an index. -/

@[expose] public section

set_option maxRecDepth 16384

noncomputable section

open Idealize.ShloMosaic

namespace Cert.Proof.TileValue

open Cert.KernelIdeal Cert.KernelIdeal.Gen Cert.Proof.Tile Cert.Proof.Pixels

/-- The byte of channel `c` (of 256, in two blocks of 128) of a pixel in row `h` and column `u`. -/
def featAt (fa fb : Vec Ideal S1x208x8x128 .i8) (h : Fin 208) (u : Fin 8) (c : Fin 256) : BitVec 8 :=
  if hc : c.val < 128 then fa (ix4 0 h u ⟨c.val, hc⟩) else fb (ix4 0 h u ⟨c.val - 128, by omega⟩)

theorem rowScale_apply (s : Vec Ideal S1x100x128 .f32) (q : Fin 100) (h : Fin 208) :
    rowScale s (ix2 q h) = s (ix3 0 q ⟨h.val % 128, Nat.mod_lt _ (by decide)⟩) := by
  unfold rowScale
  pointwise
  split
  · next hl => congr 2; exact Fin.ext (Nat.mod_eq_of_lt hl).symm
  · next hl => congr 2; apply Fin.ext; show h.val - 128 = h.val % 128; omega

/-- A tile at row `q`, column `h`: the product over the 256 channels, by the row's scale, by the column's scale. -/
theorem tile_apply (e : Vec Ideal S1x100x256 .i8) (es : Vec Ideal S1x100x128 .f32) (fa fb : Vec Ideal S1x208x8x128 .i8) (g : Fin 2) (k : Fin 4)
    (fs : Vec Ideal S1x1x208 .f32) (q : Fin 100) (h : Fin 208) (u : Fin 8) (hu : u.val = 4 * g.val + k.val) :
    tile e es fa fb g k fs (ix2 q h)
      = (∑ c : Fin 256, (FloatOps.sitofp (F := Ideal) .bf16 (e (ix3 0 q c) : BitVec 8) : EReal) * (FloatOps.sitofp (F := Ideal) .bf16 (featAt fa fb h u c) : EReal))
          * es (ix3 0 q ⟨h.val % 128, Nat.mod_lt _ (by decide)⟩) * fs (ix3 0 0 h) := by
  have he : ∀ c : Fin 256, (emb e : FVec Ideal S100x256 .bf16) (ix2 q c) = FloatOps.sitofp (F := Ideal) .bf16 (e (ix3 0 q c) : BitVec 8) := fun c => by
    refine congrArg (FloatOps.sitofp FTy.bf16) ?_
    pointwise
  unfold tile
  pointwise [dot_S100x256_S208x256_S100x208_1_1_0_0_n_n]
  rw [rowScale_apply]
  refine congrArg (fun z : EReal => z * es (ix3 0 q ⟨h.val % 128, Nat.mod_lt _ (by decide)⟩) * fs (ix3 0 0 h)) ?_
  refine Eq.trans ?_ (Fin.sum_univ_add (a := 128) (b := 128) (fun c : Fin 256 =>
    (FloatOps.sitofp (F := Ideal) .bf16 (e (ix3 0 q c) : BitVec 8) : EReal) * (FloatOps.sitofp (F := Ideal) .bf16 (featAt fa fb h u c) : EReal))).symm
  refine congrArg₂ (· + ·) (Finset.sum_congr rfl fun x _ => ?_) (Finset.sum_congr rfl fun x _ => ?_)
  · have hf : featAt fa fb h u (Fin.castAdd 128 x) = fa (ix4 0 h u x) := dif_pos x.isLt
    rw [pix_apply fa g k h x u hu, he, hf]
    rfl
  · have hf : featAt fa fb h u (Fin.natAdd 128 x) = fb (ix4 0 h u x) := by
      refine (dif_neg (show ¬ 128 + x.val < 128 by omega)).trans ?_
      congr 2; exact Fin.ext (show 128 + x.val - 128 = x.val by omega)
    rw [pix_apply fb g k h x u hu, he, hf]
    rfl

/-- The stored pair of tiles: row `q`, half `p`, column `l` of the first 128. -/
theorem pairLo_apply (t0 t1 : FVec Ideal S100x208 .f32) (q : Fin 100) (p : Fin 2) (l : Fin 128) :
    pairLo t0 t1 (ix4 0 q p l) = (if p = 0 then t0 else t1) (ix2 q ⟨l.val, by omega⟩) := by
  unfold pairLo wide
  fin_cases p
  · pointwise
    exact dif_pos (show l.val < 208 by omega)
  · pointwise
    exact dif_pos (show l.val < 208 by omega)

/-- The stored pair of tiles: row `q`, half `p`, column `128 + l`. -/
theorem pairHi_apply (t0 t1 : FVec Ideal S100x208 .f32) (q : Fin 100) (p : Fin 2) (l : Fin 128) (hl : l.val < 80) :
    pairHi t0 t1 (ix4 0 q p l) = (if p = 0 then t0 else t1) (ix2 q ⟨128 + l.val, by omega⟩) := by
  unfold pairHi wide
  fin_cases p
  · pointwise
    exact dif_pos (show 128 + l.val < 208 by omega)
  · pointwise
    exact dif_pos (show 128 + l.val < 208 by omega)

theorem even_apply (q : Fin 100) (l : Fin 128) : even (ix2 q l) = if l.val % 2 = 0 then 1#1 else 0#1 := by
  unfold even lane
  pointwise
  revert l
  decide +kernel

theorem swapIdx_apply (q : Fin 100) (l : Fin 128) : (swapIdx (ix2 q l)).toNat % 128 = if l.val % 2 = 0 then l.val + 1 else l.val - 1 := by
  unfold swapIdx wrap lane
  pointwise
  revert l
  decide +kernel

theorem permIdx_apply (q : Fin 100) (l : Fin 128) : (permIdx (ix2 q l)).toNat % 128 = if l.val < 64 then 2 * l.val else 2 * l.val - 127 := by
  unfold permIdx wrap lane
  pointwise
  revert l
  decide +kernel

theorem gather_apply {α : Type} (x : S100x128.Idx → α) (idx : IVec S100x128 32) (q : Fin 100) (l j : Fin 128) (hj : (idx (ix2 q l)).toNat % 128 = j.val) :
    dynamicGather 1 x idx (ix2 q l) = x (ix2 q j) := by
  pointwise
  congr 2; exact Fin.ext hj

theorem selectEven_apply (a b : FVec Ideal S100x128 .f32) (q : Fin 100) (l : Fin 128) :
    select even a b (ix2 q l) = if l.val % 2 = 0 then a (ix2 q l) else b (ix2 q l) := by
  have e : select even a b (ix2 q l) = Scalar.select (even (ix2 q l)) (a (ix2 q l)) (b (ix2 q l)) := rfl
  rw [e, even_apply]
  split <;> rfl

theorem sumLo_apply (t0 t1 : FVec Ideal S100x208 .f32) (q : Fin 100) (l : Fin 128) :
    sumLo t0 t1 (ix2 q l) = (t0 (ix2 q ⟨l.val, by omega⟩) + t1 (ix2 q ⟨l.val, by omega⟩) : EReal) := by
  unfold sumLo
  pointwise

theorem sumHi_apply (t0 t1 : FVec Ideal S100x208 .f32) (q : Fin 100) (l : Fin 128) (hl : l.val < 80) :
    sumHi t0 t1 (ix2 q l) = (t0 (ix2 q ⟨128 + l.val, by omega⟩) + t1 (ix2 q ⟨128 + l.val, by omega⟩) : EReal) := by
  unfold sumHi
  pointwise
  exact dif_pos hl

/-- The down-sampled row `q` at column `i`: a quarter of the sum of the two tiles' columns `2i` and `2i + 1`. -/
theorem down_apply (t0 t1 : FVec Ideal S100x208 .f32) (q : Fin 100) (i : Fin 128) (hi : i.val < 104) :
    down t0 t1 (ix2 q i)
      = (((t0 (ix2 q ⟨2 * i.val, by omega⟩) + t1 (ix2 q ⟨2 * i.val, by omega⟩))
          + (t0 (ix2 q ⟨2 * i.val + 1, by omega⟩) + t1 (ix2 q ⟨2 * i.val + 1, by omega⟩))) * Ideal.ofBits .f32 0x3E800000#32 : EReal) := by
  have hperm := permIdx_apply q i
  have hd : down t0 t1 (ix2 q i) = (dynamicGather 1 (addf (select even (sumLo t0 t1) (sumHi t0 t1))
      (dynamicGather 1 (select even (sumHi t0 t1) (sumLo t0 t1)) swapIdx)) permIdx (ix2 q i) * Ideal.ofBits .f32 0x3E800000#32 : EReal) := by
    unfold down
    refine (shapeCast_apply (s := S100x128) (t := S100x128) _ _ (ix2 q i) (ix2 q i) rfl).trans ?_
    rfl
  rw [hd]
  refine congrArg (fun z : EReal => z * Ideal.ofBits .f32 0x3E800000#32) ?_
  by_cases h : i.val < 64
  · rw [if_pos h] at hperm
    have hsw := swapIdx_apply q ⟨2 * i.val, by omega⟩
    rw [if_pos (show (2 * i.val) % 2 = 0 by omega)] at hsw
    rw [gather_apply _ _ q i ⟨2 * i.val, by omega⟩ hperm, addf_apply, gather_apply _ _ q _ ⟨2 * i.val + 1, by omega⟩ hsw,
      selectEven_apply, selectEven_apply, if_pos (show (2 * i.val) % 2 = 0 by omega),
      if_neg (show ¬ (2 * i.val + 1) % 2 = 0 by omega), sumLo_apply, sumLo_apply]
    rfl
  · rw [if_neg h] at hperm
    have hsw := swapIdx_apply q ⟨2 * i.val - 127, by omega⟩
    rw [if_neg (show ¬ (2 * i.val - 127) % 2 = 0 by omega)] at hsw
    rw [gather_apply _ _ q i ⟨2 * i.val - 127, by omega⟩ hperm, addf_apply, gather_apply _ _ q _ ⟨2 * i.val - 127 - 1, by omega⟩ hsw,
      selectEven_apply, selectEven_apply, if_neg (show ¬ (2 * i.val - 127) % 2 = 0 by omega),
      if_pos (show (2 * i.val - 127 - 1) % 2 = 0 by omega), sumHi_apply _ _ _ _ (show 2 * i.val - 127 < 80 by omega), sumHi_apply _ _ _ _ (show 2 * i.val - 127 - 1 < 80 by omega)]
    have e1 : (⟨128 + (2 * i.val - 127), by omega⟩ : Fin 208) = ⟨2 * i.val + 1, by omega⟩ := Fin.ext (by show 128 + (2 * i.val - 127) = 2 * i.val + 1; omega)
    have e2 : (⟨128 + (2 * i.val - 127 - 1), by omega⟩ : Fin 208) = ⟨2 * i.val, by omega⟩ := Fin.ext (by show 128 + (2 * i.val - 127 - 1) = 2 * i.val; omega)
    simp only [e1, e2]
    exact add_comm (G := EReal) _ _

end Cert.Proof.TileValue

end
-- ==== Proof.OutValue.lean ====
module

public import proofs.«01_k».proof.Proof.OutPieces
public import proofs.«01_k».proof.Proof.TileValue

/-! What the mask kernel's body leaves in its two output blocks, read at an index: the tiles, and the down-sampled rows. -/

@[expose] public section

set_option maxRecDepth 16384

noncomputable section

open Idealize.ShloMosaic Idealize.SL.Sem

namespace Cert.Proof.OutValue

open Cert.KernelIdeal Cert.KernelIdeal.Gen Cert.Proof.Tile Cert.Proof.Pieces Cert.Proof.OutPieces

section Scratch

variable {F : FTy → Type} [FloatOps F] (T : Fin 16 → FVec F S100x208 .f32)

/-- The pair of tiles `2 wp`, `2 wp + 1` as stored in plane `ch`. -/
def pairAt (ch : Fin 2) (wp : Fin 8) : Vec F S1x100x2x128 .bf16 :=
  if ch = 0 then pairLo (T ⟨2 * wp.val, by omega⟩) (T ⟨2 * wp.val + 1, by omega⟩)
  else pairHi (T ⟨2 * wp.val, by omega⟩) (T ⟨2 * wp.val + 1, by omega⟩)

/-- The down-sampled rows of tiles `2 wp`, `2 wp + 1`. -/
def downAt (wp : Fin 8) : FVec F S100x128 .f32 := down (T ⟨2 * wp.val, by omega⟩) (T ⟨2 * wp.val + 1, by omega⟩)

theorem maskPieces_map : maskPieces T = ([(1, 7), (0, 7), (1, 6), (0, 6), (1, 5), (0, 5), (1, 4), (0, 4), (1, 3), (0, 3), (1, 2), (0, 2), (1, 1),
      (0, 1), (1, 0), (0, 0)] : List (Fin 2 × Fin 8)).map fun i => ⟨maskRect i.1 i.2, pairAt T i.1 i.2⟩ := rfl

theorem downPieces_map : downPieces T = ([7, 6, 5, 4, 3, 2, 1, 0] : List (Fin 8)).map fun i => ⟨downRect i, downAt T i⟩ := rfl

theorem maskRect_emb (ch : Fin 2) (wp : Fin 8) (x : S1x100x2x128.Idx) (r : Fin 936) (hr : r.val = wp.val + 9 * (x 1).val) :
    (maskRect ch wp).emb x = ix4 ch r (x 2) (x 3) := by
  have h0 : (x 0).val < 1 := (x 0).isLt
  funext a
  match a with
  | ⟨0, _⟩ => exact Fin.ext (show ch.val + 1 * (x 0).val = ch.val by omega)
  | ⟨1, _⟩ => exact Fin.ext hr.symm
  | ⟨2, _⟩ => exact Fin.ext (show 0 + 1 * (x 2).val = (x 2).val by omega)
  | ⟨3, _⟩ => exact Fin.ext (show 0 + 1 * (x 3).val = (x 3).val by omega)

theorem downRect_emb (wp : Fin 8) (x : S100x128.Idx) (r : Fin 936) (hr : r.val = wp.val + 9 * (x 0).val) :
    (downRect wp).emb x = ix2 r (x 1) := by
  funext a
  match a with
  | ⟨0, _⟩ => exact Fin.ext hr.symm
  | ⟨1, _⟩ => exact Fin.ext (show 0 + 1 * (x 1).val = (x 1).val by omega)

/-- The packed scratch buffer after all the stores, at the row `wp + 9 q` of a plane. -/
theorem canon_mask (ch : Fin 2) (wp : Fin 8) (q : Fin 100) (p : Fin 2) (l : Fin 128) :
    View.canon (maskPieces T) (ix4 ch ⟨wp.val + 9 * q.val, by omega⟩ p l) = pairAt T ch wp (ix4 0 q p l) := by
  have key := View.canon_apply_of_pieces (Val := Elt F)
    (fun y : S2x936x2x128.Idx => pairAt T (y 0) ⟨(y 1).val % 9 % 8, Nat.mod_lt _ (by decide)⟩ (ix4 0 ⟨(y 1).val / 9 % 100, Nat.mod_lt _ (by decide)⟩ (y 2) (y 3)))
    (maskPieces T) (by
      intro pc hpc x
      rw [maskPieces_map] at hpc
      obtain ⟨⟨ch, wp⟩, -, rfl⟩ := List.mem_map.mp hpc
      have h1 : (x 1).val < 100 := (x 1).isLt
      have h0 : (x 0).val < 1 := (x 0).isLt
      have hw := wp.isLt
      show pairAt T ch wp x = _
      rw [maskRect_emb ch wp x ⟨wp.val + 9 * (x 1).val, by omega⟩ rfl]
      have e1 : (⟨(wp.val + 9 * (x 1).val) % 9 % 8, Nat.mod_lt _ (by decide)⟩ : Fin 8) = wp := Fin.ext (by show (wp.val + 9 * (x 1).val) % 9 % 8 = wp.val; omega)
      have e2 : (ix4 0 (⟨(wp.val + 9 * (x 1).val) / 9 % 100, Nat.mod_lt _ (by decide)⟩ : Fin 100) (x 2) (x 3) : S1x100x2x128.Idx) = x := by
        funext a
        match a with
        | ⟨0, _⟩ => exact Fin.ext (show 0 = (x 0).val by omega)
        | ⟨1, _⟩ => exact Fin.ext (show (wp.val + 9 * (x 1).val) / 9 % 100 = (x 1).val by omega)
        | ⟨2, _⟩ => rfl
        | ⟨3, _⟩ => rfl
      show pairAt T ch wp x = pairAt T ch ⟨(wp.val + 9 * (x 1).val) % 9 % 8, _⟩ (ix4 0 (⟨(wp.val + 9 * (x 1).val) / 9 % 100, _⟩ : Fin 100) (x 2) (x 3))
      rw [e1, e2])
    (ix4 ch ⟨wp.val + 9 * q.val, by omega⟩ p l)
    ⟨⟨maskRect ch wp, pairAt T ch wp⟩, by
      rw [maskPieces_map]
      exact List.mem_map.mpr ⟨(ch, wp), by revert ch wp; decide, rfl⟩, by
      have hm := (maskRect ch wp).idx_mem (ix4 0 q p l : S1x100x2x128.Idx)
      rwa [show (maskRect ch wp).idx (ix4 0 q p l : S1x100x2x128.Idx) = ix4 ch ⟨wp.val + 9 * q.val, by omega⟩ p l from
        maskRect_emb ch wp (ix4 0 q p l) ⟨wp.val + 9 * q.val, by omega⟩ rfl] at hm⟩
  refine key.trans ?_
  have hw := wp.isLt
  have hq := q.isLt
  have e1 : (⟨(wp.val + 9 * q.val) % 9 % 8, Nat.mod_lt _ (by decide)⟩ : Fin 8) = wp := Fin.ext (by show (wp.val + 9 * q.val) % 9 % 8 = wp.val; omega)
  have e2 : (⟨(wp.val + 9 * q.val) / 9 % 100, Nat.mod_lt _ (by decide)⟩ : Fin 100) = q := Fin.ext (by show (wp.val + 9 * q.val) / 9 % 100 = q.val; omega)
  show pairAt T ch ⟨(wp.val + 9 * q.val) % 9 % 8, _⟩ (ix4 0 (⟨(wp.val + 9 * q.val) / 9 % 100, _⟩ : Fin 100) p l) = _
  rw [e1, e2]

/-- The down-sampled scratch buffer after all the stores, at the row `wp + 9 q`. -/
theorem canon_down (wp : Fin 8) (q : Fin 100) (l : Fin 128) :
    View.canon (downPieces T) (ix2 ⟨wp.val + 9 * q.val, by omega⟩ l) = downAt T wp (ix2 q l) := by
  have key := View.canon_apply_of_pieces (Val := Elt F)
    (fun y : S936x128.Idx => downAt T ⟨(y 0).val % 9 % 8, Nat.mod_lt _ (by decide)⟩ (ix2 ⟨(y 0).val / 9 % 100, Nat.mod_lt _ (by decide)⟩ (y 1)))
    (downPieces T) (by
      intro pc hpc x
      rw [downPieces_map] at hpc
      obtain ⟨wp, -, rfl⟩ := List.mem_map.mp hpc
      have h0 : (x 0).val < 100 := (x 0).isLt
      have hw := wp.isLt
      show downAt T wp x = _
      rw [downRect_emb wp x ⟨wp.val + 9 * (x 0).val, by omega⟩ rfl]
      have e1 : (⟨(wp.val + 9 * (x 0).val) % 9 % 8, Nat.mod_lt _ (by decide)⟩ : Fin 8) = wp := Fin.ext (by show (wp.val + 9 * (x 0).val) % 9 % 8 = wp.val; omega)
      have e2 : (ix2 (⟨(wp.val + 9 * (x 0).val) / 9 % 100, Nat.mod_lt _ (by decide)⟩ : Fin 100) (x 1) : S100x128.Idx) = x := by
        funext a
        match a with
        | ⟨0, _⟩ => exact Fin.ext (show (wp.val + 9 * (x 0).val) / 9 % 100 = (x 0).val by omega)
        | ⟨1, _⟩ => rfl
      show downAt T wp x = downAt T ⟨(wp.val + 9 * (x 0).val) % 9 % 8, _⟩ (ix2 (⟨(wp.val + 9 * (x 0).val) / 9 % 100, _⟩ : Fin 100) (x 1))
      rw [e1, e2])
    (ix2 ⟨wp.val + 9 * q.val, by omega⟩ l)
    ⟨⟨downRect wp, downAt T wp⟩, by
      rw [downPieces_map]
      exact List.mem_map.mpr ⟨wp, by revert wp; decide, rfl⟩, by
      have hm := (downRect wp).idx_mem (ix2 q l : S100x128.Idx)
      rwa [show (downRect wp).idx (ix2 q l : S100x128.Idx) = ix2 ⟨wp.val + 9 * q.val, by omega⟩ l from
        downRect_emb wp (ix2 q l) ⟨wp.val + 9 * q.val, by omega⟩ rfl] at hm⟩
  refine key.trans ?_
  have hw := wp.isLt
  have hq := q.isLt
  have e1 : (⟨(wp.val + 9 * q.val) % 9 % 8, Nat.mod_lt _ (by decide)⟩ : Fin 8) = wp := Fin.ext (by show (wp.val + 9 * q.val) % 9 % 8 = wp.val; omega)
  have e2 : (⟨(wp.val + 9 * q.val) / 9 % 100, Nat.mod_lt _ (by decide)⟩ : Fin 100) = q := Fin.ext (by show (wp.val + 9 * q.val) / 9 % 100 = q.val; omega)
  show downAt T ⟨(wp.val + 9 * q.val) % 9 % 8, _⟩ (ix2 (⟨(wp.val + 9 * q.val) / 9 % 100, _⟩ : Fin 100) l) = _
  rw [e1, e2]

/-- Query `q`'s eight rows of a plane, read back. -/
theorem read_mask (arg11 : Memref sig .tc .vmem S2x936x2x128 .bf16) (ch : Fin 2) (q : Nat) (hq : q < 100) (w : Fin 8) (p : Fin 2) (l : Fin 128) :
    arg11.view.readCov (maskPieces T) (maskSrc ch q hq).toLoadRect (ix4 0 w p l) = pairAt T ch w (ix4 0 ⟨q, hq⟩ p l) := by
  rw [View.readCov_eq_canon', ← canon_mask]
  refine congrArg (View.canon (maskPieces T)) ?_
  funext a
  match a with
  | ⟨0, _⟩ => exact Fin.ext (show ch.val + 1 * 0 = ch.val by omega)
  | ⟨1, _⟩ => exact Fin.ext (show 9 * q + 1 * w.val = w.val + 9 * q by omega)
  | ⟨2, _⟩ => exact Fin.ext (show 0 + 1 * p.val = p.val by omega)
  | ⟨3, _⟩ => exact Fin.ext (show 0 + 1 * l.val = l.val by omega)

/-- Query `q`'s eight down-sampled rows, read back. -/
theorem read_down (arg12 : Memref sig .tc .vmem S936x128 .f32) (q : Nat) (hq : q < 100) (w : Fin 8) (l : Fin 128) :
    arg12.view.readCov (downPieces T) (downSrc q hq).toLoadRect (ix2 w l) = downAt T w (ix2 ⟨q, hq⟩ l) := by
  rw [View.readCov_eq_canon', ← canon_down]
  refine congrArg (View.canon (downPieces T)) ?_
  funext a
  match a with
  | ⟨0, _⟩ => exact Fin.ext (show 9 * q + 1 * w.val = w.val + 9 * q by omega)
  | ⟨1, _⟩ => exact Fin.ext (show 0 + 1 * l.val = l.val by omega)

/-- Sixteen rows from eight rows of pairs: row `r` is half `r % 2` of pair `r / 2`. -/
theorem unpair_apply (v : Vec F S1x8x2x128 .bf16) (r : Fin 16) (l : Fin 128) :
    unpair v (ix2 r l) = v (ix4 0 ⟨r.val / 2, by omega⟩ ⟨r.val % 2, by omega⟩ l) := by
  unfold unpair
  pointwise
  split
  · rename_i h
    exact congrArg (fun p => v (ix4 0 ⟨r.val / 2, by omega⟩ p l)) (Fin.ext h.symm : (0 : Fin 2) = ⟨r.val % 2, by omega⟩)
  · rename_i h
    exact congrArg (fun p => v (ix4 0 ⟨r.val / 2, by omega⟩ p l)) (Fin.ext (show 1 = r.val % 2 by omega) : (1 : Fin 2) = ⟨r.val % 2, by omega⟩)

theorem outLo_apply (v : Vec F S1x8x2x128 .bf16) (r : Fin 16) (l : Fin 128) :
    outLo v (ix4 0 0 r l) = v (ix4 0 ⟨r.val / 2, by omega⟩ ⟨r.val % 2, by omega⟩ l) := by
  rw [← unpair_apply v r l]
  unfold outLo
  pointwise

theorem outHi_apply (v : Vec F S1x8x2x128 .bf16) (r : Fin 16) (l : Fin 80) :
    outHi v (ix4 0 0 r l) = v (ix4 0 ⟨r.val / 2, by omega⟩ ⟨r.val % 2, by omega⟩ ⟨l.val, by omega⟩) := by
  rw [← unpair_apply v r ⟨l.val, by omega⟩]
  unfold outHi
  pointwise

theorem outDown_apply (v : Vec F S8x128 .f32) (r : Fin 8) (l : Fin 104) :
    outDown v (ix4 0 0 r l) = v (ix2 r ⟨l.val, by omega⟩) := by
  unfold outDown
  pointwise

end Scratch

section Out

variable (T : Fin 16 → FVec Ideal S100x208 .f32)

/-- Tile `2 wp + p` at the columns of plane `ch`. -/
theorem pairAt_lo (wp : Fin 8) (q : Fin 100) (p : Fin 2) (l : Fin 128) :
    pairAt T 0 wp (ix4 0 q p l) = T ⟨2 * wp.val + p.val, by omega⟩ (ix2 q ⟨l.val, by omega⟩) := by
  show pairLo _ _ _ = _
  rw [TileValue.pairLo_apply]
  match p with
  | ⟨0, _⟩ => rfl
  | ⟨1, _⟩ => rfl

theorem pairAt_hi (wp : Fin 8) (q : Fin 100) (p : Fin 2) (l : Fin 128) (hl : l.val < 80) :
    pairAt T 1 wp (ix4 0 q p l) = T ⟨2 * wp.val + p.val, by omega⟩ (ix2 q ⟨128 + l.val, by omega⟩) := by
  show pairHi _ _ _ = _
  rw [TileValue.pairHi_apply _ _ _ _ _ hl]
  match p with
  | ⟨0, _⟩ => rfl
  | ⟨1, _⟩ => rfl

/-- The tiles as a mask block. -/
def maskVal : S1x100x16x208.Idx → Elt Ideal .bf16 := fun y => T (y 2) (ix2 (y 1) (y 3))

/-- The down-sampled tiles as a down-sampled block. -/
def downVal : S1x100x8x104.Idx → Elt Ideal .f32 := fun y => downAt T (y 2) (ix2 (y 1) ⟨(y 3).val, by have : (y 3).val < 104 := (y 3).isLt; omega⟩)

/-- Query `n`'s other columns, as stored. -/
theorem outHi_value (arg11 : Memref sig .tc .vmem S2x936x2x128 .bf16) (n : Nat) (hn : n < 100) (r : Fin 16) (l : Fin 80) :
    (outHi (F := Ideal) (arg11.view.readCov (maskPieces T) (maskSrc 1 n hn).toLoadRect) (ix4 0 0 r l) : EReal) = T r (ix2 ⟨n, hn⟩ ⟨128 + l.val, by omega⟩) :=
  (outHi_apply _ r l).trans ((read_mask T arg11 1 n hn _ _ _).trans ((pairAt_hi T _ _ _ _ l.isLt).trans
    (congrFun (congrArg T (Fin.ext (show 2 * (r.val / 2) + r.val % 2 = r.val by omega))) _)))

/-- Query `n`'s first 128 columns, as stored. -/
theorem outLo_value (arg11 : Memref sig .tc .vmem S2x936x2x128 .bf16) (n : Nat) (hn : n < 100) (r : Fin 16) (l : Fin 128) :
    (outLo (F := Ideal) (arg11.view.readCov (maskPieces T) (maskSrc 0 n hn).toLoadRect) (ix4 0 0 r l) : EReal) = T r (ix2 ⟨n, hn⟩ ⟨l.val, by omega⟩) :=
  (outLo_apply _ r l).trans ((read_mask T arg11 0 n hn _ _ _).trans ((pairAt_lo T _ _ _ _).trans
    (congrFun (congrArg T (Fin.ext (show 2 * (r.val / 2) + r.val % 2 = r.val by omega))) _)))

/-- Query `n`'s down-sampled rows, as stored. -/
theorem outDown_value (arg12 : Memref sig .tc .vmem S936x128 .f32) (n : Nat) (hn : n < 100) (r : Fin 8) (l : Fin 104) :
    (outDown (F := Ideal) (arg12.view.readCov (downPieces T) (downSrc n hn).toLoadRect) (ix4 0 0 r l) : EReal) = downAt T r (ix2 ⟨n, hn⟩ ⟨l.val, by omega⟩) :=
  (outDown_apply _ r l).trans (read_down T arg12 n hn _ _)

/-- Every piece of the mask output holds the tiles. -/
theorem maskOut_pieces (arg11 : Memref sig .tc .vmem S2x936x2x128 .bf16) (n : Nat) (hn : n ≤ 100) :
    ∀ pc ∈ maskOut arg11 (maskPieces T) n hn, ∀ x, pc.2 x = maskVal T (pc.1.emb x) := by
  induction n with
  | zero => intro pc hpc; cases hpc
  | succ n ih =>
    intro pc hpc
    rcases List.mem_cons.mp hpc with rfl | hpc
    · intro (x : S1x1x16x80.Idx)
      obtain ⟨r, l, rfl⟩ : ∃ (r : Fin 16) (l : Fin 80), x = ix4 0 0 r l := by
        have h0 : (x 0).val < 1 := (x 0).isLt
        have h1 : (x 1).val < 1 := (x 1).isLt
        refine ⟨x 2, x 3, funext fun a => ?_⟩
        match a with
        | ⟨0, _⟩ => exact Fin.ext (show (x 0).val = 0 by omega)
        | ⟨1, _⟩ => exact Fin.ext (show (x 1).val = 0 by omega)
        | ⟨2, _⟩ => rfl
        | ⟨3, _⟩ => rfl
      refine (outHi_value T arg11 n hn r l).trans ?_
      refine Eq.trans ?_ (congrArg (maskVal T) (show (ix4 0 ⟨n, hn⟩ r ⟨128 + l.val, by omega⟩ : S1x100x16x208.Idx) = (maskDstHi n hn).emb (ix4 0 0 r l : S1x1x16x80.Idx) from ?_))
      · rfl
      · funext a
        match a with
        | ⟨0, _⟩ => exact Fin.ext (show 0 = 0 + 1 * 0 by omega)
        | ⟨1, _⟩ => exact Fin.ext (show n = n + 1 * 0 by omega)
        | ⟨2, _⟩ => exact Fin.ext (show r.val = 0 + 1 * r.val by omega)
        | ⟨3, _⟩ => exact Fin.ext (show 128 + l.val = 128 + 1 * l.val by omega)
    rcases List.mem_cons.mp hpc with rfl | hpc
    · intro (x : S1x1x16x128.Idx)
      obtain ⟨r, l, rfl⟩ : ∃ (r : Fin 16) (l : Fin 128), x = ix4 0 0 r l := by
        have h0 : (x 0).val < 1 := (x 0).isLt
        have h1 : (x 1).val < 1 := (x 1).isLt
        refine ⟨x 2, x 3, funext fun a => ?_⟩
        match a with
        | ⟨0, _⟩ => exact Fin.ext (show (x 0).val = 0 by omega)
        | ⟨1, _⟩ => exact Fin.ext (show (x 1).val = 0 by omega)
        | ⟨2, _⟩ => rfl
        | ⟨3, _⟩ => rfl
      refine (outLo_value T arg11 n hn r l).trans ?_
      refine Eq.trans ?_ (congrArg (maskVal T) (show (ix4 0 ⟨n, hn⟩ r ⟨l.val, by omega⟩ : S1x100x16x208.Idx) = (maskDstLo n hn).emb (ix4 0 0 r l : S1x1x16x128.Idx) from ?_))
      · rfl
      · funext a
        match a with
        | ⟨0, _⟩ => exact Fin.ext (show 0 = 0 + 1 * 0 by omega)
        | ⟨1, _⟩ => exact Fin.ext (show n = n + 1 * 0 by omega)
        | ⟨2, _⟩ => exact Fin.ext (show r.val = 0 + 1 * r.val by omega)
        | ⟨3, _⟩ => exact Fin.ext (show l.val = 0 + 1 * l.val by omega)
    · exact ih _ pc hpc

/-- Every piece of the down-sampled output holds the down-sampled tiles. -/
theorem downOut_pieces (arg12 : Memref sig .tc .vmem S936x128 .f32) (n : Nat) (hn : n ≤ 100) :
    ∀ pc ∈ downOut arg12 (downPieces T) n hn, ∀ x, pc.2 x = downVal T (pc.1.emb x) := by
  induction n with
  | zero => intro pc hpc; cases hpc
  | succ n ih =>
    intro pc hpc
    rcases List.mem_cons.mp hpc with rfl | hpc
    · intro (x : S1x1x8x104.Idx)
      obtain ⟨r, l, rfl⟩ : ∃ (r : Fin 8) (l : Fin 104), x = ix4 0 0 r l := by
        have h0 : (x 0).val < 1 := (x 0).isLt
        have h1 : (x 1).val < 1 := (x 1).isLt
        refine ⟨x 2, x 3, funext fun a => ?_⟩
        match a with
        | ⟨0, _⟩ => exact Fin.ext (show (x 0).val = 0 by omega)
        | ⟨1, _⟩ => exact Fin.ext (show (x 1).val = 0 by omega)
        | ⟨2, _⟩ => rfl
        | ⟨3, _⟩ => rfl
      refine (outDown_value T arg12 n hn r l).trans ?_
      refine Eq.trans ?_ (congrArg (downVal T) (show (ix4 0 ⟨n, hn⟩ r l : S1x100x8x104.Idx) = (downDst n hn).emb (ix4 0 0 r l : S1x1x8x104.Idx) from ?_))
      · rfl
      · funext a
        match a with
        | ⟨0, _⟩ => exact Fin.ext (show 0 = 0 + 1 * 0 by omega)
        | ⟨1, _⟩ => exact Fin.ext (show n = n + 1 * 0 by omega)
        | ⟨2, _⟩ => exact Fin.ext (show r.val = 0 + 1 * r.val by omega)
        | ⟨3, _⟩ => exact Fin.ext (show l.val = 0 + 1 * l.val by omega)
    · exact ih _ pc hpc

end Out

/-- Row `w` of the feature scales, as a `1 × 1 × 208` block. -/
def scaleRow {F : FTy → Type} [FloatOps F] (x6 : Vec F S1x16x208 .f32) (w : Fin 16) : Vec F S1x1x208 .f32 := fun j => x6 (ix3 0 w (j 2))

/-- The sixteen tiles over the blocks. -/
def tiles {F : FTy → Type} [FloatOps F] (x0 : Vec F S1x100x256 .i8) (x1 : Vec F S1x100x128 .f32) (x2 : Vec F S1x208x8x128 .i8) (x3 : Vec F S1x208x8x128 .i8) (x4 : Vec F S1x208x8x128 .i8) (x5 : Vec F S1x208x8x128 .i8) (x6 : Vec F S1x16x208 .f32) : Fin 16 → FVec F S100x208 .f32 := fun w =>
  if w.val < 8 then tile x0 x1 x2 x3 ⟨w.val / 4 % 2, by omega⟩ ⟨w.val % 4, by omega⟩ (scaleRow x6 w)
  else tile x0 x1 x4 x5 ⟨w.val / 4 % 2, by omega⟩ ⟨w.val % 4, by omega⟩ (scaleRow x6 w)

section Loaded

variable {F : FTy → Type} [FloatOps F]

/-- A read of a whole buffer holding `x` gives `x`. -/
theorem read_whole {s : Shape} {t : EltTy} (v : Memref sig .tc .vmem s t) (hv : v.IsWhole) (x : Vec F s t) (off : Fin s.rank → Nat)
    (ho : ∀ a, off a = 0) (inb : ∀ a, off a + s.size a ≤ s.size a) :
    View.readAt (Elt F) v.view (Rect.unit off s.size inb).toLoadRect (hv.unread x) = x := by
  rw [View.readAt_eq_ld, hv.read_unread]
  funext j
  show x _ = x j
  refine congrArg x (funext fun a => Fin.ext ?_)
  show off a + 1 * (j a).val = (j a).val
  rw [ho a]; omega

/-- A read of one row of the feature scales. -/
theorem read_row (v : Memref sig .tc .vmem S1x16x208 .f32) (hv : v.IsWhole) (x : Vec F S1x16x208 .f32) (w : Fin 16)
    (inb : ∀ a, (![0, w.val, 0] : Fin 3 → Nat) a + S1x1x208.size a ≤ S1x16x208.size a) :
    View.readAt (Elt F) v.view (Rect.unit ![0, w.val, 0] S1x1x208.size inb : Rect S1x16x208).toLoadRect (hv.unread x) = scaleRow x w := by
  rw [View.readAt_eq_ld, hv.read_unread]
  funext (j : S1x1x208.Idx)
  have h0 : (j 0).val < 1 := (j 0).isLt
  have h1 : (j 1).val < 1 := (j 1).isLt
  show x _ = x _
  refine congrArg x (funext fun a => ?_)
  match a with
  | ⟨0, _⟩ => exact Fin.ext (show 0 + 1 * (j 0).val = 0 by omega)
  | ⟨1, _⟩ => exact Fin.ext (show w.val + 1 * (j 1).val = w.val by omega)
  | ⟨2, _⟩ => exact Fin.ext (show 0 + 1 * (j 2).val = (j 2).val by omega)

variable (c : Dev nD) (i : grid0.Coords) (arg2 : Memref sig .tc .vmem S1x100x256 .i8) (harg2 : arg2.IsWhole) (arg3 : Memref sig .tc .vmem S1x100x128 .f32) (harg3 : arg3.IsWhole) (arg4 : Memref sig .tc .vmem S1x208x8x128 .i8) (harg4 : arg4.IsWhole) (arg5 : Memref sig .tc .vmem S1x208x8x128 .i8) (harg5 : arg5.IsWhole) (arg6 : Memref sig .tc .vmem S1x208x8x128 .i8) (harg6 : arg6.IsWhole) (arg7 : Memref sig .tc .vmem S1x208x8x128 .i8) (harg7 : arg7.IsWhole) (arg8 : Memref sig .tc .vmem S1x16x208 .f32) (harg8 : arg8.IsWhole) (arg9 : Memref sig .tc .vmem S1x100x16x208 .bf16) (harg9 : arg9.IsWhole) (arg10 : Memref sig .tc .vmem S1x100x8x104 .f32) (harg10 : arg10.IsWhole) (arg11 : Memref sig .tc .vmem S2x936x2x128 .bf16) (harg11 : arg11.IsWhole) (arg12 : Memref sig .tc .vmem S936x128 .f32) (harg12 : arg12.IsWhole)
  (x0 : Vec F S1x100x256 .i8) (x1 : Vec F S1x100x128 .f32) (x2 : Vec F S1x208x8x128 .i8) (x3 : Vec F S1x208x8x128 .i8) (x4 : Vec F S1x208x8x128 .i8) (x5 : Vec F S1x208x8x128 .i8) (x6 : Vec F S1x16x208 .f32)

/-- The tiles over the loaded values are the tiles over the blocks. -/
theorem loaded_eq : loaded c arg2 harg2 arg3 harg3 arg4 harg4 arg5 harg5 arg6 harg6 arg7 harg7 arg8 harg8 x0 x1 x2 x3 x4 x5 x6 = tiles x0 x1 x2 x3 x4 x5 x6 := by
  have z3 : ∀ a : Fin 3, (![0, 0, 0] : Fin 3 → Nat) a = 0 := by decide
  have z4 : ∀ a : Fin 4, (![0, 0, 0, 0] : Fin 4 → Nat) a = 0 := by decide
  have r0 := read_whole arg2 harg2 x0 ![0, 0, 0] z3 inb_S1x100x256_S1x100x256_0_0_0
  have r1 := read_whole arg3 harg3 x1 ![0, 0, 0] z3 inb_S1x100x128_S1x100x128_0_0_0
  have r2 := read_whole arg4 harg4 x2 ![0, 0, 0, 0] z4 inb_S1x208x8x128_S1x208x8x128_0_0_0_0
  have r3 := read_whole arg5 harg5 x3 ![0, 0, 0, 0] z4 inb_S1x208x8x128_S1x208x8x128_0_0_0_0
  have r4 := read_whole arg6 harg6 x4 ![0, 0, 0, 0] z4 inb_S1x208x8x128_S1x208x8x128_0_0_0_0
  have r5 := read_whole arg7 harg7 x5 ![0, 0, 0, 0] z4 inb_S1x208x8x128_S1x208x8x128_0_0_0_0
  have f0 := read_row arg8 harg8 x6 0 inb_S1x16x208_S1x1x208_0_0_0
  have f1 := read_row arg8 harg8 x6 1 inb_S1x16x208_S1x1x208_0_1_0
  have f2 := read_row arg8 harg8 x6 2 inb_S1x16x208_S1x1x208_0_2_0
  have f3 := read_row arg8 harg8 x6 3 inb_S1x16x208_S1x1x208_0_3_0
  have f4 := read_row arg8 harg8 x6 4 inb_S1x16x208_S1x1x208_0_4_0
  have f5 := read_row arg8 harg8 x6 5 inb_S1x16x208_S1x1x208_0_5_0
  have f6 := read_row arg8 harg8 x6 6 inb_S1x16x208_S1x1x208_0_6_0
  have f7 := read_row arg8 harg8 x6 7 inb_S1x16x208_S1x1x208_0_7_0
  have f8 := read_row arg8 harg8 x6 8 inb_S1x16x208_S1x1x208_0_8_0
  have f9 := read_row arg8 harg8 x6 9 inb_S1x16x208_S1x1x208_0_9_0
  have f10 := read_row arg8 harg8 x6 10 inb_S1x16x208_S1x1x208_0_10_0
  have f11 := read_row arg8 harg8 x6 11 inb_S1x16x208_S1x1x208_0_11_0
  have f12 := read_row arg8 harg8 x6 12 inb_S1x16x208_S1x1x208_0_12_0
  have f13 := read_row arg8 harg8 x6 13 inb_S1x16x208_S1x1x208_0_13_0
  have f14 := read_row arg8 harg8 x6 14 inb_S1x16x208_S1x1x208_0_14_0
  have f15 := read_row arg8 harg8 x6 15 inb_S1x16x208_S1x1x208_0_15_0
  funext w
  match w with
  | ⟨0, _⟩ =>
    simp only [loaded, tiles, r0, r1, r2, r3, r4, r5]
    rw [if_pos (by decide)]
    exact congrArg (tile x0 x1 x2 x3 0 0) f0
  | ⟨1, _⟩ =>
    simp only [loaded, tiles, r0, r1, r2, r3, r4, r5]
    rw [if_pos (by decide)]
    exact congrArg (tile x0 x1 x2 x3 0 1) f1
  | ⟨2, _⟩ =>
    simp only [loaded, tiles, r0, r1, r2, r3, r4, r5]
    rw [if_pos (by decide)]
    exact congrArg (tile x0 x1 x2 x3 0 2) f2
  | ⟨3, _⟩ =>
    simp only [loaded, tiles, r0, r1, r2, r3, r4, r5]
    rw [if_pos (by decide)]
    exact congrArg (tile x0 x1 x2 x3 0 3) f3
  | ⟨4, _⟩ =>
    simp only [loaded, tiles, r0, r1, r2, r3, r4, r5]
    rw [if_pos (by decide)]
    exact congrArg (tile x0 x1 x2 x3 1 0) f4
  | ⟨5, _⟩ =>
    simp only [loaded, tiles, r0, r1, r2, r3, r4, r5]
    rw [if_pos (by decide)]
    exact congrArg (tile x0 x1 x2 x3 1 1) f5
  | ⟨6, _⟩ =>
    simp only [loaded, tiles, r0, r1, r2, r3, r4, r5]
    rw [if_pos (by decide)]
    exact congrArg (tile x0 x1 x2 x3 1 2) f6
  | ⟨7, _⟩ =>
    simp only [loaded, tiles, r0, r1, r2, r3, r4, r5]
    rw [if_pos (by decide)]
    exact congrArg (tile x0 x1 x2 x3 1 3) f7
  | ⟨8, _⟩ =>
    simp only [loaded, tiles, r0, r1, r2, r3, r4, r5]
    rw [if_neg (by decide)]
    exact congrArg (tile x0 x1 x4 x5 0 0) f8
  | ⟨9, _⟩ =>
    simp only [loaded, tiles, r0, r1, r2, r3, r4, r5]
    rw [if_neg (by decide)]
    exact congrArg (tile x0 x1 x4 x5 0 1) f9
  | ⟨10, _⟩ =>
    simp only [loaded, tiles, r0, r1, r2, r3, r4, r5]
    rw [if_neg (by decide)]
    exact congrArg (tile x0 x1 x4 x5 0 2) f10
  | ⟨11, _⟩ =>
    simp only [loaded, tiles, r0, r1, r2, r3, r4, r5]
    rw [if_neg (by decide)]
    exact congrArg (tile x0 x1 x4 x5 0 3) f11
  | ⟨12, _⟩ =>
    simp only [loaded, tiles, r0, r1, r2, r3, r4, r5]
    rw [if_neg (by decide)]
    exact congrArg (tile x0 x1 x4 x5 1 0) f12
  | ⟨13, _⟩ =>
    simp only [loaded, tiles, r0, r1, r2, r3, r4, r5]
    rw [if_neg (by decide)]
    exact congrArg (tile x0 x1 x4 x5 1 1) f13
  | ⟨14, _⟩ =>
    simp only [loaded, tiles, r0, r1, r2, r3, r4, r5]
    rw [if_neg (by decide)]
    exact congrArg (tile x0 x1 x4 x5 1 2) f14
  | ⟨15, _⟩ =>
    simp only [loaded, tiles, r0, r1, r2, r3, r4, r5]
    rw [if_neg (by decide)]
    exact congrArg (tile x0 x1 x4 x5 1 3) f15
  | ⟨n + 16, h⟩ => exact absurd h (by omega)

end Loaded

section Body

variable (c : Dev nD) (i : grid0.Coords) (arg2 : Memref sig .tc .vmem S1x100x256 .i8) (harg2 : arg2.IsWhole) (arg3 : Memref sig .tc .vmem S1x100x128 .f32) (harg3 : arg3.IsWhole) (arg4 : Memref sig .tc .vmem S1x208x8x128 .i8) (harg4 : arg4.IsWhole) (arg5 : Memref sig .tc .vmem S1x208x8x128 .i8) (harg5 : arg5.IsWhole) (arg6 : Memref sig .tc .vmem S1x208x8x128 .i8) (harg6 : arg6.IsWhole) (arg7 : Memref sig .tc .vmem S1x208x8x128 .i8) (harg7 : arg7.IsWhole) (arg8 : Memref sig .tc .vmem S1x16x208 .f32) (harg8 : arg8.IsWhole) (arg9 : Memref sig .tc .vmem S1x100x16x208 .bf16) (harg9 : arg9.IsWhole) (arg10 : Memref sig .tc .vmem S1x100x8x104 .f32) (harg10 : arg10.IsWhole) (arg11 : Memref sig .tc .vmem S2x936x2x128 .bf16) (harg11 : arg11.IsWhole) (arg12 : Memref sig .tc .vmem S936x128 .f32) (harg12 : arg12.IsWhole)
  (x0 : Vec Ideal S1x100x256 .i8) (x1 : Vec Ideal S1x100x128 .f32) (x2 : Vec Ideal S1x208x8x128 .i8) (x3 : Vec Ideal S1x208x8x128 .i8) (x4 : Vec Ideal S1x208x8x128 .i8) (x5 : Vec Ideal S1x208x8x128 .i8) (x6 : Vec Ideal S1x16x208 .f32)

/-- The body leaves tile `w` in row `w` of the mask block. -/
theorem out7_apply (q : Fin 100) (w : Fin 16) (h : Fin 208) :
    out0_A_7 c i arg2 harg2 arg3 harg3 arg4 harg4 arg5 harg5 arg6 harg6 arg7 harg7 arg8 harg8 arg9 harg9 arg10 harg10 arg11 harg11 arg12 harg12 x0 x1 x2 x3 x4 x5 x6 (ix4 0 q w h) = tiles x0 x1 x2 x3 x4 x5 x6 w (ix2 q h) := by
  unfold out0_A_7
  rw [View.read_writes_junk_eq_canon]
  have hc := cover0_A_7 c i arg2 harg2 arg3 harg3 arg4 harg4 arg5 harg5 arg6 harg6 arg7 harg7 arg8 harg8 arg9 harg9 arg10 harg10 arg11 harg11 arg12 harg12 x0 x1 x2 x3 x4 x5 x6 (ix4 0 q w h)
  rw [maskOut_eq, maskPieces_eq, loaded_eq] at hc ⊢
  exact View.canon_apply_of_pieces (maskVal (tiles x0 x1 x2 x3 x4 x5 x6)) _ (maskOut_pieces (tiles x0 x1 x2 x3 x4 x5 x6) arg11 100 (Nat.le_refl 100)) _ hc

/-- The body leaves the down-sampled tiles `2 w`, `2 w + 1` in row `w` of the down-sampled block. -/
theorem out8_apply (q : Fin 100) (w : Fin 8) (k : Fin 104) :
    out0_A_8 c i arg2 harg2 arg3 harg3 arg4 harg4 arg5 harg5 arg6 harg6 arg7 harg7 arg8 harg8 arg9 harg9 arg10 harg10 arg11 harg11 arg12 harg12 x0 x1 x2 x3 x4 x5 x6 (ix4 0 q w k) = downAt (tiles x0 x1 x2 x3 x4 x5 x6) w (ix2 q ⟨k.val, by omega⟩) := by
  unfold out0_A_8
  rw [View.read_writes_junk_eq_canon]
  have hc := cover0_A_8 c i arg2 harg2 arg3 harg3 arg4 harg4 arg5 harg5 arg6 harg6 arg7 harg7 arg8 harg8 arg9 harg9 arg10 harg10 arg11 harg11 arg12 harg12 x0 x1 x2 x3 x4 x5 x6 (ix4 0 q w k)
  rw [downOut_eq, downPieces_eq, loaded_eq] at hc ⊢
  exact View.canon_apply_of_pieces (downVal (tiles x0 x1 x2 x3 x4 x5 x6)) _ (downOut_pieces (tiles x0 x1 x2 x3 x4 x5 x6) arg12 100 (Nat.le_refl 100)) _ hc

end Body

end Cert.Proof.OutValue

end
-- ==== Proof.Spec.lean ====
module

public import Idealize.ShloMosaic.Lib.Pointwise
public import Idealize.ShloMosaic.PureOps.Ideal.Laws

/-! The mathematics of the mask call, in plain words: the mask logits and their two by two means, over the extended reals. -/

@[expose] public section

noncomputable section

open Idealize.ShloMosaic

namespace Cert.Proof.Spec

/-- The mask logit of image `b`, query `q`, at row `h` and column `w` of the feature map: the product of the query's codes and the pixel's
    codes, by the query's scale, by the pixel's scale. -/
def maskAt (e : (⟨3, ![6, 100, 256]⟩ : Shape).Idx → BitVec 8) (s : (⟨2, ![6, 100]⟩ : Shape).Idx → EReal)
    (f : (⟨4, ![6, 208, 272, 256]⟩ : Shape).Idx → BitVec 8) (t : (⟨3, ![6, 208, 272]⟩ : Shape).Idx → EReal)
    (b : Fin 6) (q : Fin 100) (h : Fin 208) (w : Fin 272) : EReal :=
  (∑ c : Fin 256, (((e (ix3 b q c)).toInt : ℝ) : EReal) * (((f (ix4 b h w c)).toInt : ℝ) : EReal)) * s (ix2 b q) * t (ix3 b h w)

/-- The mean of four mask logits: rows `2 i`, `2 i + 1`, columns `2 j`, `2 j + 1`. -/
def downAt (e : (⟨3, ![6, 100, 256]⟩ : Shape).Idx → BitVec 8) (s : (⟨2, ![6, 100]⟩ : Shape).Idx → EReal)
    (f : (⟨4, ![6, 208, 272, 256]⟩ : Shape).Idx → BitVec 8) (t : (⟨3, ![6, 208, 272]⟩ : Shape).Idx → EReal)
    (b : Fin 6) (q : Fin 100) (i : Fin 104) (j : Fin 136) : EReal :=
  ((maskAt e s f t b q ⟨2 * i.val, by omega⟩ ⟨2 * j.val, by omega⟩ + maskAt e s f t b q ⟨2 * i.val, by omega⟩ ⟨2 * j.val + 1, by omega⟩)
    + (maskAt e s f t b q ⟨2 * i.val + 1, by omega⟩ ⟨2 * j.val, by omega⟩ + maskAt e s f t b q ⟨2 * i.val + 1, by omega⟩ ⟨2 * j.val + 1, by omega⟩))
    * (((1 / 4 : ℝ) : EReal))

/-- The bit patterns of one half and one quarter. -/
theorem half_bits : Ideal.ofBits .f32 0x3F000000#32 = ((1 / 2 : ℝ) : EReal) := by
  simp [Ideal.ofBits, Ideal.ieee, -EReal.coe_mul]; norm_num
theorem quarter_bits : Ideal.ofBits .f32 0x3E800000#32 = ((1 / 4 : ℝ) : EReal) := by
  simp [Ideal.ofBits, Ideal.ieee, -EReal.coe_mul]; norm_num

/-- A sum against a row with one half at two places and zero elsewhere. -/
theorem sum_two_taps {n : Nat} (x : Fin n → EReal) (a : Fin n → EReal) (i j : Fin n) (hij : i ≠ j)
    (ha : ∀ k, a k = if k = i ∨ k = j then ((1 / 2 : ℝ) : EReal) else 0) :
    ∑ k, x k * a k = (x i + x j) * ((1 / 2 : ℝ) : EReal) := by
  have hi : a i = ((1 / 2 : ℝ) : EReal) := (ha i).trans (if_pos (Or.inl rfl))
  have hj : a j = ((1 / 2 : ℝ) : EReal) := (ha j).trans (if_pos (Or.inr rfl))
  rw [EReal.right_distrib_of_nonneg_of_ne_top (EReal.coe_nonneg.mpr (by norm_num)) (EReal.coe_ne_top _)]
  rw [← Finset.sum_subset (Finset.subset_univ {i, j})]
  · rw [Finset.sum_pair hij, hi, hj]
  · intro k _ hk
    have hk' : ¬ (k = i ∨ k = j) := fun h => hk (by simpa using h)
    rw [ha k, if_neg hk', mul_zero]

/-- Halves of halves: four values taken by rows first are four values by columns first. -/
theorem quarter (a b c d : EReal) : ((a + b) * ((1 / 2 : ℝ) : EReal) + (c + d) * ((1 / 2 : ℝ) : EReal)) * ((1 / 2 : ℝ) : EReal)
    = ((a + c) + (b + d)) * ((1 / 4 : ℝ) : EReal) := by
  rw [← EReal.right_distrib_of_nonneg_of_ne_top (EReal.coe_nonneg.mpr (by norm_num)) (EReal.coe_ne_top _), mul_assoc, ← EReal.coe_mul,
    add_add_add_comm]
  norm_num

end Cert.Proof.Spec

end
-- ==== Proof.ArrayValue.lean ====
module

public import proofs.«01_k».proof.Proof.Gen.KernelIdeal.Value
public import proofs.«01_k».proof.Proof.OutValue
public import proofs.«01_k».proof.Proof.TileValue
public import proofs.«01_k».proof.Proof.Spec
public import Idealize.ShloMosaic.Lib.Pipeline.ValueKit

/-! The mask call's two result arrays, read at an index: the mask logits and their two by two means. -/

@[expose] public section

set_option maxRecDepth 16384

noncomputable section

open Idealize.ShloMosaic Idealize.ShloMosaic.TcCoe Idealize.SL.Sem
open Idealize.ShloMosaic.Pipeline (Dat)

namespace Cert.Proof.ArrayValue

open Cert.KernelIdeal Cert.KernelIdeal.Gen Cert.Proof.Tile Cert.Proof.OutValue

variable (m : (ℓ : Loc nD τ sig) → Buf (Elt Ideal) ℓ)

/-- The windows' blocks: image `t / 17`, chunk `t % 17` of the feature map's columns. -/
theorem idx : ∀ t : Fin cfg0.N, win0_0.index t = ![t.val / 17, 0, 0] ∧ win0_1.index t = ![t.val / 17, 0, 0]
    ∧ win0_2.index t = ![t.val / 17, 0, 2 * (t.val % 17), 0] ∧ win0_3.index t = ![t.val / 17, 0, 2 * (t.val % 17), 1]
    ∧ win0_4.index t = ![t.val / 17, 0, 2 * (t.val % 17) + 1, 0] ∧ win0_5.index t = ![t.val / 17, 0, 2 * (t.val % 17) + 1, 1]
    ∧ win0_6.index t = ![t.val / 17, t.val % 17, 0] ∧ win0_7.index t = ![t.val / 17, 0, t.val % 17, 0] ∧ win0_8.index t = ![t.val / 17, 0, t.val % 17, 0] :=
  (by decide +kernel : ∀ t : Fin grid0.N, _)

theorem lt_N (t : Fin cfg0.N) : t.val < 102 := t.isLt

/-- The image of a grid point. -/
def img (t : Fin cfg0.N) : Fin 6 := ⟨t.val / 17, by have := lt_N t; omega⟩

/-- The query codes' block. -/
theorem blk0 (c : Dev nD) (t : Fin cfg0.N) (q : Fin 100) (k : Fin 256) :
    (iblk m c 0 t : Vec Ideal S1x100x256 .i8) (ix3 0 q k) = m ((c : Thread nD τ).loc main_arg0) (ix3 (img t) q k) := by
  blk_ext! [iblk, V, idx t, img]

/-- The query scales' block: the same scale in every lane. -/
theorem blk1 (c : Dev nD) (t : Fin cfg0.N) (q : Fin 100) (k : Fin 128) :
    (iblk m c 1 t : Vec Ideal S1x100x128 .f32) (ix3 0 q k) = m ((c : Thread nD τ).loc main_arg1) (ix2 (img t) q) := by
  blk_ext! [iblk, V, idx t, img]

/-- The feature codes' four blocks. -/
theorem blk2 (c : Dev nD) (t : Fin cfg0.N) (h : Fin 208) (u : Fin 8) (k : Fin 128) (w : Fin 272) (hw : w.val = 16 * (t.val % 17) + u.val) (ch : Fin 256) (hc : ch.val = k.val) :
    (iblk m c 2 t : Vec Ideal S1x208x8x128 .i8) (ix4 0 h u k) = m ((c : Thread nD τ).loc main_arg2) (ix4 (img t) h w ch) := by
  blk_ext! [iblk, V, idx t, img]
theorem blk3 (c : Dev nD) (t : Fin cfg0.N) (h : Fin 208) (u : Fin 8) (k : Fin 128) (w : Fin 272) (hw : w.val = 16 * (t.val % 17) + u.val) (ch : Fin 256) (hc : ch.val = 128 + k.val) :
    (iblk m c 3 t : Vec Ideal S1x208x8x128 .i8) (ix4 0 h u k) = m ((c : Thread nD τ).loc main_arg2) (ix4 (img t) h w ch) := by
  blk_ext! [iblk, V, idx t, img]
theorem blk4 (c : Dev nD) (t : Fin cfg0.N) (h : Fin 208) (u : Fin 8) (k : Fin 128) (w : Fin 272) (hw : w.val = 16 * (t.val % 17) + 8 + u.val) (ch : Fin 256) (hc : ch.val = k.val) :
    (iblk m c 4 t : Vec Ideal S1x208x8x128 .i8) (ix4 0 h u k) = m ((c : Thread nD τ).loc main_arg2) (ix4 (img t) h w ch) := by
  blk_ext! [iblk, V, idx t, img]
theorem blk5 (c : Dev nD) (t : Fin cfg0.N) (h : Fin 208) (u : Fin 8) (k : Fin 128) (w : Fin 272) (hw : w.val = 16 * (t.val % 17) + 8 + u.val) (ch : Fin 256) (hc : ch.val = 128 + k.val) :
    (iblk m c 5 t : Vec Ideal S1x208x8x128 .i8) (ix4 0 h u k) = m ((c : Thread nD τ).loc main_arg2) (ix4 (img t) h w ch) := by
  blk_ext! [iblk, V, idx t, img]

/-- The feature scales' block: column by column. -/
theorem blk6 (c : Dev nD) (t : Fin cfg0.N) (k : Fin 16) (h : Fin 208) (w : Fin 272) (hw : w.val = 16 * (t.val % 17) + k.val) :
    (iblk m c 6 t : Vec Ideal S1x16x208 .f32) (ix3 0 k h) = m ((c : Thread nD τ).loc main_arg3) (ix3 (img t) h w) := by
  blk_ext! [iblk, V, idx t, img]

/-- A mask logit at the arguments' contents. -/
def maskM (c : Dev nD) (b : Fin 6) (q : Fin 100) (h : Fin 208) (w : Fin 272) : EReal :=
  Spec.maskAt (m ((c : Thread nD τ).loc main_arg0)) (m ((c : Thread nD τ).loc main_arg1)) (m ((c : Thread nD τ).loc main_arg2)) (m ((c : Thread nD τ).loc main_arg3)) b q h w

/-- A mean of four mask logits at the arguments' contents. -/
def downM (c : Dev nD) (b : Fin 6) (q : Fin 100) (i : Fin 104) (j : Fin 136) : EReal :=
  Spec.downAt (m ((c : Thread nD τ).loc main_arg0)) (m ((c : Thread nD τ).loc main_arg1)) (m ((c : Thread nD τ).loc main_arg2)) (m ((c : Thread nD τ).loc main_arg3)) b q i j

/-- The pixel's codes over the first pair of blocks (columns `0 … 7` of the chunk). -/
theorem featLo (c : Dev nD) (t : Fin cfg0.N) (h : Fin 208) (u : Fin 8) (w : Fin 272) (hw : w.val = 16 * (t.val % 17) + u.val) (k : Fin 256) :
    TileValue.featAt (iblk m c 2 t) (iblk m c 3 t) h u k = m ((c : Thread nD τ).loc main_arg2) (ix4 (img t) h w k) := by
  unfold TileValue.featAt
  split
  · exact blk2 m c t h u _ w hw k rfl
  · exact blk3 m c t h u _ w hw k (by show k.val = 128 + (k.val - 128); omega)

/-- … and over the second (columns `8 … 15`). -/
theorem featHi (c : Dev nD) (t : Fin cfg0.N) (h : Fin 208) (u : Fin 8) (w : Fin 272) (hw : w.val = 16 * (t.val % 17) + 8 + u.val) (k : Fin 256) :
    TileValue.featAt (iblk m c 4 t) (iblk m c 5 t) h u k = m ((c : Thread nD τ).loc main_arg2) (ix4 (img t) h w k) := by
  unfold TileValue.featAt
  split
  · exact blk4 m c t h u _ w hw k rfl
  · exact blk5 m c t h u _ w hw k (by show k.val = 128 + (k.val - 128); omega)

/-- One tile over its blocks, when the pixel's codes are those of column `w`, is a row of mask logits. -/
theorem tile_blocks (c : Dev nD) (t : Fin cfg0.N) (fa fb : Vec Ideal S1x208x8x128 .i8) (g : Fin 2) (k : Fin 4) (u : Fin 8)
    (hu : u.val = 4 * g.val + k.val) (v : Fin 16) (q : Fin 100) (h : Fin 208) (w : Fin 272) (hw : w.val = 16 * (t.val % 17) + v.val)
    (hf : ∀ j : Fin 256, TileValue.featAt fa fb h u j = m ((c : Thread nD τ).loc main_arg2) (ix4 (img t) h w j)) :
    tile (F := Ideal) (iblk m c 0 t) (iblk m c 1 t) fa fb g k (scaleRow (iblk m c 6 t) v) (ix2 q h) = maskM m c (img t) q h w := by
  refine (TileValue.tile_apply _ _ _ _ g k _ q h u hu).trans ?_
  refine congrArg₂ (HMul.hMul (α := EReal)) (congrArg₂ (HMul.hMul (α := EReal)) (Finset.sum_congr rfl fun j _ => ?_) (blk1 m c t q _)) (blk6 m c t v h w hw)
  exact congrArg₂ (fun a b : BitVec 8 => (((a.toInt : ℝ) : EReal) * ((b.toInt : ℝ) : EReal))) (blk0 m c t q j) (hf j)

/-- The sixteen tiles over a point's blocks are the sixteen columns of mask logits of its chunk. -/
theorem tiles_blocks (c : Dev nD) (t : Fin cfg0.N) (v : Fin 16) (q : Fin 100) (h : Fin 208) (w : Fin 272) (hw : w.val = 16 * (t.val % 17) + v.val) :
    tiles (F := Ideal) (iblk m c 0 t) (iblk m c 1 t) (iblk m c 2 t) (iblk m c 3 t) (iblk m c 4 t) (iblk m c 5 t) (iblk m c 6 t) v (ix2 q h)
      = maskM m c (img t) q h w := by
  unfold tiles
  split
  · next hv =>
    exact tile_blocks m c t _ _ _ _ ⟨v.val, hv⟩ (by show v.val = 4 * (v.val / 4 % 2) + v.val % 4; omega) v q h w hw
      (featLo m c t h _ w hw)
  · next hv =>
    exact tile_blocks m c t _ _ _ _ ⟨v.val - 8, by omega⟩ (by show v.val - 8 = 4 * (v.val / 4 % 2) + v.val % 4; omega) v q h w hw
      (featHi m c t h _ w (by show w.val = 16 * (t.val % 17) + 8 + (v.val - 8); omega))

/-- The down-sampled tiles over a point's blocks are means of four mask logits. -/
theorem down_blocks (c : Dev nD) (t : Fin cfg0.N) (v : Fin 8) (q : Fin 100) (k : Fin 104) (j : Fin 136) (hj : j.val = 8 * (t.val % 17) + v.val) :
    OutValue.downAt (tiles (F := Ideal) (iblk m c 0 t) (iblk m c 1 t) (iblk m c 2 t) (iblk m c 3 t) (iblk m c 4 t) (iblk m c 5 t) (iblk m c 6 t)) v (ix2 q ⟨k.val, by omega⟩)
      = downM m c (img t) q k j := by
  unfold OutValue.downAt
  refine (TileValue.down_apply _ _ q ⟨k.val, by omega⟩ k.isLt).trans ?_
  refine congrArg₂ (HMul.hMul (α := EReal)) (congrArg₂ (HAdd.hAdd (α := EReal)) (congrArg₂ (HAdd.hAdd (α := EReal)) ?_ ?_) (congrArg₂ (HAdd.hAdd (α := EReal)) ?_ ?_)) Spec.quarter_bits
  · exact tiles_blocks m c t _ q _ ⟨2 * j.val, by omega⟩ (by show 2 * j.val = 16 * (t.val % 17) + 2 * v.val; omega)
  · exact tiles_blocks m c t _ q _ ⟨2 * j.val + 1, by omega⟩ (by show 2 * j.val + 1 = 16 * (t.val % 17) + (2 * v.val + 1); omega)
  · exact tiles_blocks m c t _ q _ ⟨2 * j.val, by omega⟩ (by show 2 * j.val = 16 * (t.val % 17) + 2 * v.val; omega)
  · exact tiles_blocks m c t _ q _ ⟨2 * j.val + 1, by omega⟩ (by show 2 * j.val + 1 = 16 * (t.val % 17) + (2 * v.val + 1); omega)

/-- The mask call's first result: the mask logits, columns before rows. -/
theorem final7 (c : Dev nD) : (dats m 0 c).arrAt 7 cfg0.N = fun i => maskM m c (i 0) (i 1) (i 3) (i 2) := by
  refine (dats m 0 c).arrAt_eq_of_covers 7 _ (by decide +kernel) fun t _ y => ?_
  blk_simp
  rw [after0_7]
  simp only [outsAt0]
  obtain ⟨q, v, k, rfl⟩ : ∃ (q : Fin 100) (v : Fin 16) (k : Fin 208), y = (ix4 (0 : Fin 1) q v k : S1x100x16x208.Idx) :=
    ⟨y 1, y 2, y 3, by
      funext a
      match a with
      | ⟨0, _⟩ => exact Fin.ext (by have h0 : (y 0).val < 1 := (y 0).isLt; show (y 0).val = 0; omega)
      | ⟨1, _⟩ => rfl
      | ⟨2, _⟩ => rfl
      | ⟨3, _⟩ => rfl⟩
  have hi := congrFun (idx t).2.2.2.2.2.2.2.1
  have e0 : (((View.whole main_v3_0).slice (win0_7.rect t)).emb (ix4 (0 : Fin 1) q v k : S1x100x16x208.Idx) 0).val = win0_7.index t 0 * 1 + 1 * 0 := rfl
  have e1 : (((View.whole main_v3_0).slice (win0_7.rect t)).emb (ix4 (0 : Fin 1) q v k : S1x100x16x208.Idx) 1).val = win0_7.index t 1 * 100 + 1 * q.val := rfl
  have e2 : (((View.whole main_v3_0).slice (win0_7.rect t)).emb (ix4 (0 : Fin 1) q v k : S1x100x16x208.Idx) 2).val = win0_7.index t 2 * 16 + 1 * v.val := rfl
  have e3 : (((View.whole main_v3_0).slice (win0_7.rect t)).emb (ix4 (0 : Fin 1) q v k : S1x100x16x208.Idx) 3).val = win0_7.index t 3 * 208 + 1 * k.val := rfl
  have i0 : win0_7.index t 0 = t.val / 17 := hi 0
  have i1 : win0_7.index t 1 = 0 := hi 1
  have i2 : win0_7.index t 2 = t.val % 17 := hi 2
  have i3 : win0_7.index t 3 = 0 := hi 3
  rw [i0] at e0; rw [i1] at e1; rw [i2] at e2; rw [i3] at e3
  have f0 : ((View.whole main_v3_0).slice (win0_7.rect t)).emb (ix4 (0 : Fin 1) q v k : S1x100x16x208.Idx) 0 = img t := Fin.ext (by show _ = t.val / 17; rw [e0]; omega)
  have f1 : ((View.whole main_v3_0).slice (win0_7.rect t)).emb (ix4 (0 : Fin 1) q v k : S1x100x16x208.Idx) 1 = q := Fin.ext (by rw [e1]; omega)
  have f3 : ((View.whole main_v3_0).slice (win0_7.rect t)).emb (ix4 (0 : Fin 1) q v k : S1x100x16x208.Idx) 3 = k := Fin.ext (by rw [e3]; omega)
  refine (out7_apply _ _ _ _ _ _ _ _ _ _ _ _ _ _ _ _ _ _ _ _ _ _ _ _ _ _ _ _ _ _ _ q v k).trans ?_
  rw [f0, f1, f3]
  exact tiles_blocks m c t v q k _ (by rw [e2]; omega)

/-- Its second result: the means, columns before rows. -/
theorem final8 (c : Dev nD) : (dats m 0 c).arrAt 8 cfg0.N = fun i => downM m c (i 0) (i 1) (i 3) (i 2) := by
  refine (dats m 0 c).arrAt_eq_of_covers 8 _ (by decide +kernel) fun t _ y => ?_
  blk_simp
  rw [after0_8]
  simp only [outsAt0]
  obtain ⟨q, v, k, rfl⟩ : ∃ (q : Fin 100) (v : Fin 8) (k : Fin 104), y = (ix4 (0 : Fin 1) q v k : S1x100x8x104.Idx) :=
    ⟨y 1, y 2, y 3, by
      funext a
      match a with
      | ⟨0, _⟩ => exact Fin.ext (by have h0 : (y 0).val < 1 := (y 0).isLt; show (y 0).val = 0; omega)
      | ⟨1, _⟩ => rfl
      | ⟨2, _⟩ => rfl
      | ⟨3, _⟩ => rfl⟩
  have hi := congrFun (idx t).2.2.2.2.2.2.2.2
  have e0 : (((View.whole main_v3_1).slice (win0_8.rect t)).emb (ix4 (0 : Fin 1) q v k : S1x100x8x104.Idx) 0).val = win0_8.index t 0 * 1 + 1 * 0 := rfl
  have e1 : (((View.whole main_v3_1).slice (win0_8.rect t)).emb (ix4 (0 : Fin 1) q v k : S1x100x8x104.Idx) 1).val = win0_8.index t 1 * 100 + 1 * q.val := rfl
  have e2 : (((View.whole main_v3_1).slice (win0_8.rect t)).emb (ix4 (0 : Fin 1) q v k : S1x100x8x104.Idx) 2).val = win0_8.index t 2 * 8 + 1 * v.val := rfl
  have e3 : (((View.whole main_v3_1).slice (win0_8.rect t)).emb (ix4 (0 : Fin 1) q v k : S1x100x8x104.Idx) 3).val = win0_8.index t 3 * 104 + 1 * k.val := rfl
  have i0 : win0_8.index t 0 = t.val / 17 := hi 0
  have i1 : win0_8.index t 1 = 0 := hi 1
  have i2 : win0_8.index t 2 = t.val % 17 := hi 2
  have i3 : win0_8.index t 3 = 0 := hi 3
  rw [i0] at e0; rw [i1] at e1; rw [i2] at e2; rw [i3] at e3
  have f0 : ((View.whole main_v3_1).slice (win0_8.rect t)).emb (ix4 (0 : Fin 1) q v k : S1x100x8x104.Idx) 0 = img t := Fin.ext (by show _ = t.val / 17; rw [e0]; omega)
  have f1 : ((View.whole main_v3_1).slice (win0_8.rect t)).emb (ix4 (0 : Fin 1) q v k : S1x100x8x104.Idx) 1 = q := Fin.ext (by rw [e1]; omega)
  have f3 : ((View.whole main_v3_1).slice (win0_8.rect t)).emb (ix4 (0 : Fin 1) q v k : S1x100x8x104.Idx) 3 = k := Fin.ext (by rw [e3]; omega)
  refine (out8_apply _ _ _ _ _ _ _ _ _ _ _ _ _ _ _ _ _ _ _ _ _ _ _ _ _ _ _ _ _ _ _ q v k).trans ?_
  rw [f0, f1, f3]
  exact down_blocks m c t v q k _ (by rw [e2]; omega)

end Cert.Proof.ArrayValue

end
-- ==== Proof.RefValue.lean ====
module

public import proofs.«01_k».proof.Proof.Gen.ReferenceIdeal.Read
public import proofs.«01_k».proof.Proof.Spec
public import Idealize.ShloMosaic.Lib.WordCmp

/-! The reference's two results, read at an index. -/

@[expose] public section

noncomputable section

open Idealize.ShloMosaic

namespace Cert.Proof.RefValue

open Cert.ReferenceIdeal Cert.ReferenceIdeal.Gen Cert.ReferenceIdeal.Read Cert.Proof.Spec

variable (x0 : (⟨S6x100x256, .i8⟩ : BufTy).Contents (Elt Ideal)) (x1 : (⟨S6x100, .f32⟩ : BufTy).Contents (Elt Ideal))
  (x2 : (⟨S6x208x272x256, .i8⟩ : BufTy).Contents (Elt Ideal)) (x3 : (⟨S6x208x272, .f32⟩ : BufTy).Contents (Elt Ideal))

/-- The reference's scaled product. -/
theorem v12 (b : Fin 6) (q : Fin 100) (h : Fin 208) (w : Fin 272) :
    val_main_v12 (F := Ideal) x0 x1 x2 x3 (ix4 b q h w) = maskAt x0 x1 x2 x3 b q h w := by
  rw [val_main_v12_apply, val_main_v9_apply, val_main_v6_apply, val_main_v8_apply, val_main_v7_apply, val_main_v11_apply, val_main_v10_apply]
  refine congrArg₂ (fun a b : EReal => a * b) (congrArg₂ (fun a b : EReal => a * b) (Finset.sum_congr rfl fun c _ => ?_) ?_) ?_
  · refine congrArg₂ (fun a b : EReal => a * b) ?_ ?_
    · show (((BitVec.signExtend 32 (x0 _) : BitVec 32).toInt : ℝ) : EReal) = _
      rw [BitVec.toInt_signExtend_of_le (by decide)]
      refine congrArg (fun z : BitVec 8 => ((z.toInt : ℝ) : EReal)) (congrArg x0 ?_)
      funext a
      match a with
      | ⟨0, _⟩ => rfl
      | ⟨1, _⟩ => rfl
      | ⟨2, _⟩ => rfl
    · show (((BitVec.signExtend 32 (x2 _) : BitVec 32).toInt : ℝ) : EReal) = _
      rw [BitVec.toInt_signExtend_of_le (by decide)]
      refine congrArg (fun z : BitVec 8 => ((z.toInt : ℝ) : EReal)) (congrArg x2 ?_)
      funext a
      match a with
      | ⟨0, _⟩ => rfl
      | ⟨1, _⟩ => rfl
      | ⟨2, _⟩ => rfl
      | ⟨3, _⟩ => rfl
  · refine congrArg x1 ?_
    funext a
    match a with
    | ⟨0, _⟩ => rfl
    | ⟨1, _⟩ => rfl
  · refine congrArg x3 ?_
    funext a
    match a with
    | ⟨0, _⟩ => rfl
    | ⟨1, _⟩ => rfl
    | ⟨2, _⟩ => rfl

/-- One entry of a two-tap matrix, from its integer comparisons. -/
theorem tap (i k : Nat) (hi : i < 200) (hk : k < 300) :
    Scalar.select (IntOp.ori (IntOp.cmpi .eq (BitVec.ofNat 32 k) (IntOp.subi (IntOp.addi (IntOp.muli 2#32 (BitVec.ofNat 32 i)) 1#32) 1#32))
        (IntOp.cmpi .eq (BitVec.ofNat 32 k) (IntOp.addi (IntOp.subi (IntOp.addi (IntOp.muli 2#32 (BitVec.ofNat 32 i)) 1#32) 1#32) 1#32)))
      (Ideal.ofBits .f32 0x3F000000#32) (Ideal.ofBits .f32 0x00000000#32)
    = if k = 2 * i ∨ k = 2 * i + 1 then ((1 / 2 : ℝ) : EReal) else 0 := by
  have e1 : IntOp.subi (IntOp.addi (IntOp.muli 2#32 (BitVec.ofNat 32 i)) 1#32) 1#32 = BitVec.ofNat 32 (2 * i) := by
    apply BitVec.eq_of_toNat_eq
    simp only [IntOp.subi, IntOp.addi, IntOp.muli, BitVec.toNat_sub, BitVec.toNat_add, BitVec.toNat_mul, BitVec.toNat_ofNat]
    omega
  have e2 : IntOp.addi (BitVec.ofNat 32 (2 * i)) 1#32 = BitVec.ofNat 32 (2 * i + 1) := by
    apply BitVec.eq_of_toNat_eq
    simp only [IntOp.addi, BitVec.toNat_add, BitVec.toNat_ofNat]
    omega
  rw [e1, e2, WordCmp.cmpi_eq_eq, WordCmp.cmpi_eq_eq, WordCmp.ori_ofBool, half_bits, Ideal.ofBits_zero_f32]
  simp only [WordCmp.ofNat_eq_ofNat_iff (w := 32) (a := k) (b := 2 * i) (by omega) (by omega),
    WordCmp.ofNat_eq_ofNat_iff (w := 32) (a := k) (b := 2 * i + 1) (by omega) (by omega)]
  unfold Scalar.select
  by_cases h1 : k = 2 * i <;> by_cases h2 : k = 2 * i + 1 <;> simp [h1, h2]

/-- The two-tap matrix of the rows. -/
theorem v34 (i : Fin 104) (k : Fin 208) : val_main_v34 (F := Ideal) (ix2 i k)
    = if k = ⟨2 * i.val, by omega⟩ ∨ k = ⟨2 * i.val + 1, by omega⟩ then ((1 / 2 : ℝ) : EReal) else 0 := by
  simp only [val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply,
    val_main_call0_v0_apply, val_main_call0_v1_apply, val_main_cst_apply, val_main_cst_3_apply, val_main_c_apply, val_main_c_0_apply, val_main_c_1_apply, val_main_c_2_apply]
  refine (tap i.val k.val (by omega) (by omega)).trans ?_
  simp only [Fin.ext_iff]

/-- The two-tap matrix of the columns. -/
theorem v57 (i : Fin 136) (k : Fin 272) : val_main_v57 (F := Ideal) (ix2 i k)
    = if k = ⟨2 * i.val, by omega⟩ ∨ k = ⟨2 * i.val + 1, by omega⟩ then ((1 / 2 : ℝ) : EReal) else 0 := by
  simp only [val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply,
    val_main_call1_v0_apply, val_main_call1_v1_apply, val_main_cst_8_apply, val_main_cst_9_apply, val_main_c_4_apply, val_main_c_5_apply, val_main_c_6_apply, val_main_c_7_apply]
  refine (tap i.val k.val (by omega) (by omega)).trans ?_
  simp only [Fin.ext_iff]

/-- The reference's rows taken two by two. -/
theorem v36 (b : Fin 6) (q : Fin 100) (i : Fin 104) (w : Fin 272) :
    val_main_v36 (F := Ideal) x0 x1 x2 x3 (ix4 b q i w)
      = (maskAt x0 x1 x2 x3 b q ⟨2 * i.val, by omega⟩ w + maskAt x0 x1 x2 x3 b q ⟨2 * i.val + 1, by omega⟩ w) * ((1 / 2 : ℝ) : EReal) := by
  rw [val_main_v36_apply, val_main_v35_apply, ← sum_two_taps (fun h => maskAt x0 x1 x2 x3 b q h w) (fun h => val_main_v34 (F := Ideal) (ix2 i h))
    ⟨2 * i.val, by omega⟩ ⟨2 * i.val + 1, by omega⟩ (by simp [Fin.ext_iff]) (v34 i)]
  refine Finset.sum_congr rfl fun h _ => ?_
  rw [← v12]
  refine congrArg₂ (fun a b : EReal => a * b) (congrArg (val_main_v12 (F := Ideal) x0 x1 x2 x3) ?_) (congrArg (val_main_v34 (F := Ideal)) ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The reference's first result. -/
theorem v59 (b : Fin 6) (q : Fin 100) (w : Fin 272) (h : Fin 208) :
    val_main_v59 (F := Ideal) x0 x1 x2 x3 (ix4 b q w h) = maskAt x0 x1 x2 x3 b q h w := by
  rw [val_main_v59_apply, val_main_v13_apply, ← v12]
  refine congrArg (val_main_v12 (F := Ideal) x0 x1 x2 x3) ?_
  funext a
  match a with
  | ⟨0, _⟩ => rfl
  | ⟨1, _⟩ => rfl
  | ⟨2, _⟩ => rfl
  | ⟨3, _⟩ => rfl

/-- The reference's second result. -/
theorem v60 (b : Fin 6) (q : Fin 100) (j : Fin 136) (i : Fin 104) :
    val_main_v60 (F := Ideal) x0 x1 x2 x3 (ix4 b q j i) = downAt x0 x1 x2 x3 b q i j := by
  have hs := sum_two_taps (fun w => val_main_v36 (F := Ideal) x0 x1 x2 x3 (ix4 b q i w)) (fun w => val_main_v57 (F := Ideal) (ix2 j w))
    ⟨2 * j.val, by omega⟩ ⟨2 * j.val + 1, by omega⟩ (by simp [Fin.ext_iff]) (v57 j)
  rw [v36, v36, quarter] at hs
  rw [val_main_v60_apply, val_main_v58_apply]
  refine Eq.trans (Finset.sum_congr rfl fun w _ => ?_) hs
  refine congrArg₂ (fun a b : EReal => a * b) (congrArg (val_main_v36 (F := Ideal) x0 x1 x2 x3) ?_) (congrArg (val_main_v57 (F := Ideal)) ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

end Cert.Proof.RefValue

end
-- ==== Proof.Algebraic.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.ArrayValue
public import proofs.«01_k».proof.Proof.RefValue

/-! The mask call and the reference end with equal results over the extended reals. -/

@[expose] public section

set_option maxRecDepth 16384

noncomputable section

open Idealize.ShloMosaic Idealize.ShloMosaic.TcCoe Idealize.SL.Sem

namespace Cert.Proof.Algebraic

/-- From memories that agree on the arguments, the kernel's two results are the reference's, element by element. -/
theorem algebraic : Cert.algebraic_KernelIdeal_ReferenceIdeal := fun m g m' g' _ hagree => by
  refine ⟨_, _, Cert.KernelIdeal.Value.run_blocks m g, ?_⟩
  refine (θ_run Cert.ReferenceIdeal.defs _ _).mono (fun r h c => ?_) (Cert.ReferenceIdeal.Value.run (F := Ideal) m' g')
  obtain ⟨h0, h1, ha⟩ := h c
  obtain ⟨a0, a1, a2, a3⟩ := hagree c
  refine ⟨h0.trans ?_, h1.trans ?_, ha⟩
  · rw [a0, a1, a2, a3]
    refine (Cert.ReferenceIdeal.Read.val_main_v59_eq _ _ _ _).trans (Eq.trans (funext fun i => ?_) (ArrayValue.final7 m c).symm)
    obtain ⟨b, q, w, k, rfl⟩ : ∃ (b : Fin 6) (q : Fin 100) (w : Fin 272) (k : Fin 208), i = (ix4 b q w k : Cert.ReferenceIdeal.S6x100x272x208.Idx) :=
      ⟨i 0, i 1, i 2, i 3, by
        funext a
        match a with
        | ⟨0, _⟩ => rfl
        | ⟨1, _⟩ => rfl
        | ⟨2, _⟩ => rfl
        | ⟨3, _⟩ => rfl⟩
    exact RefValue.v59 _ _ _ _ b q w k
  · rw [a0, a1, a2, a3]
    refine (Cert.ReferenceIdeal.Read.val_main_v60_eq _ _ _ _).trans (Eq.trans (funext fun i => ?_) (ArrayValue.final8 m c).symm)
    obtain ⟨b, q, w, k, rfl⟩ : ∃ (b : Fin 6) (q : Fin 100) (w : Fin 136) (k : Fin 104), i = (ix4 b q w k : Cert.ReferenceIdeal.S6x100x136x104.Idx) :=
      ⟨i 0, i 1, i 2, i 3, by
        funext a
        match a with
        | ⟨0, _⟩ => rfl
        | ⟨1, _⟩ => rfl
        | ⟨2, _⟩ => rfl
        | ⟨3, _⟩ => rfl⟩
    exact RefValue.v60 _ _ _ _ b q w k

end Cert.Proof.Algebraic

end
-- ==== Proof.QueryRun.lean ====
/- The run of the query call's body: what its stores leave in every result's block, found by running the body part by part. -/
module

public import proofs.«01_k».proof.Proof.Gen.Query.Frame.Runs

@[expose] public section

-- membership in a rectangle of production extents (`View.cover_of_tiled`): the elaborator's structural look
-- recurses once per coordinate of the long axes
set_option maxRecDepth 16384

noncomputable section

namespace Cert.Proof.Query

open Cert.Query Cert.Query.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at a value is its points-to at the contents that read that value. -/
theorem owns_eq_unread (c : Dev nD) {sp : Space} {sh : Shape} {e : EltTy} (m : Memref sig .tc sp sh e) (h : m.IsWhole) (X : Vec F sh e) :
    (owns (c : Thread nD τ) m fullShare X : sProp 𝕄) = (m.view.loc (c : Thread nD τ) ↦[m.view.set]{fullShare} h.unread X) := by
  unfold owns
  have h₁ : iprop(∃ f, ⌜m.view.read (Elt F) f = X⌝ ∗ (m.view.loc (c : Thread nD τ) ↦[m.view.set]{fullShare} f))
      ⊢ (m.view.loc (c : Thread nD τ) ↦[m.view.set]{fullShare} h.unread X : sProp 𝕄) := by
    iintro ⟨%f, %hf, H⟩
    obtain rfl := h.eq_unread hf
    iexact H
  have h₂ : (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
    iintro H
    iexists _
    isplitr
    · ipureintro; exact h.read_unread _
    iexact H
  exact Idealize.SL.BI.equiv_iff.mp ⟨h₁, h₂⟩

/-- The pieces the body's stores leave in every result's block and in the scratch, the last written first. -/
structure Pieces (F : FTy → Type) [FloatOps F] where
  L44 : List (View.Piece (Elt F) S6x100x256 .bf16)
  L45 : List (View.Piece (Elt F) S6x134x100 .f32)
  L46 : List (View.Piece (Elt F) S6x100 .f32)
  L47 : List (View.Piece (Elt F) S6x100x256 .i8)
  L48 : List (View.Piece (Elt F) S6x100 .f32)
  L49 : List (View.Piece (Elt F) S6x100x256 .i8)
  L50 : List (View.Piece (Elt F) S6x100 .f32)
  L51 : List (View.Piece (Elt F) S6x100x256 .i8)
  L52 : List (View.Piece (Elt F) S6x100 .f32)
  L53 : List (View.Piece (Elt F) S6x100x256 .i8)
  L54 : List (View.Piece (Elt F) S6x100 .f32)
  L55 : List (View.Piece (Elt F) S6x100x256 .i8)
  L56 : List (View.Piece (Elt F) S6x100 .f32)
  L57 : List (View.Piece (Elt F) S6x100x2048 .i8)
  L58 : List (View.Piece (Elt F) S6x100 .f32)
  L59 : List (View.Piece (Elt F) S6x100x256 .i8)
  L60 : List (View.Piece (Elt F) S6x100 .f32)
  L61 : List (View.Piece (Elt F) S6x100x256 .i8)
  L62 : List (View.Piece (Elt F) S6x100 .f32)
  L63 : List (View.Piece (Elt F) S6x100x256 .i8)
  L64 : List (View.Piece (Elt F) S6x100 .f32)
  L65 : List (View.Piece (Elt F) S6x100x256 .i8)
  L66 : List (View.Piece (Elt F) S6x100 .f32)
  L67 : List (View.Piece (Elt F) S6x100x128 .f32)
  LT0 : List (View.Piece (Elt F) S6x104x256 .f32)

-- (the run's proof term is large: the definition's epilogue — `abstractNestedProofs` — walks it past the default budget)
set_option maxHeartbeats 12000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def bodyRun (c : Dev nD) (arg0 : Memref sig .tc .vmem S6x100x256 .bf16) (harg0 : arg0.IsWhole) (arg1 : Memref sig .tc .vmem S100x256 .f32) (harg1 : arg1.IsWhole) (arg2 : Memref sig .tc .vmem S6x100x256 .f32) (harg2 : arg2.IsWhole) (arg3 : Memref sig .tc .vmem S6x100x128 .f32) (harg3 : arg3.IsWhole) (arg4 : Memref sig .tc .vmem S256x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .i8) (harg12 : arg12.IsWhole) (arg13 : Memref sig .tc .vmem S1x256 .f32) (harg13 : arg13.IsWhole) (arg14 : Memref sig .tc .vmem S256x256 .i8) (harg14 : arg14.IsWhole) (arg15 : Memref sig .tc .vmem S1x256 .f32) (harg15 : arg15.IsWhole) (arg16 : Memref sig .tc .vmem S1x256 .f32) (harg16 : arg16.IsWhole) (arg17 : Memref sig .tc .vmem S256x256 .i8) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x2048 .i8) (harg22 : arg22.IsWhole) (arg23 : Memref sig .tc .vmem S1x2048 .f32) (harg23 : arg23.IsWhole) (arg24 : Memref sig .tc .vmem S1x2048 .f32) (harg24 : arg24.IsWhole) (arg25 : Memref sig .tc .vmem S2048x256 .i8) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S134x256 .i8) (harg32 : arg32.IsWhole) (arg33 : Memref sig .tc .vmem S1x134 .f32) (harg33 : arg33.IsWhole) (arg34 : Memref sig .tc .vmem S1x134 .f32) (harg34 : arg34.IsWhole) (arg35 : Memref sig .tc .vmem S256x256 .i8) (harg35 : arg35.IsWhole) (arg36 : Memref sig .tc .vmem S1x256 .f32) (harg36 : arg36.IsWhole) (arg37 : Memref sig .tc .vmem S1x256 .f32) (harg37 : arg37.IsWhole) (arg38 : Memref sig .tc .vmem S256x256 .i8) (harg38 : arg38.IsWhole) (arg39 : Memref sig .tc .vmem S1x256 .f32) (harg39 : arg39.IsWhole) (arg40 : Memref sig .tc .vmem S1x256 .f32) (harg40 : arg40.IsWhole) (arg41 : Memref sig .tc .vmem S256x256 .i8) (harg41 : arg41.IsWhole) (arg42 : Memref sig .tc .vmem S1x256 .f32) (harg42 : arg42.IsWhole) (arg43 : Memref sig .tc .vmem S1x256 .f32) (harg43 : arg43.IsWhole) (arg44 : Memref sig .tc .vmem S6x100x256 .bf16) (harg44 : arg44.IsWhole) (arg45 : Memref sig .tc .vmem S6x134x100 .f32) (harg45 : arg45.IsWhole) (arg46 : Memref sig .tc .vmem S6x100 .f32) (harg46 : arg46.IsWhole) (arg47 : Memref sig .tc .vmem S6x100x256 .i8) (harg47 : arg47.IsWhole) (arg48 : Memref sig .tc .vmem S6x100 .f32) (harg48 : arg48.IsWhole) (arg49 : Memref sig .tc .vmem S6x100x256 .i8) (harg49 : arg49.IsWhole) (arg50 : Memref sig .tc .vmem S6x100 .f32) (harg50 : arg50.IsWhole) (arg51 : Memref sig .tc .vmem S6x100x256 .i8) (harg51 : arg51.IsWhole) (arg52 : Memref sig .tc .vmem S6x100 .f32) (harg52 : arg52.IsWhole) (arg53 : Memref sig .tc .vmem S6x100x256 .i8) (harg53 : arg53.IsWhole) (arg54 : Memref sig .tc .vmem S6x100 .f32) (harg54 : arg54.IsWhole) (arg55 : Memref sig .tc .vmem S6x100x256 .i8) (harg55 : arg55.IsWhole) (arg56 : Memref sig .tc .vmem S6x100 .f32) (harg56 : arg56.IsWhole) (arg57 : Memref sig .tc .vmem S6x100x2048 .i8) (harg57 : arg57.IsWhole) (arg58 : Memref sig .tc .vmem S6x100 .f32) (harg58 : arg58.IsWhole) (arg59 : Memref sig .tc .vmem S6x100x256 .i8) (harg59 : arg59.IsWhole) (arg60 : Memref sig .tc .vmem S6x100 .f32) (harg60 : arg60.IsWhole) (arg61 : Memref sig .tc .vmem S6x100x256 .i8) (harg61 : arg61.IsWhole) (arg62 : Memref sig .tc .vmem S6x100 .f32) (harg62 : arg62.IsWhole) (arg63 : Memref sig .tc .vmem S6x100x256 .i8) (harg63 : arg63.IsWhole) (arg64 : Memref sig .tc .vmem S6x100 .f32) (harg64 : arg64.IsWhole) (arg65 : Memref sig .tc .vmem S6x100x256 .i8) (harg65 : arg65.IsWhole) (arg66 : Memref sig .tc .vmem S6x100 .f32) (harg66 : arg66.IsWhole) (arg67 : Memref sig .tc .vmem S6x100x128 .f32) (harg67 : arg67.IsWhole) (arg68 : Memref sig .tc .vmem S6x104x256 .f32) (harg68 : arg68.IsWhole)
    (x0 : Vec F S6x100x256 .bf16) (x1 : Vec F S100x256 .f32) (x2 : Vec F S6x100x256 .f32) (x3 : Vec F S6x100x128 .f32) (x4 : Vec F S256x256 .i8) (x5 : Vec F S1x256 .f32) (x6 : Vec F S1x256 .f32) (x7 : Vec F S1x256 .f32) (x8 : Vec F S1x256 .f32) (x9 : Vec F S256x256 .i8) (x10 : Vec F S1x256 .f32) (x11 : Vec F S1x256 .f32) (x12 : Vec F S256x256 .i8) (x13 : Vec F S1x256 .f32) (x14 : Vec F S256x256 .i8) (x15 : Vec F S1x256 .f32) (x16 : Vec F S1x256 .f32) (x17 : Vec F S256x256 .i8) (x18 : Vec F S1x256 .f32) (x19 : Vec F S1x256 .f32) (x20 : Vec F S1x256 .f32) (x21 : Vec F S1x256 .f32) (x22 : Vec F S256x2048 .i8) (x23 : Vec F S1x2048 .f32) (x24 : Vec F S1x2048 .f32) (x25 : Vec F S2048x256 .i8) (x26 : Vec F S1x256 .f32) (x27 : Vec F S1x256 .f32) (x28 : Vec F S1x256 .f32) (x29 : Vec F S1x256 .f32) (x30 : Vec F S1x256 .f32) (x31 : Vec F S1x256 .f32) (x32 : Vec F S134x256 .i8) (x33 : Vec F S1x134 .f32) (x34 : Vec F S1x134 .f32) (x35 : Vec F S256x256 .i8) (x36 : Vec F S1x256 .f32) (x37 : Vec F S1x256 .f32) (x38 : Vec F S256x256 .i8) (x39 : Vec F S1x256 .f32) (x40 : Vec F S1x256 .f32) (x41 : Vec F S256x256 .i8) (x42 : Vec F S1x256 .f32) (x43 : Vec F S1x256 .f32) :
    { L : Pieces F //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ f, arg44.view.loc (c : Thread nD τ) ↦[arg44.view.set]{fullShare} arg44.view.writes (Elt F) f L.L44) ∗ (∃ f, arg45.view.loc (c : Thread nD τ) ↦[arg45.view.set]{fullShare} arg45.view.writes (Elt F) f L.L45) ∗ (∃ f, arg46.view.loc (c : Thread nD τ) ↦[arg46.view.set]{fullShare} arg46.view.writes (Elt F) f L.L46) ∗ (∃ f, arg47.view.loc (c : Thread nD τ) ↦[arg47.view.set]{fullShare} arg47.view.writes (Elt F) f L.L47) ∗ (∃ f, arg48.view.loc (c : Thread nD τ) ↦[arg48.view.set]{fullShare} arg48.view.writes (Elt F) f L.L48) ∗ (∃ f, arg49.view.loc (c : Thread nD τ) ↦[arg49.view.set]{fullShare} arg49.view.writes (Elt F) f L.L49) ∗ (∃ f, arg50.view.loc (c : Thread nD τ) ↦[arg50.view.set]{fullShare} arg50.view.writes (Elt F) f L.L50) ∗ (∃ f, arg51.view.loc (c : Thread nD τ) ↦[arg51.view.set]{fullShare} arg51.view.writes (Elt F) f L.L51) ∗ (∃ f, arg52.view.loc (c : Thread nD τ) ↦[arg52.view.set]{fullShare} arg52.view.writes (Elt F) f L.L52) ∗ (∃ f, arg53.view.loc (c : Thread nD τ) ↦[arg53.view.set]{fullShare} arg53.view.writes (Elt F) f L.L53) ∗ (∃ f, arg54.view.loc (c : Thread nD τ) ↦[arg54.view.set]{fullShare} arg54.view.writes (Elt F) f L.L54) ∗ (∃ f, arg55.view.loc (c : Thread nD τ) ↦[arg55.view.set]{fullShare} arg55.view.writes (Elt F) f L.L55) ∗ (∃ f, arg56.view.loc (c : Thread nD τ) ↦[arg56.view.set]{fullShare} arg56.view.writes (Elt F) f L.L56) ∗ (∃ f, arg57.view.loc (c : Thread nD τ) ↦[arg57.view.set]{fullShare} arg57.view.writes (Elt F) f L.L57) ∗ (∃ f, arg58.view.loc (c : Thread nD τ) ↦[arg58.view.set]{fullShare} arg58.view.writes (Elt F) f L.L58) ∗ (∃ f, arg59.view.loc (c : Thread nD τ) ↦[arg59.view.set]{fullShare} arg59.view.writes (Elt F) f L.L59) ∗ (∃ f, arg60.view.loc (c : Thread nD τ) ↦[arg60.view.set]{fullShare} arg60.view.writes (Elt F) f L.L60) ∗ (∃ f, arg61.view.loc (c : Thread nD τ) ↦[arg61.view.set]{fullShare} arg61.view.writes (Elt F) f L.L61) ∗ (∃ f, arg62.view.loc (c : Thread nD τ) ↦[arg62.view.set]{fullShare} arg62.view.writes (Elt F) f L.L62) ∗ (∃ f, arg63.view.loc (c : Thread nD τ) ↦[arg63.view.set]{fullShare} arg63.view.writes (Elt F) f L.L63) ∗ (∃ f, arg64.view.loc (c : Thread nD τ) ↦[arg64.view.set]{fullShare} arg64.view.writes (Elt F) f L.L64) ∗ (∃ f, arg65.view.loc (c : Thread nD τ) ↦[arg65.view.set]{fullShare} arg65.view.writes (Elt F) f L.L65) ∗ (∃ f, arg66.view.loc (c : Thread nD τ) ↦[arg66.view.set]{fullShare} arg66.view.writes (Elt F) f L.L66) ∗ (∃ f, arg67.view.loc (c : Thread nD τ) ↦[arg67.view.set]{fullShare} arg67.view.writes (Elt F) f L.L67) ∗ (∃ f, arg68.view.loc (c : Thread nD τ) ↦[arg68.view.set]{fullShare} arg68.view.writes (Elt F) f L.LT0)) -∗ K ⟨⟩))
          ⊢ wp frame (wpE (defs₀ (F := F)) Variants.none c none) E (cc0_query arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68) K } := by
  refine ⟨⟨?_, ?_, ?_, ?_, ?_, ?_, ?_, ?_, ?_, ?_, ?_, ?_, ?_, ?_, ?_, ?_, ?_, ?_, ?_, ?_, ?_, ?_, ?_, ?_, ?_⟩, fun E K => ?run⟩
  case run =>
    dsimp only
    simp only [cc0_query_eq_skeleton]; unfold cc0_query_skel
    simp only [owns_eq_unread c arg0 harg0 x0, owns_eq_unread c arg1 harg1 x1, owns_eq_unread c arg2 harg2 x2, owns_eq_unread c arg3 harg3 x3, owns_eq_unread c arg4 harg4 x4, owns_eq_unread c arg5 harg5 x5, owns_eq_unread c arg6 harg6 x6, owns_eq_unread c arg7 harg7 x7, owns_eq_unread c arg8 harg8 x8, owns_eq_unread c arg9 harg9 x9, owns_eq_unread c arg10 harg10 x10, owns_eq_unread c arg11 harg11 x11, owns_eq_unread c arg12 harg12 x12, owns_eq_unread c arg13 harg13 x13, owns_eq_unread c arg14 harg14 x14, owns_eq_unread c arg15 harg15 x15, owns_eq_unread c arg16 harg16 x16, owns_eq_unread c arg17 harg17 x17, owns_eq_unread c arg18 harg18 x18, owns_eq_unread c arg19 harg19 x19, owns_eq_unread c arg20 harg20 x20, owns_eq_unread c arg21 harg21 x21, owns_eq_unread c arg22 harg22 x22, owns_eq_unread c arg23 harg23 x23, owns_eq_unread c arg24 harg24 x24, owns_eq_unread c arg25 harg25 x25, owns_eq_unread c arg26 harg26 x26, owns_eq_unread c arg27 harg27 x27, owns_eq_unread c arg28 harg28 x28, owns_eq_unread c arg29 harg29 x29, owns_eq_unread c arg30 harg30 x30, owns_eq_unread c arg31 harg31 x31, owns_eq_unread c arg32 harg32 x32, owns_eq_unread c arg33 harg33 x33, owns_eq_unread c arg34 harg34 x34, owns_eq_unread c arg35 harg35 x35, owns_eq_unread c arg36 harg36 x36, owns_eq_unread c arg37 harg37 x37, owns_eq_unread c arg38 harg38 x38, owns_eq_unread c arg39 harg39 x39, owns_eq_unread c arg40 harg40 x40, owns_eq_unread c arg41 harg41 x41, owns_eq_unread c arg42 harg42 x42, owns_eq_unread c arg43 harg43 x43]
    unfold owns
    iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%ds0, %fs0, -, HS0⟩, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    isplitl [H60]; · iexists _; iexact H60
    isplitl [H61]; · iexists _; iexact H61
    isplitl [H62]; · iexists _; iexact H62
    isplitl [H63]; · iexists _; iexact H63
    isplitl [H64]; · iexists _; iexact H64
    isplitl [H65]; · iexists _; iexact H65
    isplitl [H66]; · iexists _; iexact H66
    isplitl [H67]; · iexists _; iexact H67
    iexists _; iexact HS0

end Cert.Proof.Query

end
-- ==== Proof.QueryBody.lean ====
/- What the query call's body leaves in every result's block, the proof data of its one-point pipeline, and the body's
   triple. -/
module

public import proofs.«01_k».proof.Proof.QueryRun
public import Idealize.ShloMosaic.Lib.Claim
public import Idealize.ShloMosaic.Lib.Pipeline.Value

@[expose] public section

set_option maxRecDepth 16384

noncomputable section

namespace Cert.Proof.Query

open Cert.Query Cert.Query.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point, at the point's memrefs and input blocks. -/
noncomputable def runAt (c : Dev nD) (t : Fin cfg0.N) :=
  bodyRun (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) (ms0_47 t) (hs0_47 t) (ms0_48 t) (hs0_48 t) (ms0_49 t) (hs0_49 t) (ms0_50 t) (hs0_50 t) (ms0_51 t) (hs0_51 t) (ms0_52 t) (hs0_52 t) (ms0_53 t) (hs0_53 t) (ms0_54 t) (hs0_54 t) (ms0_55 t) (hs0_55 t) (ms0_56 t) (hs0_56 t) (ms0_57 t) (hs0_57 t) (ms0_58 t) (hs0_58 t) (ms0_59 t) (hs0_59 t) (ms0_60 t) (hs0_60 t) (ms0_61 t) (hs0_61 t) (ms0_62 t) (hs0_62 t) (ms0_63 t) (hs0_63 t) (ms0_64 t) (hs0_64 t) (ms0_65 t) (hs0_65 t) (ms0_66 t) (hs0_66 t) (ms0_67 t) (hs0_67 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t)

theorem cover44 (c : Dev nD) (t : Fin cfg0.N) (y : S6x100x256.Idx) : ∃ pc ∈ (runAt m c t).1.L44, y ∈ pc.1.set :=
  View.cover_of_tiledL (runAt m c t).1.L44 S1x100x256.size (by sl_kernel_rfl) y

noncomputable def out44 (c : Dev nD) (t : Fin cfg0.N) : Vec F S6x100x256 .bf16 :=
  View.canon (Val := Elt F) (runAt m c t).1.L44

theorem cover45 (c : Dev nD) (t : Fin cfg0.N) (y : S6x134x100.Idx) : ∃ pc ∈ (runAt m c t).1.L45, y ∈ pc.1.set :=
  View.cover_of_tiledL (runAt m c t).1.L45 S1x134x100.size (by sl_kernel_rfl) y

noncomputable def out45 (c : Dev nD) (t : Fin cfg0.N) : Vec F S6x134x100 .f32 :=
  View.canon (Val := Elt F) (runAt m c t).1.L45

theorem cover46 (c : Dev nD) (t : Fin cfg0.N) (y : S6x100.Idx) : ∃ pc ∈ (runAt m c t).1.L46, y ∈ pc.1.set :=
  View.cover_of_tiledL (runAt m c t).1.L46 S1x100.size (by sl_kernel_rfl) y

noncomputable def out46 (c : Dev nD) (t : Fin cfg0.N) : Vec F S6x100 .f32 :=
  View.canon (Val := Elt F) (runAt m c t).1.L46

theorem cover47 (c : Dev nD) (t : Fin cfg0.N) (y : S6x100x256.Idx) : ∃ pc ∈ (runAt m c t).1.L47, y ∈ pc.1.set :=
  View.cover_of_tiledL (runAt m c t).1.L47 S1x100x256.size (by sl_kernel_rfl) y

noncomputable def out47 (c : Dev nD) (t : Fin cfg0.N) : Vec F S6x100x256 .i8 :=
  View.canon (Val := Elt F) (runAt m c t).1.L47

theorem cover48 (c : Dev nD) (t : Fin cfg0.N) (y : S6x100.Idx) : ∃ pc ∈ (runAt m c t).1.L48, y ∈ pc.1.set :=
  View.cover_of_tiledL (runAt m c t).1.L48 S1x100.size (by sl_kernel_rfl) y

noncomputable def out48 (c : Dev nD) (t : Fin cfg0.N) : Vec F S6x100 .f32 :=
  View.canon (Val := Elt F) (runAt m c t).1.L48

theorem cover49 (c : Dev nD) (t : Fin cfg0.N) (y : S6x100x256.Idx) : ∃ pc ∈ (runAt m c t).1.L49, y ∈ pc.1.set :=
  View.cover_of_tiledL (runAt m c t).1.L49 S1x100x256.size (by sl_kernel_rfl) y

noncomputable def out49 (c : Dev nD) (t : Fin cfg0.N) : Vec F S6x100x256 .i8 :=
  View.canon (Val := Elt F) (runAt m c t).1.L49

theorem cover50 (c : Dev nD) (t : Fin cfg0.N) (y : S6x100.Idx) : ∃ pc ∈ (runAt m c t).1.L50, y ∈ pc.1.set :=
  View.cover_of_tiledL (runAt m c t).1.L50 S1x100.size (by sl_kernel_rfl) y

noncomputable def out50 (c : Dev nD) (t : Fin cfg0.N) : Vec F S6x100 .f32 :=
  View.canon (Val := Elt F) (runAt m c t).1.L50

theorem cover51 (c : Dev nD) (t : Fin cfg0.N) (y : S6x100x256.Idx) : ∃ pc ∈ (runAt m c t).1.L51, y ∈ pc.1.set :=
  View.cover_of_tiledL (runAt m c t).1.L51 S1x100x256.size (by sl_kernel_rfl) y

noncomputable def out51 (c : Dev nD) (t : Fin cfg0.N) : Vec F S6x100x256 .i8 :=
  View.canon (Val := Elt F) (runAt m c t).1.L51

theorem cover52 (c : Dev nD) (t : Fin cfg0.N) (y : S6x100.Idx) : ∃ pc ∈ (runAt m c t).1.L52, y ∈ pc.1.set :=
  View.cover_of_tiledL (runAt m c t).1.L52 S1x100.size (by sl_kernel_rfl) y

noncomputable def out52 (c : Dev nD) (t : Fin cfg0.N) : Vec F S6x100 .f32 :=
  View.canon (Val := Elt F) (runAt m c t).1.L52

theorem cover53 (c : Dev nD) (t : Fin cfg0.N) (y : S6x100x256.Idx) : ∃ pc ∈ (runAt m c t).1.L53, y ∈ pc.1.set :=
  View.cover_of_tiledL (runAt m c t).1.L53 S1x100x256.size (by sl_kernel_rfl) y

noncomputable def out53 (c : Dev nD) (t : Fin cfg0.N) : Vec F S6x100x256 .i8 :=
  View.canon (Val := Elt F) (runAt m c t).1.L53

theorem cover54 (c : Dev nD) (t : Fin cfg0.N) (y : S6x100.Idx) : ∃ pc ∈ (runAt m c t).1.L54, y ∈ pc.1.set :=
  View.cover_of_tiledL (runAt m c t).1.L54 S1x100.size (by sl_kernel_rfl) y

noncomputable def out54 (c : Dev nD) (t : Fin cfg0.N) : Vec F S6x100 .f32 :=
  View.canon (Val := Elt F) (runAt m c t).1.L54

theorem cover55 (c : Dev nD) (t : Fin cfg0.N) (y : S6x100x256.Idx) : ∃ pc ∈ (runAt m c t).1.L55, y ∈ pc.1.set :=
  View.cover_of_tiledL (runAt m c t).1.L55 S1x100x256.size (by sl_kernel_rfl) y

noncomputable def out55 (c : Dev nD) (t : Fin cfg0.N) : Vec F S6x100x256 .i8 :=
  View.canon (Val := Elt F) (runAt m c t).1.L55

theorem cover56 (c : Dev nD) (t : Fin cfg0.N) (y : S6x100.Idx) : ∃ pc ∈ (runAt m c t).1.L56, y ∈ pc.1.set :=
  View.cover_of_tiledL (runAt m c t).1.L56 S1x100.size (by sl_kernel_rfl) y

noncomputable def out56 (c : Dev nD) (t : Fin cfg0.N) : Vec F S6x100 .f32 :=
  View.canon (Val := Elt F) (runAt m c t).1.L56

theorem cover57 (c : Dev nD) (t : Fin cfg0.N) (y : S6x100x2048.Idx) : ∃ pc ∈ (runAt m c t).1.L57, y ∈ pc.1.set :=
  View.cover_of_tiledL (runAt m c t).1.L57 S1x100x2048.size (by sl_kernel_rfl) y

noncomputable def out57 (c : Dev nD) (t : Fin cfg0.N) : Vec F S6x100x2048 .i8 :=
  View.canon (Val := Elt F) (runAt m c t).1.L57

theorem cover58 (c : Dev nD) (t : Fin cfg0.N) (y : S6x100.Idx) : ∃ pc ∈ (runAt m c t).1.L58, y ∈ pc.1.set :=
  View.cover_of_tiledL (runAt m c t).1.L58 S1x100.size (by sl_kernel_rfl) y

noncomputable def out58 (c : Dev nD) (t : Fin cfg0.N) : Vec F S6x100 .f32 :=
  View.canon (Val := Elt F) (runAt m c t).1.L58

theorem cover59 (c : Dev nD) (t : Fin cfg0.N) (y : S6x100x256.Idx) : ∃ pc ∈ (runAt m c t).1.L59, y ∈ pc.1.set :=
  View.cover_of_tiledL (runAt m c t).1.L59 S1x100x256.size (by sl_kernel_rfl) y

noncomputable def out59 (c : Dev nD) (t : Fin cfg0.N) : Vec F S6x100x256 .i8 :=
  View.canon (Val := Elt F) (runAt m c t).1.L59

theorem cover60 (c : Dev nD) (t : Fin cfg0.N) (y : S6x100.Idx) : ∃ pc ∈ (runAt m c t).1.L60, y ∈ pc.1.set :=
  View.cover_of_tiledL (runAt m c t).1.L60 S1x100.size (by sl_kernel_rfl) y

noncomputable def out60 (c : Dev nD) (t : Fin cfg0.N) : Vec F S6x100 .f32 :=
  View.canon (Val := Elt F) (runAt m c t).1.L60

theorem cover61 (c : Dev nD) (t : Fin cfg0.N) (y : S6x100x256.Idx) : ∃ pc ∈ (runAt m c t).1.L61, y ∈ pc.1.set :=
  View.cover_of_tiledL (runAt m c t).1.L61 S1x100x256.size (by sl_kernel_rfl) y

noncomputable def out61 (c : Dev nD) (t : Fin cfg0.N) : Vec F S6x100x256 .i8 :=
  View.canon (Val := Elt F) (runAt m c t).1.L61

theorem cover62 (c : Dev nD) (t : Fin cfg0.N) (y : S6x100.Idx) : ∃ pc ∈ (runAt m c t).1.L62, y ∈ pc.1.set :=
  View.cover_of_tiledL (runAt m c t).1.L62 S1x100.size (by sl_kernel_rfl) y

noncomputable def out62 (c : Dev nD) (t : Fin cfg0.N) : Vec F S6x100 .f32 :=
  View.canon (Val := Elt F) (runAt m c t).1.L62

theorem cover63 (c : Dev nD) (t : Fin cfg0.N) (y : S6x100x256.Idx) : ∃ pc ∈ (runAt m c t).1.L63, y ∈ pc.1.set :=
  View.cover_of_tiledL (runAt m c t).1.L63 S1x100x256.size (by sl_kernel_rfl) y

noncomputable def out63 (c : Dev nD) (t : Fin cfg0.N) : Vec F S6x100x256 .i8 :=
  View.canon (Val := Elt F) (runAt m c t).1.L63

theorem cover64 (c : Dev nD) (t : Fin cfg0.N) (y : S6x100.Idx) : ∃ pc ∈ (runAt m c t).1.L64, y ∈ pc.1.set :=
  View.cover_of_tiledL (runAt m c t).1.L64 S1x100.size (by sl_kernel_rfl) y

noncomputable def out64 (c : Dev nD) (t : Fin cfg0.N) : Vec F S6x100 .f32 :=
  View.canon (Val := Elt F) (runAt m c t).1.L64

theorem cover65 (c : Dev nD) (t : Fin cfg0.N) (y : S6x100x256.Idx) : ∃ pc ∈ (runAt m c t).1.L65, y ∈ pc.1.set :=
  View.cover_of_tiledL (runAt m c t).1.L65 S1x100x256.size (by sl_kernel_rfl) y

noncomputable def out65 (c : Dev nD) (t : Fin cfg0.N) : Vec F S6x100x256 .i8 :=
  View.canon (Val := Elt F) (runAt m c t).1.L65

theorem cover66 (c : Dev nD) (t : Fin cfg0.N) (y : S6x100.Idx) : ∃ pc ∈ (runAt m c t).1.L66, y ∈ pc.1.set :=
  View.cover_of_tiledL (runAt m c t).1.L66 S1x100.size (by sl_kernel_rfl) y

noncomputable def out66 (c : Dev nD) (t : Fin cfg0.N) : Vec F S6x100 .f32 :=
  View.canon (Val := Elt F) (runAt m c t).1.L66

theorem cover67 (c : Dev nD) (t : Fin cfg0.N) (y : S6x100x128.Idx) : ∃ pc ∈ (runAt m c t).1.L67, y ∈ pc.1.set :=
  View.cover_of_tiledL (runAt m c t).1.L67 S1x100x128.size (by sl_kernel_rfl) y

noncomputable def out67 (c : Dev nD) (t : Fin cfg0.N) : Vec F S6x100x128 .f32 :=
  View.canon (Val := Elt F) (runAt m c t).1.L67
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => out44 m c t
    | ⟨45, _⟩ => out45 m c t
    | ⟨46, _⟩ => out46 m c t
    | ⟨47, _⟩ => out47 m c t
    | ⟨48, _⟩ => out48 m c t
    | ⟨49, _⟩ => out49 m c t
    | ⟨50, _⟩ => out50 m c t
    | ⟨51, _⟩ => out51 m c t
    | ⟨52, _⟩ => out52 m c t
    | ⟨53, _⟩ => out53 m c t
    | ⟨54, _⟩ => out54 m c t
    | ⟨55, _⟩ => out55 m c t
    | ⟨56, _⟩ => out56 m c t
    | ⟨57, _⟩ => out57 m c t
    | ⟨58, _⟩ => out58 m c t
    | ⟨59, _⟩ => out59 m c t
    | ⟨60, _⟩ => out60 m c t
    | ⟨61, _⟩ => out61 m c t
    | ⟨62, _⟩ => out62 m c t
    | ⟨63, _⟩ => out63 m c t
    | ⟨64, _⟩ => out64 m c t
    | ⟨65, _⟩ => out65 m c t
    | ⟨66, _⟩ => out66 m c t
    | ⟨67, _⟩ => out67 m c t
    | ⟨_ + 68, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = out44 m c t := by dsimp only [dats]
theorem after0_45 (c : Dev nD) (t : Fin cfg0.N) : (dats m 0 c).after 45 t = out45 m c t := by dsimp only [dats]
theorem after0_46 (c : Dev nD) (t : Fin cfg0.N) : (dats m 0 c).after 46 t = out46 m c t := by dsimp only [dats]
theorem after0_47 (c : Dev nD) (t : Fin cfg0.N) : (dats m 0 c).after 47 t = out47 m c t := by dsimp only [dats]
theorem after0_48 (c : Dev nD) (t : Fin cfg0.N) : (dats m 0 c).after 48 t = out48 m c t := by dsimp only [dats]
theorem after0_49 (c : Dev nD) (t : Fin cfg0.N) : (dats m 0 c).after 49 t = out49 m c t := by dsimp only [dats]
theorem after0_50 (c : Dev nD) (t : Fin cfg0.N) : (dats m 0 c).after 50 t = out50 m c t := by dsimp only [dats]
theorem after0_51 (c : Dev nD) (t : Fin cfg0.N) : (dats m 0 c).after 51 t = out51 m c t := by dsimp only [dats]
theorem after0_52 (c : Dev nD) (t : Fin cfg0.N) : (dats m 0 c).after 52 t = out52 m c t := by dsimp only [dats]
theorem after0_53 (c : Dev nD) (t : Fin cfg0.N) : (dats m 0 c).after 53 t = out53 m c t := by dsimp only [dats]
theorem after0_54 (c : Dev nD) (t : Fin cfg0.N) : (dats m 0 c).after 54 t = out54 m c t := by dsimp only [dats]
theorem after0_55 (c : Dev nD) (t : Fin cfg0.N) : (dats m 0 c).after 55 t = out55 m c t := by dsimp only [dats]
theorem after0_56 (c : Dev nD) (t : Fin cfg0.N) : (dats m 0 c).after 56 t = out56 m c t := by dsimp only [dats]
theorem after0_57 (c : Dev nD) (t : Fin cfg0.N) : (dats m 0 c).after 57 t = out57 m c t := by dsimp only [dats]
theorem after0_58 (c : Dev nD) (t : Fin cfg0.N) : (dats m 0 c).after 58 t = out58 m c t := by dsimp only [dats]
theorem after0_59 (c : Dev nD) (t : Fin cfg0.N) : (dats m 0 c).after 59 t = out59 m c t := by dsimp only [dats]
theorem after0_60 (c : Dev nD) (t : Fin cfg0.N) : (dats m 0 c).after 60 t = out60 m c t := by dsimp only [dats]
theorem after0_61 (c : Dev nD) (t : Fin cfg0.N) : (dats m 0 c).after 61 t = out61 m c t := by dsimp only [dats]
theorem after0_62 (c : Dev nD) (t : Fin cfg0.N) : (dats m 0 c).after 62 t = out62 m c t := by dsimp only [dats]
theorem after0_63 (c : Dev nD) (t : Fin cfg0.N) : (dats m 0 c).after 63 t = out63 m c t := by dsimp only [dats]
theorem after0_64 (c : Dev nD) (t : Fin cfg0.N) : (dats m 0 c).after 64 t = out64 m c t := by dsimp only [dats]
theorem after0_65 (c : Dev nD) (t : Fin cfg0.N) : (dats m 0 c).after 65 t = out65 m c t := by dsimp only [dats]
theorem after0_66 (c : Dev nD) (t : Fin cfg0.N) : (dats m 0 c).after 66 t = out66 m c t := by dsimp only [dats]
theorem after0_67 (c : Dev nD) (t : Fin cfg0.N) : (dats m 0 c).after 67 t = out67 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d
theorem before0_39 (c : Dev nD) (t : Fin cfg0.N) (d) : (dats m 0 c).before 39 t d = iblk m c 39 t :=
  before0_39_of m (dats m 0 c) (A_eq m c 39) (after0_39 m c) t d
theorem before0_40 (c : Dev nD) (t : Fin cfg0.N) (d) : (dats m 0 c).before 40 t d = iblk m c 40 t :=
  before0_40_of m (dats m 0 c) (A_eq m c 40) (after0_40 m c) t d
theorem before0_41 (c : Dev nD) (t : Fin cfg0.N) (d) : (dats m 0 c).before 41 t d = iblk m c 41 t :=
  before0_41_of m (dats m 0 c) (A_eq m c 41) (after0_41 m c) t d
theorem before0_42 (c : Dev nD) (t : Fin cfg0.N) (d) : (dats m 0 c).before 42 t d = iblk m c 42 t :=
  before0_42_of m (dats m 0 c) (A_eq m c 42) (after0_42 m c) t d
theorem before0_43 (c : Dev nD) (t : Fin cfg0.N) (d) : (dats m 0 c).before 43 t d = iblk m c 43 t :=
  before0_43_of m (dats m 0 c) (A_eq m c 43) (after0_43 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d))
    ∗ (∃ d, owns (c : Thread nD τ) (ms0_59 t) fullShare ((dats m 0 c).before 59 t d))
    ∗ (∃ d, owns (c : Thread nD τ) (ms0_60 t) fullShare ((dats m 0 c).before 60 t d))
    ∗ (∃ d, owns (c : Thread nD τ) (ms0_61 t) fullShare ((dats m 0 c).before 61 t d))
    ∗ (∃ d, owns (c : Thread nD τ) (ms0_62 t) fullShare ((dats m 0 c).before 62 t d))
    ∗ (∃ d, owns (c : Thread nD τ) (ms0_63 t) fullShare ((dats m 0 c).before 63 t d))
    ∗ (∃ d, owns (c : Thread nD τ) (ms0_64 t) fullShare ((dats m 0 c).before 64 t d))
    ∗ (∃ d, owns (c : Thread nD τ) (ms0_65 t) fullShare ((dats m 0 c).before 65 t d))
    ∗ (∃ d, owns (c : Thread nD τ) (ms0_66 t) fullShare ((dats m 0 c).before 66 t d))
    ∗ (∃ d, owns (c : Thread nD τ) (ms0_67 t) fullShare ((dats m 0 c).before 67 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t)
    ∗ owns (c : Thread nD τ) (ms0_59 t) fullShare ((dats m 0 c).after 59 t)
    ∗ owns (c : Thread nD τ) (ms0_60 t) fullShare ((dats m 0 c).after 60 t)
    ∗ owns (c : Thread nD τ) (ms0_61 t) fullShare ((dats m 0 c).after 61 t)
    ∗ owns (c : Thread nD τ) (ms0_62 t) fullShare ((dats m 0 c).after 62 t)
    ∗ owns (c : Thread nD τ) (ms0_63 t) fullShare ((dats m 0 c).after 63 t)
    ∗ owns (c : Thread nD τ) (ms0_64 t) fullShare ((dats m 0 c).after 64 t)
    ∗ owns (c : Thread nD τ) (ms0_65 t) fullShare ((dats m 0 c).after 65 t)
    ∗ owns (c : Thread nD τ) (ms0_66 t) fullShare ((dats m 0 c).after 66 t)
    ∗ owns (c : Thread nD τ) (ms0_67 t) fullShare ((dats m 0 c).after 67 t))

set_option maxHeartbeats 6800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67]
  rw [show (dats m 0 c).Φ t.castSucc = Pipeline.ΦA spec0 c from rfl, PhiA0_eq]
  unfold out44 out45 out46 out47 out48 out49 out50 out51 out52 out53 out54 out55 out56 out57 out58 out59 out60 out61 out62 out63 out64 out65 out66 out67
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [HS0]; · iexact HS0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, ⟨%e44, H44⟩, ⟨%e45, H45⟩, ⟨%e46, H46⟩, ⟨%e47, H47⟩, ⟨%e48, H48⟩, ⟨%e49, H49⟩, ⟨%e50, H50⟩, ⟨%e51, H51⟩, ⟨%e52, H52⟩, ⟨%e53, H53⟩, ⟨%e54, H54⟩, ⟨%e55, H55⟩, ⟨%e56, H56⟩, ⟨%e57, H57⟩, ⟨%e58, H58⟩, ⟨%e59, H59⟩, ⟨%e60, H60⟩, ⟨%e61, H61⟩, ⟨%e62, H62⟩, ⟨%e63, H63⟩, ⟨%e64, H64⟩, ⟨%e65, H65⟩, ⟨%e66, H66⟩, ⟨%e67, H67⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]
  · unfold owns; iexists _; isplitr
    swap; · iexact H44
    ipureintro; exact View.read_writes_eq_canon _ _ _ (cover44 m c t)
  isplitl [H45]
  · unfold owns; iexists _; isplitr
    swap; · iexact H45
    ipureintro; exact View.read_writes_eq_canon _ _ _ (cover45 m c t)
  isplitl [H46]
  · unfold owns; iexists _; isplitr
    swap; · iexact H46
    ipureintro; exact View.read_writes_eq_canon _ _ _ (cover46 m c t)
  isplitl [H47]
  · unfold owns; iexists _; isplitr
    swap; · iexact H47
    ipureintro; exact View.read_writes_eq_canon _ _ _ (cover47 m c t)
  isplitl [H48]
  · unfold owns; iexists _; isplitr
    swap; · iexact H48
    ipureintro; exact View.read_writes_eq_canon _ _ _ (cover48 m c t)
  isplitl [H49]
  · unfold owns; iexists _; isplitr
    swap; · iexact H49
    ipureintro; exact View.read_writes_eq_canon _ _ _ (cover49 m c t)
  isplitl [H50]
  · unfold owns; iexists _; isplitr
    swap; · iexact H50
    ipureintro; exact View.read_writes_eq_canon _ _ _ (cover50 m c t)
  isplitl [H51]
  · unfold owns; iexists _; isplitr
    swap; · iexact H51
    ipureintro; exact View.read_writes_eq_canon _ _ _ (cover51 m c t)
  isplitl [H52]
  · unfold owns; iexists _; isplitr
    swap; · iexact H52
    ipureintro; exact View.read_writes_eq_canon _ _ _ (cover52 m c t)
  isplitl [H53]
  · unfold owns; iexists _; isplitr
    swap; · iexact H53
    ipureintro; exact View.read_writes_eq_canon _ _ _ (cover53 m c t)
  isplitl [H54]
  · unfold owns; iexists _; isplitr
    swap; · iexact H54
    ipureintro; exact View.read_writes_eq_canon _ _ _ (cover54 m c t)
  isplitl [H55]
  · unfold owns; iexists _; isplitr
    swap; · iexact H55
    ipureintro; exact View.read_writes_eq_canon _ _ _ (cover55 m c t)
  isplitl [H56]
  · unfold owns; iexists _; isplitr
    swap; · iexact H56
    ipureintro; exact View.read_writes_eq_canon _ _ _ (cover56 m c t)
  isplitl [H57]
  · unfold owns; iexists _; isplitr
    swap; · iexact H57
    ipureintro; exact View.read_writes_eq_canon _ _ _ (cover57 m c t)
  isplitl [H58]
  · unfold owns; iexists _; isplitr
    swap; · iexact H58
    ipureintro; exact View.read_writes_eq_canon _ _ _ (cover58 m c t)
  isplitl [H59]
  · unfold owns; iexists _; isplitr
    swap; · iexact H59
    ipureintro; exact View.read_writes_eq_canon _ _ _ (cover59 m c t)
  isplitl [H60]
  · unfold owns; iexists _; isplitr
    swap; · iexact H60
    ipureintro; exact View.read_writes_eq_canon _ _ _ (cover60 m c t)
  isplitl [H61]
  · unfold owns; iexists _; isplitr
    swap; · iexact H61
    ipureintro; exact View.read_writes_eq_canon _ _ _ (cover61 m c t)
  isplitl [H62]
  · unfold owns; iexists _; isplitr
    swap; · iexact H62
    ipureintro; exact View.read_writes_eq_canon _ _ _ (cover62 m c t)
  isplitl [H63]
  · unfold owns; iexists _; isplitr
    swap; · iexact H63
    ipureintro; exact View.read_writes_eq_canon _ _ _ (cover63 m c t)
  isplitl [H64]
  · unfold owns; iexists _; isplitr
    swap; · iexact H64
    ipureintro; exact View.read_writes_eq_canon _ _ _ (cover64 m c t)
  isplitl [H65]
  · unfold owns; iexists _; isplitr
    swap; · iexact H65
    ipureintro; exact View.read_writes_eq_canon _ _ _ (cover65 m c t)
  isplitl [H66]
  · unfold owns; iexists _; isplitr
    swap; · iexact H66
    ipureintro; exact View.read_writes_eq_canon _ _ _ (cover66 m c t)
  unfold owns; iexists _; isplitr
  swap; · iexact H67
  ipureintro; exact View.read_writes_eq_canon _ _ _ (cover67 m c t)

end Cert.Proof.Query

end
-- ==== Proof.QueryFrame.lean ====
/- The run of the query call and its frame: every execution ends, every argument is kept, every semaphore ends at zero. -/
module

public import proofs.«01_k».proof.Proof.QueryBody
public import Idealize.ShloMosaic.Lib.Claim
public import Idealize.ShloMosaic.Lib.Pipeline.Value

@[expose] public section

set_option maxRecDepth 16384

noncomputable section

namespace Cert.Proof.Query

open Cert.Query Cert.Query.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the results' blocks stay closed below: only their names matter
attribute [local irreducible] out44 out45 out46 out47 out48 out49 out50 out51 out52 out53 out54 out55 out56 out57 out58 out59 out60 out61 out62 out63 out64 out65 out66 out67

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6800000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)) :=
  frame_of m ρ (dats m) (A_eq m) (run_main m ρ)

/-- THE FRAME: every execution ends with every argument kept and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43))
      ∧ r.2.sem = fun _ => 0) :=
  θ_run_and (unchanged m ρ) ((θ_run defs _ _).mono (fun _ h => h.2) (run_main_quiescent m ρ))

end Cert.Proof.Query

end
-- ==== Proof.QueryIdealRun.lean ====
/- The run of the query call's body: what its stores leave in every result's block, found by running the body part by part. -/
module

public import proofs.«01_k».proof.Proof.Gen.QueryIdeal.Frame.Runs

@[expose] public section

-- membership in a rectangle of production extents (`View.cover_of_tiled`): the elaborator's structural look
-- recurses once per coordinate of the long axes
set_option maxRecDepth 16384

noncomputable section

namespace Cert.Proof.QueryIdeal

open Cert.QueryIdeal Cert.QueryIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at a value is its points-to at the contents that read that value. -/
theorem owns_eq_unread (c : Dev nD) {sp : Space} {sh : Shape} {e : EltTy} (m : Memref sig .tc sp sh e) (h : m.IsWhole) (X : Vec F sh e) :
    (owns (c : Thread nD τ) m fullShare X : sProp 𝕄) = (m.view.loc (c : Thread nD τ) ↦[m.view.set]{fullShare} h.unread X) := by
  unfold owns
  have h₁ : iprop(∃ f, ⌜m.view.read (Elt F) f = X⌝ ∗ (m.view.loc (c : Thread nD τ) ↦[m.view.set]{fullShare} f))
      ⊢ (m.view.loc (c : Thread nD τ) ↦[m.view.set]{fullShare} h.unread X : sProp 𝕄) := by
    iintro ⟨%f, %hf, H⟩
    obtain rfl := h.eq_unread hf
    iexact H
  have h₂ : (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
    iintro H
    iexists _
    isplitr
    · ipureintro; exact h.read_unread _
    iexact H
  exact Idealize.SL.BI.equiv_iff.mp ⟨h₁, h₂⟩

/-- The pieces the body's stores leave in every result's block and in the scratch, the last written first. -/
structure Pieces (F : FTy → Type) [FloatOps F] where
  L44 : List (View.Piece (Elt F) S6x100x256 .bf16)
  L45 : List (View.Piece (Elt F) S6x134x100 .f32)
  L46 : List (View.Piece (Elt F) S6x100 .f32)
  L47 : List (View.Piece (Elt F) S6x100x256 .i8)
  L48 : List (View.Piece (Elt F) S6x100 .f32)
  L49 : List (View.Piece (Elt F) S6x100x256 .i8)
  L50 : List (View.Piece (Elt F) S6x100 .f32)
  L51 : List (View.Piece (Elt F) S6x100x256 .i8)
  L52 : List (View.Piece (Elt F) S6x100 .f32)
  L53 : List (View.Piece (Elt F) S6x100x256 .i8)
  L54 : List (View.Piece (Elt F) S6x100 .f32)
  L55 : List (View.Piece (Elt F) S6x100x256 .i8)
  L56 : List (View.Piece (Elt F) S6x100 .f32)
  L57 : List (View.Piece (Elt F) S6x100x2048 .i8)
  L58 : List (View.Piece (Elt F) S6x100 .f32)
  L59 : List (View.Piece (Elt F) S6x100x256 .i8)
  L60 : List (View.Piece (Elt F) S6x100 .f32)
  L61 : List (View.Piece (Elt F) S6x100x256 .i8)
  L62 : List (View.Piece (Elt F) S6x100 .f32)
  L63 : List (View.Piece (Elt F) S6x100x256 .i8)
  L64 : List (View.Piece (Elt F) S6x100 .f32)
  L65 : List (View.Piece (Elt F) S6x100x256 .i8)
  L66 : List (View.Piece (Elt F) S6x100 .f32)
  L67 : List (View.Piece (Elt F) S6x100x128 .f32)
  LT0 : List (View.Piece (Elt F) S6x104x256 .f32)

-- (the run's proof term is large: the definition's epilogue — `abstractNestedProofs` — walks it past the default budget)
set_option maxHeartbeats 12000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def bodyRun (c : Dev nD) (arg0 : Memref sig .tc .vmem S6x100x256 .bf16) (harg0 : arg0.IsWhole) (arg1 : Memref sig .tc .vmem S100x256 .f32) (harg1 : arg1.IsWhole) (arg2 : Memref sig .tc .vmem S6x100x256 .f32) (harg2 : arg2.IsWhole) (arg3 : Memref sig .tc .vmem S6x100x128 .f32) (harg3 : arg3.IsWhole) (arg4 : Memref sig .tc .vmem S256x256 .i8) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .i8) (harg12 : arg12.IsWhole) (arg13 : Memref sig .tc .vmem S1x256 .f32) (harg13 : arg13.IsWhole) (arg14 : Memref sig .tc .vmem S256x256 .i8) (harg14 : arg14.IsWhole) (arg15 : Memref sig .tc .vmem S1x256 .f32) (harg15 : arg15.IsWhole) (arg16 : Memref sig .tc .vmem S1x256 .f32) (harg16 : arg16.IsWhole) (arg17 : Memref sig .tc .vmem S256x256 .i8) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S256x2048 .i8) (harg22 : arg22.IsWhole) (arg23 : Memref sig .tc .vmem S1x2048 .f32) (harg23 : arg23.IsWhole) (arg24 : Memref sig .tc .vmem S1x2048 .f32) (harg24 : arg24.IsWhole) (arg25 : Memref sig .tc .vmem S2048x256 .i8) (harg25 : arg25.IsWhole) (arg26 : Memref sig .tc .vmem S1x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S134x256 .i8) (harg32 : arg32.IsWhole) (arg33 : Memref sig .tc .vmem S1x134 .f32) (harg33 : arg33.IsWhole) (arg34 : Memref sig .tc .vmem S1x134 .f32) (harg34 : arg34.IsWhole) (arg35 : Memref sig .tc .vmem S256x256 .i8) (harg35 : arg35.IsWhole) (arg36 : Memref sig .tc .vmem S1x256 .f32) (harg36 : arg36.IsWhole) (arg37 : Memref sig .tc .vmem S1x256 .f32) (harg37 : arg37.IsWhole) (arg38 : Memref sig .tc .vmem S256x256 .i8) (harg38 : arg38.IsWhole) (arg39 : Memref sig .tc .vmem S1x256 .f32) (harg39 : arg39.IsWhole) (arg40 : Memref sig .tc .vmem S1x256 .f32) (harg40 : arg40.IsWhole) (arg41 : Memref sig .tc .vmem S256x256 .i8) (harg41 : arg41.IsWhole) (arg42 : Memref sig .tc .vmem S1x256 .f32) (harg42 : arg42.IsWhole) (arg43 : Memref sig .tc .vmem S1x256 .f32) (harg43 : arg43.IsWhole) (arg44 : Memref sig .tc .vmem S6x100x256 .bf16) (harg44 : arg44.IsWhole) (arg45 : Memref sig .tc .vmem S6x134x100 .f32) (harg45 : arg45.IsWhole) (arg46 : Memref sig .tc .vmem S6x100 .f32) (harg46 : arg46.IsWhole) (arg47 : Memref sig .tc .vmem S6x100x256 .i8) (harg47 : arg47.IsWhole) (arg48 : Memref sig .tc .vmem S6x100 .f32) (harg48 : arg48.IsWhole) (arg49 : Memref sig .tc .vmem S6x100x256 .i8) (harg49 : arg49.IsWhole) (arg50 : Memref sig .tc .vmem S6x100 .f32) (harg50 : arg50.IsWhole) (arg51 : Memref sig .tc .vmem S6x100x256 .i8) (harg51 : arg51.IsWhole) (arg52 : Memref sig .tc .vmem S6x100 .f32) (harg52 : arg52.IsWhole) (arg53 : Memref sig .tc .vmem S6x100x256 .i8) (harg53 : arg53.IsWhole) (arg54 : Memref sig .tc .vmem S6x100 .f32) (harg54 : arg54.IsWhole) (arg55 : Memref sig .tc .vmem S6x100x256 .i8) (harg55 : arg55.IsWhole) (arg56 : Memref sig .tc .vmem S6x100 .f32) (harg56 : arg56.IsWhole) (arg57 : Memref sig .tc .vmem S6x100x2048 .i8) (harg57 : arg57.IsWhole) (arg58 : Memref sig .tc .vmem S6x100 .f32) (harg58 : arg58.IsWhole) (arg59 : Memref sig .tc .vmem S6x100x256 .i8) (harg59 : arg59.IsWhole) (arg60 : Memref sig .tc .vmem S6x100 .f32) (harg60 : arg60.IsWhole) (arg61 : Memref sig .tc .vmem S6x100x256 .i8) (harg61 : arg61.IsWhole) (arg62 : Memref sig .tc .vmem S6x100 .f32) (harg62 : arg62.IsWhole) (arg63 : Memref sig .tc .vmem S6x100x256 .i8) (harg63 : arg63.IsWhole) (arg64 : Memref sig .tc .vmem S6x100 .f32) (harg64 : arg64.IsWhole) (arg65 : Memref sig .tc .vmem S6x100x256 .i8) (harg65 : arg65.IsWhole) (arg66 : Memref sig .tc .vmem S6x100 .f32) (harg66 : arg66.IsWhole) (arg67 : Memref sig .tc .vmem S6x100x128 .f32) (harg67 : arg67.IsWhole) (arg68 : Memref sig .tc .vmem S6x104x256 .f32) (harg68 : arg68.IsWhole)
    (x0 : Vec F S6x100x256 .bf16) (x1 : Vec F S100x256 .f32) (x2 : Vec F S6x100x256 .f32) (x3 : Vec F S6x100x128 .f32) (x4 : Vec F S256x256 .i8) (x5 : Vec F S1x256 .f32) (x6 : Vec F S1x256 .f32) (x7 : Vec F S1x256 .f32) (x8 : Vec F S1x256 .f32) (x9 : Vec F S256x256 .i8) (x10 : Vec F S1x256 .f32) (x11 : Vec F S1x256 .f32) (x12 : Vec F S256x256 .i8) (x13 : Vec F S1x256 .f32) (x14 : Vec F S256x256 .i8) (x15 : Vec F S1x256 .f32) (x16 : Vec F S1x256 .f32) (x17 : Vec F S256x256 .i8) (x18 : Vec F S1x256 .f32) (x19 : Vec F S1x256 .f32) (x20 : Vec F S1x256 .f32) (x21 : Vec F S1x256 .f32) (x22 : Vec F S256x2048 .i8) (x23 : Vec F S1x2048 .f32) (x24 : Vec F S1x2048 .f32) (x25 : Vec F S2048x256 .i8) (x26 : Vec F S1x256 .f32) (x27 : Vec F S1x256 .f32) (x28 : Vec F S1x256 .f32) (x29 : Vec F S1x256 .f32) (x30 : Vec F S1x256 .f32) (x31 : Vec F S1x256 .f32) (x32 : Vec F S134x256 .i8) (x33 : Vec F S1x134 .f32) (x34 : Vec F S1x134 .f32) (x35 : Vec F S256x256 .i8) (x36 : Vec F S1x256 .f32) (x37 : Vec F S1x256 .f32) (x38 : Vec F S256x256 .i8) (x39 : Vec F S1x256 .f32) (x40 : Vec F S1x256 .f32) (x41 : Vec F S256x256 .i8) (x42 : Vec F S1x256 .f32) (x43 : Vec F S1x256 .f32) :
    { L : Pieces F //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ f, arg44.view.loc (c : Thread nD τ) ↦[arg44.view.set]{fullShare} arg44.view.writes (Elt F) f L.L44) ∗ (∃ f, arg45.view.loc (c : Thread nD τ) ↦[arg45.view.set]{fullShare} arg45.view.writes (Elt F) f L.L45) ∗ (∃ f, arg46.view.loc (c : Thread nD τ) ↦[arg46.view.set]{fullShare} arg46.view.writes (Elt F) f L.L46) ∗ (∃ f, arg47.view.loc (c : Thread nD τ) ↦[arg47.view.set]{fullShare} arg47.view.writes (Elt F) f L.L47) ∗ (∃ f, arg48.view.loc (c : Thread nD τ) ↦[arg48.view.set]{fullShare} arg48.view.writes (Elt F) f L.L48) ∗ (∃ f, arg49.view.loc (c : Thread nD τ) ↦[arg49.view.set]{fullShare} arg49.view.writes (Elt F) f L.L49) ∗ (∃ f, arg50.view.loc (c : Thread nD τ) ↦[arg50.view.set]{fullShare} arg50.view.writes (Elt F) f L.L50) ∗ (∃ f, arg51.view.loc (c : Thread nD τ) ↦[arg51.view.set]{fullShare} arg51.view.writes (Elt F) f L.L51) ∗ (∃ f, arg52.view.loc (c : Thread nD τ) ↦[arg52.view.set]{fullShare} arg52.view.writes (Elt F) f L.L52) ∗ (∃ f, arg53.view.loc (c : Thread nD τ) ↦[arg53.view.set]{fullShare} arg53.view.writes (Elt F) f L.L53) ∗ (∃ f, arg54.view.loc (c : Thread nD τ) ↦[arg54.view.set]{fullShare} arg54.view.writes (Elt F) f L.L54) ∗ (∃ f, arg55.view.loc (c : Thread nD τ) ↦[arg55.view.set]{fullShare} arg55.view.writes (Elt F) f L.L55) ∗ (∃ f, arg56.view.loc (c : Thread nD τ) ↦[arg56.view.set]{fullShare} arg56.view.writes (Elt F) f L.L56) ∗ (∃ f, arg57.view.loc (c : Thread nD τ) ↦[arg57.view.set]{fullShare} arg57.view.writes (Elt F) f L.L57) ∗ (∃ f, arg58.view.loc (c : Thread nD τ) ↦[arg58.view.set]{fullShare} arg58.view.writes (Elt F) f L.L58) ∗ (∃ f, arg59.view.loc (c : Thread nD τ) ↦[arg59.view.set]{fullShare} arg59.view.writes (Elt F) f L.L59) ∗ (∃ f, arg60.view.loc (c : Thread nD τ) ↦[arg60.view.set]{fullShare} arg60.view.writes (Elt F) f L.L60) ∗ (∃ f, arg61.view.loc (c : Thread nD τ) ↦[arg61.view.set]{fullShare} arg61.view.writes (Elt F) f L.L61) ∗ (∃ f, arg62.view.loc (c : Thread nD τ) ↦[arg62.view.set]{fullShare} arg62.view.writes (Elt F) f L.L62) ∗ (∃ f, arg63.view.loc (c : Thread nD τ) ↦[arg63.view.set]{fullShare} arg63.view.writes (Elt F) f L.L63) ∗ (∃ f, arg64.view.loc (c : Thread nD τ) ↦[arg64.view.set]{fullShare} arg64.view.writes (Elt F) f L.L64) ∗ (∃ f, arg65.view.loc (c : Thread nD τ) ↦[arg65.view.set]{fullShare} arg65.view.writes (Elt F) f L.L65) ∗ (∃ f, arg66.view.loc (c : Thread nD τ) ↦[arg66.view.set]{fullShare} arg66.view.writes (Elt F) f L.L66) ∗ (∃ f, arg67.view.loc (c : Thread nD τ) ↦[arg67.view.set]{fullShare} arg67.view.writes (Elt F) f L.L67) ∗ (∃ f, arg68.view.loc (c : Thread nD τ) ↦[arg68.view.set]{fullShare} arg68.view.writes (Elt F) f L.LT0)) -∗ K ⟨⟩))
          ⊢ wp frame (wpE (defs₀ (F := F)) Variants.none c none) E (cc0_query arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68) K } := by
  refine ⟨⟨?_, ?_, ?_, ?_, ?_, ?_, ?_, ?_, ?_, ?_, ?_, ?_, ?_, ?_, ?_, ?_, ?_, ?_, ?_, ?_, ?_, ?_, ?_, ?_, ?_⟩, fun E K => ?run⟩
  case run =>
    dsimp only
    simp only [cc0_query_eq_skeleton]; unfold cc0_query_skel
    simp only [owns_eq_unread c arg0 harg0 x0, owns_eq_unread c arg1 harg1 x1, owns_eq_unread c arg2 harg2 x2, owns_eq_unread c arg3 harg3 x3, owns_eq_unread c arg4 harg4 x4, owns_eq_unread c arg5 harg5 x5, owns_eq_unread c arg6 harg6 x6, owns_eq_unread c arg7 harg7 x7, owns_eq_unread c arg8 harg8 x8, owns_eq_unread c arg9 harg9 x9, owns_eq_unread c arg10 harg10 x10, owns_eq_unread c arg11 harg11 x11, owns_eq_unread c arg12 harg12 x12, owns_eq_unread c arg13 harg13 x13, owns_eq_unread c arg14 harg14 x14, owns_eq_unread c arg15 harg15 x15, owns_eq_unread c arg16 harg16 x16, owns_eq_unread c arg17 harg17 x17, owns_eq_unread c arg18 harg18 x18, owns_eq_unread c arg19 harg19 x19, owns_eq_unread c arg20 harg20 x20, owns_eq_unread c arg21 harg21 x21, owns_eq_unread c arg22 harg22 x22, owns_eq_unread c arg23 harg23 x23, owns_eq_unread c arg24 harg24 x24, owns_eq_unread c arg25 harg25 x25, owns_eq_unread c arg26 harg26 x26, owns_eq_unread c arg27 harg27 x27, owns_eq_unread c arg28 harg28 x28, owns_eq_unread c arg29 harg29 x29, owns_eq_unread c arg30 harg30 x30, owns_eq_unread c arg31 harg31 x31, owns_eq_unread c arg32 harg32 x32, owns_eq_unread c arg33 harg33 x33, owns_eq_unread c arg34 harg34 x34, owns_eq_unread c arg35 harg35 x35, owns_eq_unread c arg36 harg36 x36, owns_eq_unread c arg37 harg37 x37, owns_eq_unread c arg38 harg38 x38, owns_eq_unread c arg39 harg39 x39, owns_eq_unread c arg40 harg40 x40, owns_eq_unread c arg41 harg41 x41, owns_eq_unread c arg42 harg42 x42, owns_eq_unread c arg43 harg43 x43]
    unfold owns
    iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%ds0, %fs0, -, HS0⟩, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    isplitl [H60]; · iexists _; iexact H60
    isplitl [H61]; · iexists _; iexact H61
    isplitl [H62]; · iexists _; iexact H62
    isplitl [H63]; · iexists _; iexact H63
    isplitl [H64]; · iexists _; iexact H64
    isplitl [H65]; · iexists _; iexact H65
    isplitl [H66]; · iexists _; iexact H66
    isplitl [H67]; · iexists _; iexact H67
    iexists _; iexact HS0

end Cert.Proof.QueryIdeal

end
-- ==== Proof.QueryIdealBody.lean ====
/- What the query call's body leaves in every result's block, the proof data of its one-point pipeline, and the body's
   triple. -/
module

public import proofs.«01_k».proof.Proof.QueryIdealRun
public import Idealize.ShloMosaic.Lib.Claim
public import Idealize.ShloMosaic.Lib.Pipeline.Value

@[expose] public section

set_option maxRecDepth 16384

noncomputable section

namespace Cert.Proof.QueryIdeal

open Cert.QueryIdeal Cert.QueryIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point, at the point's memrefs and input blocks. -/
noncomputable def runAt (c : Dev nD) (t : Fin cfg0.N) :=
  bodyRun (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) (ms0_47 t) (hs0_47 t) (ms0_48 t) (hs0_48 t) (ms0_49 t) (hs0_49 t) (ms0_50 t) (hs0_50 t) (ms0_51 t) (hs0_51 t) (ms0_52 t) (hs0_52 t) (ms0_53 t) (hs0_53 t) (ms0_54 t) (hs0_54 t) (ms0_55 t) (hs0_55 t) (ms0_56 t) (hs0_56 t) (ms0_57 t) (hs0_57 t) (ms0_58 t) (hs0_58 t) (ms0_59 t) (hs0_59 t) (ms0_60 t) (hs0_60 t) (ms0_61 t) (hs0_61 t) (ms0_62 t) (hs0_62 t) (ms0_63 t) (hs0_63 t) (ms0_64 t) (hs0_64 t) (ms0_65 t) (hs0_65 t) (ms0_66 t) (hs0_66 t) (ms0_67 t) (hs0_67 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t)

theorem cover44 (c : Dev nD) (t : Fin cfg0.N) (y : S6x100x256.Idx) : ∃ pc ∈ (runAt m c t).1.L44, y ∈ pc.1.set :=
  View.cover_of_tiledL (runAt m c t).1.L44 S1x100x256.size (by sl_kernel_rfl) y

noncomputable def out44 (c : Dev nD) (t : Fin cfg0.N) : Vec F S6x100x256 .bf16 :=
  View.canon (Val := Elt F) (runAt m c t).1.L44

theorem cover45 (c : Dev nD) (t : Fin cfg0.N) (y : S6x134x100.Idx) : ∃ pc ∈ (runAt m c t).1.L45, y ∈ pc.1.set :=
  View.cover_of_tiledL (runAt m c t).1.L45 S1x134x100.size (by sl_kernel_rfl) y

noncomputable def out45 (c : Dev nD) (t : Fin cfg0.N) : Vec F S6x134x100 .f32 :=
  View.canon (Val := Elt F) (runAt m c t).1.L45

theorem cover46 (c : Dev nD) (t : Fin cfg0.N) (y : S6x100.Idx) : ∃ pc ∈ (runAt m c t).1.L46, y ∈ pc.1.set :=
  View.cover_of_tiledL (runAt m c t).1.L46 S1x100.size (by sl_kernel_rfl) y

noncomputable def out46 (c : Dev nD) (t : Fin cfg0.N) : Vec F S6x100 .f32 :=
  View.canon (Val := Elt F) (runAt m c t).1.L46

theorem cover47 (c : Dev nD) (t : Fin cfg0.N) (y : S6x100x256.Idx) : ∃ pc ∈ (runAt m c t).1.L47, y ∈ pc.1.set :=
  View.cover_of_tiledL (runAt m c t).1.L47 S1x100x256.size (by sl_kernel_rfl) y

noncomputable def out47 (c : Dev nD) (t : Fin cfg0.N) : Vec F S6x100x256 .i8 :=
  View.canon (Val := Elt F) (runAt m c t).1.L47

theorem cover48 (c : Dev nD) (t : Fin cfg0.N) (y : S6x100.Idx) : ∃ pc ∈ (runAt m c t).1.L48, y ∈ pc.1.set :=
  View.cover_of_tiledL (runAt m c t).1.L48 S1x100.size (by sl_kernel_rfl) y

noncomputable def out48 (c : Dev nD) (t : Fin cfg0.N) : Vec F S6x100 .f32 :=
  View.canon (Val := Elt F) (runAt m c t).1.L48

theorem cover49 (c : Dev nD) (t : Fin cfg0.N) (y : S6x100x256.Idx) : ∃ pc ∈ (runAt m c t).1.L49, y ∈ pc.1.set :=
  View.cover_of_tiledL (runAt m c t).1.L49 S1x100x256.size (by sl_kernel_rfl) y

noncomputable def out49 (c : Dev nD) (t : Fin cfg0.N) : Vec F S6x100x256 .i8 :=
  View.canon (Val := Elt F) (runAt m c t).1.L49

theorem cover50 (c : Dev nD) (t : Fin cfg0.N) (y : S6x100.Idx) : ∃ pc ∈ (runAt m c t).1.L50, y ∈ pc.1.set :=
  View.cover_of_tiledL (runAt m c t).1.L50 S1x100.size (by sl_kernel_rfl) y

noncomputable def out50 (c : Dev nD) (t : Fin cfg0.N) : Vec F S6x100 .f32 :=
  View.canon (Val := Elt F) (runAt m c t).1.L50

theorem cover51 (c : Dev nD) (t : Fin cfg0.N) (y : S6x100x256.Idx) : ∃ pc ∈ (runAt m c t).1.L51, y ∈ pc.1.set :=
  View.cover_of_tiledL (runAt m c t).1.L51 S1x100x256.size (by sl_kernel_rfl) y

noncomputable def out51 (c : Dev nD) (t : Fin cfg0.N) : Vec F S6x100x256 .i8 :=
  View.canon (Val := Elt F) (runAt m c t).1.L51

theorem cover52 (c : Dev nD) (t : Fin cfg0.N) (y : S6x100.Idx) : ∃ pc ∈ (runAt m c t).1.L52, y ∈ pc.1.set :=
  View.cover_of_tiledL (runAt m c t).1.L52 S1x100.size (by sl_kernel_rfl) y

noncomputable def out52 (c : Dev nD) (t : Fin cfg0.N) : Vec F S6x100 .f32 :=
  View.canon (Val := Elt F) (runAt m c t).1.L52

theorem cover53 (c : Dev nD) (t : Fin cfg0.N) (y : S6x100x256.Idx) : ∃ pc ∈ (runAt m c t).1.L53, y ∈ pc.1.set :=
  View.cover_of_tiledL (runAt m c t).1.L53 S1x100x256.size (by sl_kernel_rfl) y

noncomputable def out53 (c : Dev nD) (t : Fin cfg0.N) : Vec F S6x100x256 .i8 :=
  View.canon (Val := Elt F) (runAt m c t).1.L53

theorem cover54 (c : Dev nD) (t : Fin cfg0.N) (y : S6x100.Idx) : ∃ pc ∈ (runAt m c t).1.L54, y ∈ pc.1.set :=
  View.cover_of_tiledL (runAt m c t).1.L54 S1x100.size (by sl_kernel_rfl) y

noncomputable def out54 (c : Dev nD) (t : Fin cfg0.N) : Vec F S6x100 .f32 :=
  View.canon (Val := Elt F) (runAt m c t).1.L54

theorem cover55 (c : Dev nD) (t : Fin cfg0.N) (y : S6x100x256.Idx) : ∃ pc ∈ (runAt m c t).1.L55, y ∈ pc.1.set :=
  View.cover_of_tiledL (runAt m c t).1.L55 S1x100x256.size (by sl_kernel_rfl) y

noncomputable def out55 (c : Dev nD) (t : Fin cfg0.N) : Vec F S6x100x256 .i8 :=
  View.canon (Val := Elt F) (runAt m c t).1.L55

theorem cover56 (c : Dev nD) (t : Fin cfg0.N) (y : S6x100.Idx) : ∃ pc ∈ (runAt m c t).1.L56, y ∈ pc.1.set :=
  View.cover_of_tiledL (runAt m c t).1.L56 S1x100.size (by sl_kernel_rfl) y

noncomputable def out56 (c : Dev nD) (t : Fin cfg0.N) : Vec F S6x100 .f32 :=
  View.canon (Val := Elt F) (runAt m c t).1.L56

theorem cover57 (c : Dev nD) (t : Fin cfg0.N) (y : S6x100x2048.Idx) : ∃ pc ∈ (runAt m c t).1.L57, y ∈ pc.1.set :=
  View.cover_of_tiledL (runAt m c t).1.L57 S1x100x2048.size (by sl_kernel_rfl) y

noncomputable def out57 (c : Dev nD) (t : Fin cfg0.N) : Vec F S6x100x2048 .i8 :=
  View.canon (Val := Elt F) (runAt m c t).1.L57

theorem cover58 (c : Dev nD) (t : Fin cfg0.N) (y : S6x100.Idx) : ∃ pc ∈ (runAt m c t).1.L58, y ∈ pc.1.set :=
  View.cover_of_tiledL (runAt m c t).1.L58 S1x100.size (by sl_kernel_rfl) y

noncomputable def out58 (c : Dev nD) (t : Fin cfg0.N) : Vec F S6x100 .f32 :=
  View.canon (Val := Elt F) (runAt m c t).1.L58

theorem cover59 (c : Dev nD) (t : Fin cfg0.N) (y : S6x100x256.Idx) : ∃ pc ∈ (runAt m c t).1.L59, y ∈ pc.1.set :=
  View.cover_of_tiledL (runAt m c t).1.L59 S1x100x256.size (by sl_kernel_rfl) y

noncomputable def out59 (c : Dev nD) (t : Fin cfg0.N) : Vec F S6x100x256 .i8 :=
  View.canon (Val := Elt F) (runAt m c t).1.L59

theorem cover60 (c : Dev nD) (t : Fin cfg0.N) (y : S6x100.Idx) : ∃ pc ∈ (runAt m c t).1.L60, y ∈ pc.1.set :=
  View.cover_of_tiledL (runAt m c t).1.L60 S1x100.size (by sl_kernel_rfl) y

noncomputable def out60 (c : Dev nD) (t : Fin cfg0.N) : Vec F S6x100 .f32 :=
  View.canon (Val := Elt F) (runAt m c t).1.L60

theorem cover61 (c : Dev nD) (t : Fin cfg0.N) (y : S6x100x256.Idx) : ∃ pc ∈ (runAt m c t).1.L61, y ∈ pc.1.set :=
  View.cover_of_tiledL (runAt m c t).1.L61 S1x100x256.size (by sl_kernel_rfl) y

noncomputable def out61 (c : Dev nD) (t : Fin cfg0.N) : Vec F S6x100x256 .i8 :=
  View.canon (Val := Elt F) (runAt m c t).1.L61

theorem cover62 (c : Dev nD) (t : Fin cfg0.N) (y : S6x100.Idx) : ∃ pc ∈ (runAt m c t).1.L62, y ∈ pc.1.set :=
  View.cover_of_tiledL (runAt m c t).1.L62 S1x100.size (by sl_kernel_rfl) y

noncomputable def out62 (c : Dev nD) (t : Fin cfg0.N) : Vec F S6x100 .f32 :=
  View.canon (Val := Elt F) (runAt m c t).1.L62

theorem cover63 (c : Dev nD) (t : Fin cfg0.N) (y : S6x100x256.Idx) : ∃ pc ∈ (runAt m c t).1.L63, y ∈ pc.1.set :=
  View.cover_of_tiledL (runAt m c t).1.L63 S1x100x256.size (by sl_kernel_rfl) y

noncomputable def out63 (c : Dev nD) (t : Fin cfg0.N) : Vec F S6x100x256 .i8 :=
  View.canon (Val := Elt F) (runAt m c t).1.L63

theorem cover64 (c : Dev nD) (t : Fin cfg0.N) (y : S6x100.Idx) : ∃ pc ∈ (runAt m c t).1.L64, y ∈ pc.1.set :=
  View.cover_of_tiledL (runAt m c t).1.L64 S1x100.size (by sl_kernel_rfl) y

noncomputable def out64 (c : Dev nD) (t : Fin cfg0.N) : Vec F S6x100 .f32 :=
  View.canon (Val := Elt F) (runAt m c t).1.L64

theorem cover65 (c : Dev nD) (t : Fin cfg0.N) (y : S6x100x256.Idx) : ∃ pc ∈ (runAt m c t).1.L65, y ∈ pc.1.set :=
  View.cover_of_tiledL (runAt m c t).1.L65 S1x100x256.size (by sl_kernel_rfl) y

noncomputable def out65 (c : Dev nD) (t : Fin cfg0.N) : Vec F S6x100x256 .i8 :=
  View.canon (Val := Elt F) (runAt m c t).1.L65

theorem cover66 (c : Dev nD) (t : Fin cfg0.N) (y : S6x100.Idx) : ∃ pc ∈ (runAt m c t).1.L66, y ∈ pc.1.set :=
  View.cover_of_tiledL (runAt m c t).1.L66 S1x100.size (by sl_kernel_rfl) y

noncomputable def out66 (c : Dev nD) (t : Fin cfg0.N) : Vec F S6x100 .f32 :=
  View.canon (Val := Elt F) (runAt m c t).1.L66

theorem cover67 (c : Dev nD) (t : Fin cfg0.N) (y : S6x100x128.Idx) : ∃ pc ∈ (runAt m c t).1.L67, y ∈ pc.1.set :=
  View.cover_of_tiledL (runAt m c t).1.L67 S1x100x128.size (by sl_kernel_rfl) y

noncomputable def out67 (c : Dev nD) (t : Fin cfg0.N) : Vec F S6x100x128 .f32 :=
  View.canon (Val := Elt F) (runAt m c t).1.L67
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => out44 m c t
    | ⟨45, _⟩ => out45 m c t
    | ⟨46, _⟩ => out46 m c t
    | ⟨47, _⟩ => out47 m c t
    | ⟨48, _⟩ => out48 m c t
    | ⟨49, _⟩ => out49 m c t
    | ⟨50, _⟩ => out50 m c t
    | ⟨51, _⟩ => out51 m c t
    | ⟨52, _⟩ => out52 m c t
    | ⟨53, _⟩ => out53 m c t
    | ⟨54, _⟩ => out54 m c t
    | ⟨55, _⟩ => out55 m c t
    | ⟨56, _⟩ => out56 m c t
    | ⟨57, _⟩ => out57 m c t
    | ⟨58, _⟩ => out58 m c t
    | ⟨59, _⟩ => out59 m c t
    | ⟨60, _⟩ => out60 m c t
    | ⟨61, _⟩ => out61 m c t
    | ⟨62, _⟩ => out62 m c t
    | ⟨63, _⟩ => out63 m c t
    | ⟨64, _⟩ => out64 m c t
    | ⟨65, _⟩ => out65 m c t
    | ⟨66, _⟩ => out66 m c t
    | ⟨67, _⟩ => out67 m c t
    | ⟨_ + 68, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = out44 m c t := by dsimp only [dats]
theorem after0_45 (c : Dev nD) (t : Fin cfg0.N) : (dats m 0 c).after 45 t = out45 m c t := by dsimp only [dats]
theorem after0_46 (c : Dev nD) (t : Fin cfg0.N) : (dats m 0 c).after 46 t = out46 m c t := by dsimp only [dats]
theorem after0_47 (c : Dev nD) (t : Fin cfg0.N) : (dats m 0 c).after 47 t = out47 m c t := by dsimp only [dats]
theorem after0_48 (c : Dev nD) (t : Fin cfg0.N) : (dats m 0 c).after 48 t = out48 m c t := by dsimp only [dats]
theorem after0_49 (c : Dev nD) (t : Fin cfg0.N) : (dats m 0 c).after 49 t = out49 m c t := by dsimp only [dats]
theorem after0_50 (c : Dev nD) (t : Fin cfg0.N) : (dats m 0 c).after 50 t = out50 m c t := by dsimp only [dats]
theorem after0_51 (c : Dev nD) (t : Fin cfg0.N) : (dats m 0 c).after 51 t = out51 m c t := by dsimp only [dats]
theorem after0_52 (c : Dev nD) (t : Fin cfg0.N) : (dats m 0 c).after 52 t = out52 m c t := by dsimp only [dats]
theorem after0_53 (c : Dev nD) (t : Fin cfg0.N) : (dats m 0 c).after 53 t = out53 m c t := by dsimp only [dats]
theorem after0_54 (c : Dev nD) (t : Fin cfg0.N) : (dats m 0 c).after 54 t = out54 m c t := by dsimp only [dats]
theorem after0_55 (c : Dev nD) (t : Fin cfg0.N) : (dats m 0 c).after 55 t = out55 m c t := by dsimp only [dats]
theorem after0_56 (c : Dev nD) (t : Fin cfg0.N) : (dats m 0 c).after 56 t = out56 m c t := by dsimp only [dats]
theorem after0_57 (c : Dev nD) (t : Fin cfg0.N) : (dats m 0 c).after 57 t = out57 m c t := by dsimp only [dats]
theorem after0_58 (c : Dev nD) (t : Fin cfg0.N) : (dats m 0 c).after 58 t = out58 m c t := by dsimp only [dats]
theorem after0_59 (c : Dev nD) (t : Fin cfg0.N) : (dats m 0 c).after 59 t = out59 m c t := by dsimp only [dats]
theorem after0_60 (c : Dev nD) (t : Fin cfg0.N) : (dats m 0 c).after 60 t = out60 m c t := by dsimp only [dats]
theorem after0_61 (c : Dev nD) (t : Fin cfg0.N) : (dats m 0 c).after 61 t = out61 m c t := by dsimp only [dats]
theorem after0_62 (c : Dev nD) (t : Fin cfg0.N) : (dats m 0 c).after 62 t = out62 m c t := by dsimp only [dats]
theorem after0_63 (c : Dev nD) (t : Fin cfg0.N) : (dats m 0 c).after 63 t = out63 m c t := by dsimp only [dats]
theorem after0_64 (c : Dev nD) (t : Fin cfg0.N) : (dats m 0 c).after 64 t = out64 m c t := by dsimp only [dats]
theorem after0_65 (c : Dev nD) (t : Fin cfg0.N) : (dats m 0 c).after 65 t = out65 m c t := by dsimp only [dats]
theorem after0_66 (c : Dev nD) (t : Fin cfg0.N) : (dats m 0 c).after 66 t = out66 m c t := by dsimp only [dats]
theorem after0_67 (c : Dev nD) (t : Fin cfg0.N) : (dats m 0 c).after 67 t = out67 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d
theorem before0_39 (c : Dev nD) (t : Fin cfg0.N) (d) : (dats m 0 c).before 39 t d = iblk m c 39 t :=
  before0_39_of m (dats m 0 c) (A_eq m c 39) (after0_39 m c) t d
theorem before0_40 (c : Dev nD) (t : Fin cfg0.N) (d) : (dats m 0 c).before 40 t d = iblk m c 40 t :=
  before0_40_of m (dats m 0 c) (A_eq m c 40) (after0_40 m c) t d
theorem before0_41 (c : Dev nD) (t : Fin cfg0.N) (d) : (dats m 0 c).before 41 t d = iblk m c 41 t :=
  before0_41_of m (dats m 0 c) (A_eq m c 41) (after0_41 m c) t d
theorem before0_42 (c : Dev nD) (t : Fin cfg0.N) (d) : (dats m 0 c).before 42 t d = iblk m c 42 t :=
  before0_42_of m (dats m 0 c) (A_eq m c 42) (after0_42 m c) t d
theorem before0_43 (c : Dev nD) (t : Fin cfg0.N) (d) : (dats m 0 c).before 43 t d = iblk m c 43 t :=
  before0_43_of m (dats m 0 c) (A_eq m c 43) (after0_43 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d))
    ∗ (∃ d, owns (c : Thread nD τ) (ms0_59 t) fullShare ((dats m 0 c).before 59 t d))
    ∗ (∃ d, owns (c : Thread nD τ) (ms0_60 t) fullShare ((dats m 0 c).before 60 t d))
    ∗ (∃ d, owns (c : Thread nD τ) (ms0_61 t) fullShare ((dats m 0 c).before 61 t d))
    ∗ (∃ d, owns (c : Thread nD τ) (ms0_62 t) fullShare ((dats m 0 c).before 62 t d))
    ∗ (∃ d, owns (c : Thread nD τ) (ms0_63 t) fullShare ((dats m 0 c).before 63 t d))
    ∗ (∃ d, owns (c : Thread nD τ) (ms0_64 t) fullShare ((dats m 0 c).before 64 t d))
    ∗ (∃ d, owns (c : Thread nD τ) (ms0_65 t) fullShare ((dats m 0 c).before 65 t d))
    ∗ (∃ d, owns (c : Thread nD τ) (ms0_66 t) fullShare ((dats m 0 c).before 66 t d))
    ∗ (∃ d, owns (c : Thread nD τ) (ms0_67 t) fullShare ((dats m 0 c).before 67 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t)
    ∗ owns (c : Thread nD τ) (ms0_59 t) fullShare ((dats m 0 c).after 59 t)
    ∗ owns (c : Thread nD τ) (ms0_60 t) fullShare ((dats m 0 c).after 60 t)
    ∗ owns (c : Thread nD τ) (ms0_61 t) fullShare ((dats m 0 c).after 61 t)
    ∗ owns (c : Thread nD τ) (ms0_62 t) fullShare ((dats m 0 c).after 62 t)
    ∗ owns (c : Thread nD τ) (ms0_63 t) fullShare ((dats m 0 c).after 63 t)
    ∗ owns (c : Thread nD τ) (ms0_64 t) fullShare ((dats m 0 c).after 64 t)
    ∗ owns (c : Thread nD τ) (ms0_65 t) fullShare ((dats m 0 c).after 65 t)
    ∗ owns (c : Thread nD τ) (ms0_66 t) fullShare ((dats m 0 c).after 66 t)
    ∗ owns (c : Thread nD τ) (ms0_67 t) fullShare ((dats m 0 c).after 67 t))

set_option maxHeartbeats 6800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67]
  rw [show (dats m 0 c).Φ t.castSucc = Pipeline.ΦA spec0 c from rfl, PhiA0_eq]
  unfold out44 out45 out46 out47 out48 out49 out50 out51 out52 out53 out54 out55 out56 out57 out58 out59 out60 out61 out62 out63 out64 out65 out66 out67
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [HS0]; · iexact HS0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, ⟨%e44, H44⟩, ⟨%e45, H45⟩, ⟨%e46, H46⟩, ⟨%e47, H47⟩, ⟨%e48, H48⟩, ⟨%e49, H49⟩, ⟨%e50, H50⟩, ⟨%e51, H51⟩, ⟨%e52, H52⟩, ⟨%e53, H53⟩, ⟨%e54, H54⟩, ⟨%e55, H55⟩, ⟨%e56, H56⟩, ⟨%e57, H57⟩, ⟨%e58, H58⟩, ⟨%e59, H59⟩, ⟨%e60, H60⟩, ⟨%e61, H61⟩, ⟨%e62, H62⟩, ⟨%e63, H63⟩, ⟨%e64, H64⟩, ⟨%e65, H65⟩, ⟨%e66, H66⟩, ⟨%e67, H67⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]
  · unfold owns; iexists _; isplitr
    swap; · iexact H44
    ipureintro; exact View.read_writes_eq_canon _ _ _ (cover44 m c t)
  isplitl [H45]
  · unfold owns; iexists _; isplitr
    swap; · iexact H45
    ipureintro; exact View.read_writes_eq_canon _ _ _ (cover45 m c t)
  isplitl [H46]
  · unfold owns; iexists _; isplitr
    swap; · iexact H46
    ipureintro; exact View.read_writes_eq_canon _ _ _ (cover46 m c t)
  isplitl [H47]
  · unfold owns; iexists _; isplitr
    swap; · iexact H47
    ipureintro; exact View.read_writes_eq_canon _ _ _ (cover47 m c t)
  isplitl [H48]
  · unfold owns; iexists _; isplitr
    swap; · iexact H48
    ipureintro; exact View.read_writes_eq_canon _ _ _ (cover48 m c t)
  isplitl [H49]
  · unfold owns; iexists _; isplitr
    swap; · iexact H49
    ipureintro; exact View.read_writes_eq_canon _ _ _ (cover49 m c t)
  isplitl [H50]
  · unfold owns; iexists _; isplitr
    swap; · iexact H50
    ipureintro; exact View.read_writes_eq_canon _ _ _ (cover50 m c t)
  isplitl [H51]
  · unfold owns; iexists _; isplitr
    swap; · iexact H51
    ipureintro; exact View.read_writes_eq_canon _ _ _ (cover51 m c t)
  isplitl [H52]
  · unfold owns; iexists _; isplitr
    swap; · iexact H52
    ipureintro; exact View.read_writes_eq_canon _ _ _ (cover52 m c t)
  isplitl [H53]
  · unfold owns; iexists _; isplitr
    swap; · iexact H53
    ipureintro; exact View.read_writes_eq_canon _ _ _ (cover53 m c t)
  isplitl [H54]
  · unfold owns; iexists _; isplitr
    swap; · iexact H54
    ipureintro; exact View.read_writes_eq_canon _ _ _ (cover54 m c t)
  isplitl [H55]
  · unfold owns; iexists _; isplitr
    swap; · iexact H55
    ipureintro; exact View.read_writes_eq_canon _ _ _ (cover55 m c t)
  isplitl [H56]
  · unfold owns; iexists _; isplitr
    swap; · iexact H56
    ipureintro; exact View.read_writes_eq_canon _ _ _ (cover56 m c t)
  isplitl [H57]
  · unfold owns; iexists _; isplitr
    swap; · iexact H57
    ipureintro; exact View.read_writes_eq_canon _ _ _ (cover57 m c t)
  isplitl [H58]
  · unfold owns; iexists _; isplitr
    swap; · iexact H58
    ipureintro; exact View.read_writes_eq_canon _ _ _ (cover58 m c t)
  isplitl [H59]
  · unfold owns; iexists _; isplitr
    swap; · iexact H59
    ipureintro; exact View.read_writes_eq_canon _ _ _ (cover59 m c t)
  isplitl [H60]
  · unfold owns; iexists _; isplitr
    swap; · iexact H60
    ipureintro; exact View.read_writes_eq_canon _ _ _ (cover60 m c t)
  isplitl [H61]
  · unfold owns; iexists _; isplitr
    swap; · iexact H61
    ipureintro; exact View.read_writes_eq_canon _ _ _ (cover61 m c t)
  isplitl [H62]
  · unfold owns; iexists _; isplitr
    swap; · iexact H62
    ipureintro; exact View.read_writes_eq_canon _ _ _ (cover62 m c t)
  isplitl [H63]
  · unfold owns; iexists _; isplitr
    swap; · iexact H63
    ipureintro; exact View.read_writes_eq_canon _ _ _ (cover63 m c t)
  isplitl [H64]
  · unfold owns; iexists _; isplitr
    swap; · iexact H64
    ipureintro; exact View.read_writes_eq_canon _ _ _ (cover64 m c t)
  isplitl [H65]
  · unfold owns; iexists _; isplitr
    swap; · iexact H65
    ipureintro; exact View.read_writes_eq_canon _ _ _ (cover65 m c t)
  isplitl [H66]
  · unfold owns; iexists _; isplitr
    swap; · iexact H66
    ipureintro; exact View.read_writes_eq_canon _ _ _ (cover66 m c t)
  unfold owns; iexists _; isplitr
  swap; · iexact H67
  ipureintro; exact View.read_writes_eq_canon _ _ _ (cover67 m c t)

end Cert.Proof.QueryIdeal

end
-- ==== Proof.QueryIdealFrame.lean ====
/- The run of the query call and its frame: every execution ends, every argument is kept, every semaphore ends at zero. -/
module

public import proofs.«01_k».proof.Proof.QueryIdealBody
public import Idealize.ShloMosaic.Lib.Claim
public import Idealize.ShloMosaic.Lib.Pipeline.Value

@[expose] public section

set_option maxRecDepth 16384

noncomputable section

namespace Cert.Proof.QueryIdeal

open Cert.QueryIdeal Cert.QueryIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the results' blocks stay closed below: only their names matter
attribute [local irreducible] out44 out45 out46 out47 out48 out49 out50 out51 out52 out53 out54 out55 out56 out57 out58 out59 out60 out61 out62 out63 out64 out65 out66 out67

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6800000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)) :=
  frame_of m ρ (dats m) (A_eq m) (run_main m ρ)

/-- THE FRAME: every execution ends with every argument kept and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43))
      ∧ r.2.sem = fun _ => 0) :=
  θ_run_and (unchanged m ρ) ((θ_run defs _ _).mono (fun _ h => h.2) (run_main_quiescent m ρ))

end Cert.Proof.QueryIdeal

end
-- ==== Proof.QueryClaims.lean ====
/- The frames of the query call's three programs and its `preserves` claim. -/
module

public import proofs.«01_k».proof.Defs
public import proofs.«01_k».proof.Proof.QueryFrame
public import proofs.«01_k».proof.Proof.QueryIdealFrame
public import proofs.«01_k».proof.Proof.Gen.QueryReferenceIdeal.Run
public import Idealize.ShloMosaic.Lib.Quiescent

@[expose] public section

noncomputable section

open Idealize.ShloMosaic Idealize.SL.Sem

namespace Cert.Proof.QueryClaims

/-- The query call as printed terminates without a fault, keeps its arguments, and leaves every semaphore at zero. -/
theorem frame_p [Cert.Query.Facts] : Cert.quiescent_Query := fun m ρ _ => Cert.Proof.Query.frame m ρ
/-- The same of the call over the extended reals. -/
theorem frame_pi [Cert.QueryIdeal.Facts] : Cert.quiescent_QueryIdeal := fun m ρ _ => Cert.Proof.QueryIdeal.frame m ρ
/-- The same of its reference over the extended reals. -/
theorem frame_ri [Cert.QueryReferenceIdeal.Facts] : Cert.quiescent_QueryReferenceIdeal := fun m ρ _ =>
  (θ_run Cert.QueryReferenceIdeal.defs _ _).mono (fun r h => ⟨fun c => (h c).2.2.2.2.2.2,
      Idealize.ShloMosaic.sem_eq_zero_of_no_sems (by decide) r.2⟩)
    (Cert.QueryReferenceIdeal.Value.run (F := Ideal) m ρ)

/-- No operation is rewritten. -/
theorem preserves : Cert.preserves_Query_QueryIdeal := trivial

end Cert.Proof.QueryClaims

end
-- ==== Proof.QueryRows.lean ====
/- Rows of 256 numbers: their scale, their codes, the linear layer on codes and the layer norm, and what the query call's
   operations make of the 624 rows of the padded scratch (104 for an image, 100 of them a query). -/
module

public import proofs.«01_k».proof.Proof.Gen.QueryIdeal.Skeleton
public import Idealize.ShloMosaic.Lib.Pointwise
public import Idealize.ShloMosaic.Lib.Pipeline.FrameBody

@[expose] public section

set_option maxRecDepth 16384

noncomputable section

open Idealize.ShloMosaic Idealize.SL.Sem

namespace Cert.Proof.QueryRows

open Cert.QueryIdeal Cert.QueryIdeal.Gen

/-- The largest absolute value of a row. -/
def amax (z : Fin 256 → EReal) : EReal := Finset.fold max (Ideal.ofBits .f32 4286578688#32) (fun x : Fin 256 => FloatOps.absf (F := Ideal) (φ := .f32) (z x)) Finset.univ

/-- A row's scale: its largest absolute value over 127, or 1 for a row of zeros. -/
def scl (z : Fin 256 → EReal) : EReal := if amax z = 0 then 1 else Ideal.div (amax z) (Ideal.ofBits .f32 1123942400#32)

/-- A row's codes: its quotients by its scale, rounded to the nearest integer (ties to even) and clipped to -127 … 127. -/
def cod (z : Fin 256 → EReal) (k : Fin 256) : EReal :=
  min (((127#32 : BitVec 32).toInt : ℝ) : EReal) (max (((4294967169#32 : BitVec 32).toInt : ℝ) : EReal) (Ideal.liftRound Ideal.roundHalfEven (Ideal.div (z k) (scl z))))

/-- A linear layer on the codes of a row: the codes times the weight's codes, by the row's scale, by the column's scale, plus the bias. -/
def lin (z : Fin 256 → EReal) (w : Fin 256 → Fin 256 → BitVec 8) (s b : Fin 256 → EReal) (k : Fin 256) : EReal :=
  (∑ x : Fin 256, cod z x * FloatOps.sitofp (F := Ideal) .bf16 (w x k)) * scl z * s k + b k

/-- A row less its mean. -/
def cen (y : Fin 256 → EReal) (k : Fin 256) : EReal := y k - Ideal.div (∑ x : Fin 256, y x) (Ideal.ofBits .f32 1132462080#32)

/-- The layer norm of a row. -/
def lnorm (y g b : Fin 256 → EReal) (k : Fin 256) : EReal :=
  Ideal.div (cen y k) (Ideal.sqrt (Ideal.div (∑ x : Fin 256, cen y x * cen y x) (Ideal.ofBits .f32 1132462080#32) + Ideal.ofBits .f32 925353388#32)) * g k + b k

/-- Row `q` of image `b` among the 624 rows: an image takes 104 of them. -/
def row (b : Fin 6) (q : Fin 100) : Fin 624 := ⟨104 * b.val + q.val, by omega⟩

theorem pay24 (v : Vec Ideal S6x104x256 .f32) (b : Fin 6) (q : Fin 100) (k : Fin 256) :
    k0_pay24 v (ix2 (row b q) k) = v (ix3 b ⟨q.val, by omega⟩ k) := by
  unfold k0_pay24 row
  pointwise
  congr 2
  exact Fin.ext (show (104 * b.val + q.val) % 104 = q.val by omega)

theorem pay34 (v : FVec Ideal S624x256 .f32) (r : Fin 624) : k0_pay34 v (ix2 r 0) = scl fun x => v (ix2 r x) := by
  unfold k0_pay34 scl amax
  pointwise
  done

theorem pay35 (v : FVec Ideal S624x256 .f32) (r : Fin 624) (j : Fin 256) : k0_pay35 v (ix2 r j) = cod (fun x => v (ix2 r x)) j := by
  unfold cod
  rw [← pay34]
  unfold k0_pay35
  pointwise
  done

theorem pay43 (X Z : FVec Ideal S624x256 .f32) (w : Vec Ideal S256x256 .i8) (s b : Vec Ideal S1x256 .f32) (r : Fin 624) (k : Fin 256) :
    k0_pay43 X (k0_pay34 Z) (k0_pay35 Z) w s b (ix2 r k)
      = X (ix2 r k) + lin (fun x => Z (ix2 r x)) (fun x j => w (ix2 x j)) (fun j => s (ix2 0 j)) (fun j => b (ix2 0 j)) k := by
  have h : ∀ x, (k0_pay35 Z : FVec Ideal S624x256 .f32) (ix2 r x) = cod (fun x => Z (ix2 r x)) x := fun x => pay35 Z r x
  unfold lin
  simp only [← h]
  rw [← pay34]
  unfold k0_pay43
  pointwise [dot_S624x256_S256x256_S624x256_1_0_0_1_n_n]
  done

theorem pay46 (y : FVec Ideal S624x256 .f32) (g b : Vec Ideal S1x256 .f32) (r : Fin 624) (k : Fin 256) :
    k0_pay46 y (k0_pay44 g) (k0_pay45 b) (ix2 r k) = lnorm (fun x => y (ix2 r x)) (fun j => g (ix2 0 j)) (fun j => b (ix2 0 j)) k := by
  unfold k0_pay46 k0_pay44 k0_pay45 lnorm cen
  pointwise
  done

theorem pay47 (p y : FVec Ideal S624x256 .f32) (g b : FVec Ideal S1x256 .f32) (r : Fin 624) (k : Fin 256) :
    k0_pay47 p y g b (ix2 r k) = k0_pay46 y g b (ix2 r k) + p (ix2 r k) := by
  unfold k0_pay47
  pointwise
  done

/-- Image `b`'s codes out of the rows. -/
def store (b : Fin 6) (C : FVec Ideal S624x256 .f32) : S1x100x256.Idx → Elt Ideal .i8 := match b with
  | 0 => shapeCast S1x100x256 (fptosi 8 (extractStridedSlice S100x256 ![0, 0] C slices_S624x256_o0_0_S100x256)) shapeCasts_S100x256_S1x100x256
  | 1 => shapeCast S1x100x256 (fptosi 8 (extractStridedSlice S100x256 ![104, 0] C slices_S624x256_o104_0_S100x256)) shapeCasts_S100x256_S1x100x256
  | 2 => shapeCast S1x100x256 (fptosi 8 (extractStridedSlice S100x256 ![208, 0] C slices_S624x256_o208_0_S100x256)) shapeCasts_S100x256_S1x100x256
  | 3 => shapeCast S1x100x256 (fptosi 8 (extractStridedSlice S100x256 ![312, 0] C slices_S624x256_o312_0_S100x256)) shapeCasts_S100x256_S1x100x256
  | 4 => shapeCast S1x100x256 (fptosi 8 (extractStridedSlice S100x256 ![416, 0] C slices_S624x256_o416_0_S100x256)) shapeCasts_S100x256_S1x100x256
  | 5 => shapeCast S1x100x256 (fptosi 8 (extractStridedSlice S100x256 ![520, 0] C slices_S624x256_o520_0_S100x256)) shapeCasts_S100x256_S1x100x256

theorem store_apply (b : Fin 6) (C : FVec Ideal S624x256 .f32) (q : Fin 100) (k : Fin 256) :
    store b C (ix3 0 q k) = Ideal.fptosi 8 (C (ix2 (row b q) k)) := by
  match b with
  | 0 => unfold store row; pointwise; rfl
  | 1 => unfold store row; pointwise; rfl
  | 2 => unfold store row; pointwise; rfl
  | 3 => unfold store row; pointwise; rfl
  | 4 => unfold store row; pointwise; rfl
  | 5 => unfold store row; pointwise; rfl

/-- Lane `0`, `1`, `2` of the packed scales. -/
theorem lanes (a b c d e f g h : FVec Ideal S624x1 .f32) (x8 : FVec Ideal S624x1 .f32) (x9 : FVec Ideal S624x1 .f32) (r : Fin 624) :
    k0_pay225 x9 (iota .tc S624x128 32 [1] iota_S624x128_d1_w32) (k0_pay222 a b c d e f g h) k0_pay223 x8 (ix2 r 0) = a (ix2 r 0)
    ∧ k0_pay225 x9 (iota .tc S624x128 32 [1] iota_S624x128_d1_w32) (k0_pay222 a b c d e f g h) k0_pay223 x8 (ix2 r 1) = b (ix2 r 0)
    ∧ k0_pay225 x9 (iota .tc S624x128 32 [1] iota_S624x128_d1_w32) (k0_pay222 a b c d e f g h) k0_pay223 x8 (ix2 r 2) = c (ix2 r 0) := by
  refine ⟨?_, ?_, ?_⟩
  · unfold k0_pay225 k0_pay222 k0_pay223; pointwise; rfl
  · unfold k0_pay225 k0_pay222 k0_pay223; pointwise; rfl
  · unfold k0_pay225 k0_pay222 k0_pay223; pointwise; rfl

/-- Six images stored one after the other in the padded scratch buffer: each image reads its own store. -/
theorem padSix_miss {e : EltTy} (o : Nat) (i : ∀ a, (![o, 0, 0] : Fin 3 → Nat) a + S1x100x256.size a ≤ S6x104x256.size a) (p : S1x100x256.Idx → Elt Ideal e) (L : List (View.Piece (Elt Ideal) S6x104x256 e)) (b : Fin 6) (q : Fin 100) (k : Fin 256) (h : b.val < o) :
    View.canon (Val := Elt Ideal) ((⟨Rect.unit (s := S6x104x256) ![o, 0, 0] S1x100x256.size i, p⟩ : View.Piece (Elt Ideal) S6x104x256 e) :: L) (ix3 b ⟨q.val, by omega⟩ k : S6x104x256.Idx) = View.canon L (ix3 b ⟨q.val, by omega⟩ k : S6x104x256.Idx) := by
  refine View.canon_cons_of_not_mem _ L fun hm => ?_
  simp only [Rect.mem_set_unit] at hm
  have h0 := hm (0 : Fin 3)
  have h1 : o ≤ b.val := h0.1
  omega
theorem padSix_hit {e : EltTy} (o : Nat) (i : ∀ a, (![o, 0, 0] : Fin 3 → Nat) a + S1x100x256.size a ≤ S6x104x256.size a) (p : S1x100x256.Idx → Elt Ideal e) (L : List (View.Piece (Elt Ideal) S6x104x256 e)) (b : Fin 6) (q : Fin 100) (k : Fin 256) (h : b.val = o) :
    View.canon (Val := Elt Ideal) ((⟨Rect.unit (s := S6x104x256) ![o, 0, 0] S1x100x256.size i, p⟩ : View.Piece (Elt Ideal) S6x104x256 e) :: L) (ix3 b ⟨q.val, by omega⟩ k : S6x104x256.Idx) = p (ix3 0 q k) := by
  have hx : (Rect.unit (s := S6x104x256) ![o, 0, 0] S1x100x256.size i).emb (ix3 0 q k : S1x100x256.Idx) = (ix3 b ⟨q.val, by omega⟩ k : S6x104x256.Idx) := by
    funext a
    apply Fin.ext
    match a with
    | ⟨0, _⟩ => exact (show o + 1 * 0 = b.val by omega)
    | ⟨1, _⟩ => exact (show 0 + 1 * q.val = q.val by omega)
    | ⟨2, _⟩ => exact (show 0 + 1 * k.val = k.val by omega)
  rw [← hx]
  exact View.canon_cons_emb (Rect.unit (s := S6x104x256) ![o, 0, 0] S1x100x256.size i) p L (ix3 0 q k)
theorem padSix {e : EltTy} (p0 p1 p2 p3 p4 p5 : S1x100x256.Idx → Elt Ideal e) (L : List (View.Piece (Elt Ideal) S6x104x256 e)) (i0 i1 i2 i3 i4 i5) (b : Fin 6) (q : Fin 100) (k : Fin 256) :
    View.canon (Val := Elt Ideal) ((⟨Rect.unit (s := S6x104x256) ![5, 0, 0] S1x100x256.size i5, p5⟩ : View.Piece (Elt Ideal) S6x104x256 e) :: (⟨Rect.unit (s := S6x104x256) ![4, 0, 0] S1x100x256.size i4, p4⟩ : View.Piece (Elt Ideal) S6x104x256 e) :: (⟨Rect.unit (s := S6x104x256) ![3, 0, 0] S1x100x256.size i3, p3⟩ : View.Piece (Elt Ideal) S6x104x256 e) :: (⟨Rect.unit (s := S6x104x256) ![2, 0, 0] S1x100x256.size i2, p2⟩ : View.Piece (Elt Ideal) S6x104x256 e) :: (⟨Rect.unit (s := S6x104x256) ![1, 0, 0] S1x100x256.size i1, p1⟩ : View.Piece (Elt Ideal) S6x104x256 e) :: (⟨Rect.unit (s := S6x104x256) ![0, 0, 0] S1x100x256.size i0, p0⟩ : View.Piece (Elt Ideal) S6x104x256 e) :: L) (ix3 b ⟨q.val, by omega⟩ k : S6x104x256.Idx)
      = match b with
        | 0 => p0 (ix3 0 q k)
        | 1 => p1 (ix3 0 q k)
        | 2 => p2 (ix3 0 q k)
        | 3 => p3 (ix3 0 q k)
        | 4 => p4 (ix3 0 q k)
        | 5 => p5 (ix3 0 q k) := by
  match b with
  | 0 => exact (padSix_miss 5 _ _ _ 0 q k (by decide)).trans ((padSix_miss 4 _ _ _ 0 q k (by decide)).trans ((padSix_miss 3 _ _ _ 0 q k (by decide)).trans ((padSix_miss 2 _ _ _ 0 q k (by decide)).trans ((padSix_miss 1 _ _ _ 0 q k (by decide)).trans (padSix_hit 0 _ _ _ 0 q k rfl)))))
  | 1 => exact (padSix_miss 5 _ _ _ 1 q k (by decide)).trans ((padSix_miss 4 _ _ _ 1 q k (by decide)).trans ((padSix_miss 3 _ _ _ 1 q k (by decide)).trans ((padSix_miss 2 _ _ _ 1 q k (by decide)).trans (padSix_hit 1 _ _ _ 1 q k rfl))))
  | 2 => exact (padSix_miss 5 _ _ _ 2 q k (by decide)).trans ((padSix_miss 4 _ _ _ 2 q k (by decide)).trans ((padSix_miss 3 _ _ _ 2 q k (by decide)).trans (padSix_hit 2 _ _ _ 2 q k rfl)))
  | 3 => exact (padSix_miss 5 _ _ _ 3 q k (by decide)).trans ((padSix_miss 4 _ _ _ 3 q k (by decide)).trans (padSix_hit 3 _ _ _ 3 q k rfl))
  | 4 => exact (padSix_miss 5 _ _ _ 4 q k (by decide)).trans (padSix_hit 4 _ _ _ 4 q k rfl)
  | 5 => exact padSix_hit 5 _ _ _ 5 q k rfl

/-- Six images stored one after the other in an output of codes: each image reads its own store. -/
theorem outSix_miss {e : EltTy} (o : Nat) (i : ∀ a, (![o, 0, 0] : Fin 3 → Nat) a + S1x100x256.size a ≤ S6x100x256.size a) (p : S1x100x256.Idx → Elt Ideal e) (L : List (View.Piece (Elt Ideal) S6x100x256 e)) (b : Fin 6) (q : Fin 100) (k : Fin 256) (h : b.val < o) :
    View.canon (Val := Elt Ideal) ((⟨Rect.unit (s := S6x100x256) ![o, 0, 0] S1x100x256.size i, p⟩ : View.Piece (Elt Ideal) S6x100x256 e) :: L) (ix3 b q k : S6x100x256.Idx) = View.canon L (ix3 b q k : S6x100x256.Idx) := by
  refine View.canon_cons_of_not_mem _ L fun hm => ?_
  simp only [Rect.mem_set_unit] at hm
  have h0 := hm (0 : Fin 3)
  have h1 : o ≤ b.val := h0.1
  omega
theorem outSix_hit {e : EltTy} (o : Nat) (i : ∀ a, (![o, 0, 0] : Fin 3 → Nat) a + S1x100x256.size a ≤ S6x100x256.size a) (p : S1x100x256.Idx → Elt Ideal e) (L : List (View.Piece (Elt Ideal) S6x100x256 e)) (b : Fin 6) (q : Fin 100) (k : Fin 256) (h : b.val = o) :
    View.canon (Val := Elt Ideal) ((⟨Rect.unit (s := S6x100x256) ![o, 0, 0] S1x100x256.size i, p⟩ : View.Piece (Elt Ideal) S6x100x256 e) :: L) (ix3 b q k : S6x100x256.Idx) = p (ix3 0 q k) := by
  have hx : (Rect.unit (s := S6x100x256) ![o, 0, 0] S1x100x256.size i).emb (ix3 0 q k : S1x100x256.Idx) = (ix3 b q k : S6x100x256.Idx) := by
    funext a
    apply Fin.ext
    match a with
    | ⟨0, _⟩ => exact (show o + 1 * 0 = b.val by omega)
    | ⟨1, _⟩ => exact (show 0 + 1 * q.val = q.val by omega)
    | ⟨2, _⟩ => exact (show 0 + 1 * k.val = k.val by omega)
  rw [← hx]
  exact View.canon_cons_emb (Rect.unit (s := S6x100x256) ![o, 0, 0] S1x100x256.size i) p L (ix3 0 q k)
theorem outSix {e : EltTy} (p0 p1 p2 p3 p4 p5 : S1x100x256.Idx → Elt Ideal e) (L : List (View.Piece (Elt Ideal) S6x100x256 e)) (i0 i1 i2 i3 i4 i5) (b : Fin 6) (q : Fin 100) (k : Fin 256) :
    View.canon (Val := Elt Ideal) ((⟨Rect.unit (s := S6x100x256) ![5, 0, 0] S1x100x256.size i5, p5⟩ : View.Piece (Elt Ideal) S6x100x256 e) :: (⟨Rect.unit (s := S6x100x256) ![4, 0, 0] S1x100x256.size i4, p4⟩ : View.Piece (Elt Ideal) S6x100x256 e) :: (⟨Rect.unit (s := S6x100x256) ![3, 0, 0] S1x100x256.size i3, p3⟩ : View.Piece (Elt Ideal) S6x100x256 e) :: (⟨Rect.unit (s := S6x100x256) ![2, 0, 0] S1x100x256.size i2, p2⟩ : View.Piece (Elt Ideal) S6x100x256 e) :: (⟨Rect.unit (s := S6x100x256) ![1, 0, 0] S1x100x256.size i1, p1⟩ : View.Piece (Elt Ideal) S6x100x256 e) :: (⟨Rect.unit (s := S6x100x256) ![0, 0, 0] S1x100x256.size i0, p0⟩ : View.Piece (Elt Ideal) S6x100x256 e) :: L) (ix3 b q k : S6x100x256.Idx)
      = match b with
        | 0 => p0 (ix3 0 q k)
        | 1 => p1 (ix3 0 q k)
        | 2 => p2 (ix3 0 q k)
        | 3 => p3 (ix3 0 q k)
        | 4 => p4 (ix3 0 q k)
        | 5 => p5 (ix3 0 q k) := by
  match b with
  | 0 => exact (outSix_miss 5 _ _ _ 0 q k (by decide)).trans ((outSix_miss 4 _ _ _ 0 q k (by decide)).trans ((outSix_miss 3 _ _ _ 0 q k (by decide)).trans ((outSix_miss 2 _ _ _ 0 q k (by decide)).trans ((outSix_miss 1 _ _ _ 0 q k (by decide)).trans (outSix_hit 0 _ _ _ 0 q k rfl)))))
  | 1 => exact (outSix_miss 5 _ _ _ 1 q k (by decide)).trans ((outSix_miss 4 _ _ _ 1 q k (by decide)).trans ((outSix_miss 3 _ _ _ 1 q k (by decide)).trans ((outSix_miss 2 _ _ _ 1 q k (by decide)).trans (outSix_hit 1 _ _ _ 1 q k rfl))))
  | 2 => exact (outSix_miss 5 _ _ _ 2 q k (by decide)).trans ((outSix_miss 4 _ _ _ 2 q k (by decide)).trans ((outSix_miss 3 _ _ _ 2 q k (by decide)).trans (outSix_hit 2 _ _ _ 2 q k rfl)))
  | 3 => exact (outSix_miss 5 _ _ _ 3 q k (by decide)).trans ((outSix_miss 4 _ _ _ 3 q k (by decide)).trans (outSix_hit 3 _ _ _ 3 q k rfl))
  | 4 => exact (outSix_miss 5 _ _ _ 4 q k (by decide)).trans (outSix_hit 4 _ _ _ 4 q k rfl)
  | 5 => exact outSix_hit 5 _ _ _ 5 q k rfl

end Cert.Proof.QueryRows

end
-- ==== Proof.QueryScratch.lean ====
/- What the scratch of the query call hands on: the rows of the queries, of the cross context and of the query positions. -/
module

public import proofs.«01_k».proof.Proof.QueryIdealBody
public import proofs.«01_k».proof.Proof.QueryRows
public import Idealize.ShloMosaic.Lib.WholeRead

@[expose] public section

set_option maxRecDepth 16384

noncomputable section

open Idealize.ShloMosaic Idealize.SL.Sem

namespace Cert.Proof.QueryRows

open Cert.QueryIdeal Cert.QueryIdeal.Gen Cert.Proof.QueryIdeal

theorem pay15 (v : Vec Ideal S6x104x256 .f32) (b : Fin 6) (q : Fin 100) (k : Fin 256) :
    k0_pay15 v (ix2 (row b q) k) = v (ix3 b ⟨q.val, by omega⟩ k) := by
  unfold k0_pay15 row
  pointwise
  congr 2
  exact Fin.ext (show (104 * b.val + q.val) % 104 = q.val by omega)

theorem pay33 (v : Vec Ideal S6x104x256 .f32) (b : Fin 6) (q : Fin 100) (k : Fin 256) :
    k0_pay33 v (ix2 (row b q) k) = v (ix3 b ⟨q.val, by omega⟩ k) := by
  unfold k0_pay33 row
  pointwise
  congr 2
  exact Fin.ext (show (104 * b.val + q.val) % 104 = q.val by omega)

/-- The whole scratch buffer reads its own index. -/
theorem whole_idx (j : S6x104x256.Idx) (i : ∀ a, (![0, 0, 0] : Fin 3 → Nat) a + S6x104x256.size a ≤ S6x104x256.size a) :
    (Rect.unit (s := S6x104x256) ![0, 0, 0] S6x104x256.size i).toLoadRect.idx j = j := by
  funext a
  apply Fin.ext
  match a with
  | ⟨0, _⟩ => exact (show 0 + 1 * (j 0).val = (j 0).val by omega)
  | ⟨1, _⟩ => exact (show 0 + 1 * (j 1).val = (j 1).val by omega)
  | ⟨2, _⟩ => exact (show 0 + 1 * (j 2).val = (j 2).val by omega)

/-- One image of six reads that image. -/
theorem image_idx (o : Nat) (i : ∀ a, (![o, 0, 0] : Fin 3 → Nat) a + S1x100x256.size a ≤ S6x100x256.size a) (b : Fin 6) (q : Fin 100) (k : Fin 256) (h : b.val = o) :
    (Rect.unit (s := S6x100x256) ![o, 0, 0] S1x100x256.size i).toLoadRect.idx (ix3 0 q k : S1x100x256.Idx) = (ix3 b q k : S6x100x256.Idx) := by
  funext a
  apply Fin.ext
  match a with
  | ⟨0, _⟩ => exact (show o + 1 * 0 = b.val by omega)
  | ⟨1, _⟩ => exact (show 0 + 1 * q.val = q.val by omega)
  | ⟨2, _⟩ => exact (show 0 + 1 * k.val = k.val by omega)

theorem plane_idx (i : ∀ a, (![0, 0] : Fin 2 → Nat) a + S100x256.size a ≤ S100x256.size a) (q : Fin 100) (k : Fin 256) :
    (Rect.unit (s := S100x256) ![0, 0] S100x256.size i).toLoadRect.idx (ix2 q k : S100x256.Idx) = (ix2 q k : S100x256.Idx) := by
  funext a
  apply Fin.ext
  match a with
  | ⟨0, _⟩ => exact (show 0 + 1 * q.val = q.val by omega)
  | ⟨1, _⟩ => exact (show 0 + 1 * k.val = k.val by omega)

theorem pay9 (v : Vec Ideal S1x100x256 .bf16) (q : Fin 100) (k : Fin 256) : (k0_pay9 v (ix3 0 q k) : EReal) = v (ix3 0 q k) := by
  unfold k0_pay9
  pointwise
  done

theorem pay10 (v : Vec Ideal S1x100x256 .bf16) (q : Fin 100) (k : Fin 256) : (k0_pay10 v (ix3 0 q k) : EReal) = v (ix3 0 q k) := by
  unfold k0_pay10
  pointwise
  done

theorem pay11 (v : Vec Ideal S1x100x256 .bf16) (q : Fin 100) (k : Fin 256) : (k0_pay11 v (ix3 0 q k) : EReal) = v (ix3 0 q k) := by
  unfold k0_pay11
  pointwise
  done

theorem pay12 (v : Vec Ideal S1x100x256 .bf16) (q : Fin 100) (k : Fin 256) : (k0_pay12 v (ix3 0 q k) : EReal) = v (ix3 0 q k) := by
  unfold k0_pay12
  pointwise
  done

theorem pay13 (v : Vec Ideal S1x100x256 .bf16) (q : Fin 100) (k : Fin 256) : (k0_pay13 v (ix3 0 q k) : EReal) = v (ix3 0 q k) := by
  unfold k0_pay13
  pointwise
  done

theorem pay14 (v : Vec Ideal S1x100x256 .bf16) (q : Fin 100) (k : Fin 256) : (k0_pay14 v (ix3 0 q k) : EReal) = v (ix3 0 q k) := by
  unfold k0_pay14
  pointwise
  done

theorem pay17 (v : Vec Ideal S1x100x256 .f32) (q : Fin 100) (k : Fin 256) : k0_pay17 v (ix3 0 q k) = v (ix3 0 q k) := by
  unfold k0_pay17
  pointwise
  done

theorem pay19 (v : Vec Ideal S1x100x256 .f32) (q : Fin 100) (k : Fin 256) : k0_pay19 (k0_pay18 v) (ix3 0 q k) = v (ix3 0 q k) := by
  unfold k0_pay19 k0_pay18
  pointwise
  done

theorem pay20 (v : Vec Ideal S1x100x256 .f32) (q : Fin 100) (k : Fin 256) : k0_pay20 v (ix3 0 q k) = v (ix3 0 q k) := by
  unfold k0_pay20
  pointwise
  done

theorem pay21 (v : Vec Ideal S1x100x256 .f32) (q : Fin 100) (k : Fin 256) : k0_pay21 v (ix3 0 q k) = v (ix3 0 q k) := by
  unfold k0_pay21
  pointwise
  done

theorem pay22 (v : Vec Ideal S1x100x256 .f32) (q : Fin 100) (k : Fin 256) : k0_pay22 v (ix3 0 q k) = v (ix3 0 q k) := by
  unfold k0_pay22
  pointwise
  done

theorem pay23 (v : Vec Ideal S1x100x256 .f32) (q : Fin 100) (k : Fin 256) : k0_pay23 v (ix3 0 q k) = v (ix3 0 q k) := by
  unfold k0_pay23
  pointwise
  done

theorem pay27 (v : Vec Ideal S100x256 .f32) (q : Fin 100) (k : Fin 256) : k0_pay27 v (ix3 0 q k) = v (ix2 q k) := by
  unfold k0_pay27
  pointwise
  done

theorem pay28 (v : Vec Ideal S100x256 .f32) (q : Fin 100) (k : Fin 256) : k0_pay28 v (ix3 0 q k) = v (ix2 q k) := by
  unfold k0_pay28
  pointwise
  done

theorem pay29 (v : Vec Ideal S100x256 .f32) (q : Fin 100) (k : Fin 256) : k0_pay29 v (ix3 0 q k) = v (ix2 q k) := by
  unfold k0_pay29
  pointwise
  done

theorem pay30 (v : Vec Ideal S100x256 .f32) (q : Fin 100) (k : Fin 256) : k0_pay30 v (ix3 0 q k) = v (ix2 q k) := by
  unfold k0_pay30
  pointwise
  done

theorem pay31 (v : Vec Ideal S100x256 .f32) (q : Fin 100) (k : Fin 256) : k0_pay31 v (ix3 0 q k) = v (ix2 q k) := by
  unfold k0_pay31
  pointwise
  done

theorem pay32 (v : Vec Ideal S100x256 .f32) (q : Fin 100) (k : Fin 256) : k0_pay32 v (ix3 0 q k) = v (ix2 q k) := by
  unfold k0_pay32
  pointwise
  done

variable (c : Dev nD) (arg0 : Memref sig .tc .vmem S6x100x256 .bf16) (harg0 : arg0.IsWhole) (arg1 : Memref sig .tc .vmem S100x256 .f32) (harg1 : arg1.IsWhole)
  (arg2 : Memref sig .tc .vmem S6x100x256 .f32) (harg2 : arg2.IsWhole) (arg68 : Memref sig .tc .vmem S6x104x256 .f32)
  (x0 : Vec Ideal S6x100x256 .bf16) (x1 : Vec Ideal S100x256 .f32) (x2 : Vec Ideal S6x100x256 .f32)

/-- The rows of the queries. -/
theorem rows_x (b : Fin 6) (q : Fin 100) (k : Fin 256) : (bodyRun.sl.r_1 c arg0 harg0 arg68 x0 (ix2 (row b q) k) : EReal) = x0 (ix3 b q k) := by
  have hL : bodyRun.sl.HS0_7 arg0 harg0 x0 = (⟨Rect.unit (s := S6x104x256) ![5, 0, 0] S1x100x256.size inb_S6x104x256_S1x100x256_5_0_0, (k0_pay14 (View.readAt (Elt Ideal) arg0.view (Rect.unit (s := S6x100x256) ![5, 0, 0] S1x100x256.size inb_S6x100x256_S1x100x256_5_0_0).toLoadRect (harg0.unread x0)))⟩ : View.Piece (Elt Ideal) S6x104x256 .f32) :: (⟨Rect.unit (s := S6x104x256) ![4, 0, 0] S1x100x256.size inb_S6x104x256_S1x100x256_4_0_0, (k0_pay13 (View.readAt (Elt Ideal) arg0.view (Rect.unit (s := S6x100x256) ![4, 0, 0] S1x100x256.size inb_S6x100x256_S1x100x256_4_0_0).toLoadRect (harg0.unread x0)))⟩ : View.Piece (Elt Ideal) S6x104x256 .f32) :: (⟨Rect.unit (s := S6x104x256) ![3, 0, 0] S1x100x256.size inb_S6x104x256_S1x100x256_3_0_0, (k0_pay12 (View.readAt (Elt Ideal) arg0.view (Rect.unit (s := S6x100x256) ![3, 0, 0] S1x100x256.size inb_S6x100x256_S1x100x256_3_0_0).toLoadRect (harg0.unread x0)))⟩ : View.Piece (Elt Ideal) S6x104x256 .f32) :: (⟨Rect.unit (s := S6x104x256) ![2, 0, 0] S1x100x256.size inb_S6x104x256_S1x100x256_2_0_0, (k0_pay11 (View.readAt (Elt Ideal) arg0.view (Rect.unit (s := S6x100x256) ![2, 0, 0] S1x100x256.size inb_S6x100x256_S1x100x256_2_0_0).toLoadRect (harg0.unread x0)))⟩ : View.Piece (Elt Ideal) S6x104x256 .f32) :: (⟨Rect.unit (s := S6x104x256) ![1, 0, 0] S1x100x256.size inb_S6x104x256_S1x100x256_1_0_0, (k0_pay10 (View.readAt (Elt Ideal) arg0.view (Rect.unit (s := S6x100x256) ![1, 0, 0] S1x100x256.size inb_S6x100x256_S1x100x256_1_0_0).toLoadRect (harg0.unread x0)))⟩ : View.Piece (Elt Ideal) S6x104x256 .f32) :: (⟨Rect.unit (s := S6x104x256) ![0, 0, 0] S1x100x256.size inb_S6x104x256_S1x100x256_0_0_0, (k0_pay9 (View.readAt (Elt Ideal) arg0.view (Rect.unit (s := S6x100x256) ![0, 0, 0] S1x100x256.size inb_S6x100x256_S1x100x256_0_0_0).toLoadRect (harg0.unread x0)))⟩ : View.Piece (Elt Ideal) S6x104x256 .f32) :: [⟨Rect.unit (s := S6x104x256) ![0, 0, 0] S6x104x256.size inb_S6x104x256_S6x104x256_0_0_0, (k0_pay8 (F := Ideal))⟩] := rfl
  refine (pay15 (bodyRun.sl.v40 c arg0 harg0 arg68 x0) b q k).trans ?_
  have hv : bodyRun.sl.v40 c arg0 harg0 arg68 x0 = fun j => View.canon (Val := Elt Ideal) (bodyRun.sl.HS0_7 arg0 harg0 x0) ((Rect.unit (s := S6x104x256) ![0, 0, 0] S6x104x256.size inb_S6x104x256_S6x104x256_0_0_0).toLoadRect.idx j) := View.readCov_eq_canon' _ _ _
  rw [hv, hL]
  show View.canon _ _ = _
  rw [whole_idx, padSix]
  match b with
  | 0 => exact (pay9 _ q k).trans ((harg0.readAt_unread x0 _ _).trans (congrArg x0 (image_idx 0 _ 0 q k rfl)))
  | 1 => exact (pay10 _ q k).trans ((harg0.readAt_unread x0 _ _).trans (congrArg x0 (image_idx 1 _ 1 q k rfl)))
  | 2 => exact (pay11 _ q k).trans ((harg0.readAt_unread x0 _ _).trans (congrArg x0 (image_idx 2 _ 2 q k rfl)))
  | 3 => exact (pay12 _ q k).trans ((harg0.readAt_unread x0 _ _).trans (congrArg x0 (image_idx 3 _ 3 q k rfl)))
  | 4 => exact (pay13 _ q k).trans ((harg0.readAt_unread x0 _ _).trans (congrArg x0 (image_idx 4 _ 4 q k rfl)))
  | 5 => exact (pay14 _ q k).trans ((harg0.readAt_unread x0 _ _).trans (congrArg x0 (image_idx 5 _ 5 q k rfl)))

/-- The rows of the cross context. -/
theorem rows_ctx (b : Fin 6) (q : Fin 100) (k : Fin 256) : (bodyRun.sl.r_3 c arg0 harg0 arg2 harg2 arg68 x0 x2 (ix2 (row b q) k) : EReal) = x2 (ix3 b q k) := by
  have hL : bodyRun.sl.HS0_14 arg0 harg0 arg2 harg2 x0 x2 = (⟨Rect.unit (s := S6x104x256) ![5, 0, 0] S1x100x256.size inb_S6x104x256_S1x100x256_5_0_0, (k0_pay23 (View.readAt (Elt Ideal) arg2.view (Rect.unit (s := S6x100x256) ![5, 0, 0] S1x100x256.size inb_S6x100x256_S1x100x256_5_0_0).toLoadRect (harg2.unread x2)))⟩ : View.Piece (Elt Ideal) S6x104x256 .f32) :: (⟨Rect.unit (s := S6x104x256) ![4, 0, 0] S1x100x256.size inb_S6x104x256_S1x100x256_4_0_0, (k0_pay22 (View.readAt (Elt Ideal) arg2.view (Rect.unit (s := S6x100x256) ![4, 0, 0] S1x100x256.size inb_S6x100x256_S1x100x256_4_0_0).toLoadRect (harg2.unread x2)))⟩ : View.Piece (Elt Ideal) S6x104x256 .f32) :: (⟨Rect.unit (s := S6x104x256) ![3, 0, 0] S1x100x256.size inb_S6x104x256_S1x100x256_3_0_0, (k0_pay21 (View.readAt (Elt Ideal) arg2.view (Rect.unit (s := S6x100x256) ![3, 0, 0] S1x100x256.size inb_S6x100x256_S1x100x256_3_0_0).toLoadRect (harg2.unread x2)))⟩ : View.Piece (Elt Ideal) S6x104x256 .f32) :: (⟨Rect.unit (s := S6x104x256) ![2, 0, 0] S1x100x256.size inb_S6x104x256_S1x100x256_2_0_0, (k0_pay20 (View.readAt (Elt Ideal) arg2.view (Rect.unit (s := S6x100x256) ![2, 0, 0] S1x100x256.size inb_S6x100x256_S1x100x256_2_0_0).toLoadRect (harg2.unread x2)))⟩ : View.Piece (Elt Ideal) S6x104x256 .f32) :: (⟨Rect.unit (s := S6x104x256) ![1, 0, 0] S1x100x256.size inb_S6x104x256_S1x100x256_1_0_0, (k0_pay19 (k0_pay18 (View.readAt (Elt Ideal) arg2.view (Rect.unit (s := S6x100x256) ![1, 0, 0] S1x100x256.size inb_S6x100x256_S1x100x256_1_0_0).toLoadRect (harg2.unread x2))))⟩ : View.Piece (Elt Ideal) S6x104x256 .f32) :: (⟨Rect.unit (s := S6x104x256) ![0, 0, 0] S1x100x256.size inb_S6x104x256_S1x100x256_0_0_0, (k0_pay17 (View.readAt (Elt Ideal) arg2.view (Rect.unit (s := S6x100x256) ![0, 0, 0] S1x100x256.size inb_S6x100x256_S1x100x256_0_0_0).toLoadRect (harg2.unread x2)))⟩ : View.Piece (Elt Ideal) S6x104x256 .f32) :: ⟨Rect.unit (s := S6x104x256) ![0, 0, 0] S6x104x256.size inb_S6x104x256_S6x104x256_0_0_0, (k0_pay16 (F := Ideal))⟩ :: bodyRun.sl.HS0_7 arg0 harg0 x0 := rfl
  refine (pay24 (bodyRun.sl.v76 c arg0 harg0 arg2 harg2 arg68 x0 x2) b q k).trans ?_
  have hv : bodyRun.sl.v76 c arg0 harg0 arg2 harg2 arg68 x0 x2 = fun j => View.canon (Val := Elt Ideal) (bodyRun.sl.HS0_14 arg0 harg0 arg2 harg2 x0 x2) ((Rect.unit (s := S6x104x256) ![0, 0, 0] S6x104x256.size inb_S6x104x256_S6x104x256_0_0_0).toLoadRect.idx j) := View.readCov_eq_canon' _ _ _
  rw [hv, hL]
  show View.canon _ _ = _
  rw [whole_idx, padSix]
  match b with
  | 0 => exact (pay17 _ q k).trans ((harg2.readAt_unread x2 _ _).trans (congrArg x2 (image_idx 0 _ 0 q k rfl)))
  | 1 => exact (pay19 _ q k).trans ((harg2.readAt_unread x2 _ _).trans (congrArg x2 (image_idx 1 _ 1 q k rfl)))
  | 2 => exact (pay20 _ q k).trans ((harg2.readAt_unread x2 _ _).trans (congrArg x2 (image_idx 2 _ 2 q k rfl)))
  | 3 => exact (pay21 _ q k).trans ((harg2.readAt_unread x2 _ _).trans (congrArg x2 (image_idx 3 _ 3 q k rfl)))
  | 4 => exact (pay22 _ q k).trans ((harg2.readAt_unread x2 _ _).trans (congrArg x2 (image_idx 4 _ 4 q k rfl)))
  | 5 => exact (pay23 _ q k).trans ((harg2.readAt_unread x2 _ _).trans (congrArg x2 (image_idx 5 _ 5 q k rfl)))

/-- The rows of the query positions. -/
theorem rows_pos (b : Fin 6) (q : Fin 100) (k : Fin 256) : (bodyRun.sl.r_5 c arg0 harg0 arg1 harg1 arg2 harg2 arg68 x0 x1 x2 (ix2 (row b q) k) : EReal) = x1 (ix2 q k) := by
  have hL : bodyRun.sl.HS0_21 arg0 harg0 arg1 harg1 arg2 harg2 x0 x1 x2 = (⟨Rect.unit (s := S6x104x256) ![5, 0, 0] S1x100x256.size inb_S6x104x256_S1x100x256_5_0_0, (k0_pay32 (View.readAt (Elt Ideal) arg1.view (Rect.unit (s := S100x256) ![0, 0] S100x256.size inb_S100x256_S100x256_0_0).toLoadRect (harg1.unread x1)))⟩ : View.Piece (Elt Ideal) S6x104x256 .f32) :: (⟨Rect.unit (s := S6x104x256) ![4, 0, 0] S1x100x256.size inb_S6x104x256_S1x100x256_4_0_0, (k0_pay31 (View.readAt (Elt Ideal) arg1.view (Rect.unit (s := S100x256) ![0, 0] S100x256.size inb_S100x256_S100x256_0_0).toLoadRect (harg1.unread x1)))⟩ : View.Piece (Elt Ideal) S6x104x256 .f32) :: (⟨Rect.unit (s := S6x104x256) ![3, 0, 0] S1x100x256.size inb_S6x104x256_S1x100x256_3_0_0, (k0_pay30 (View.readAt (Elt Ideal) arg1.view (Rect.unit (s := S100x256) ![0, 0] S100x256.size inb_S100x256_S100x256_0_0).toLoadRect (harg1.unread x1)))⟩ : View.Piece (Elt Ideal) S6x104x256 .f32) :: (⟨Rect.unit (s := S6x104x256) ![2, 0, 0] S1x100x256.size inb_S6x104x256_S1x100x256_2_0_0, (k0_pay29 (View.readAt (Elt Ideal) arg1.view (Rect.unit (s := S100x256) ![0, 0] S100x256.size inb_S100x256_S100x256_0_0).toLoadRect (harg1.unread x1)))⟩ : View.Piece (Elt Ideal) S6x104x256 .f32) :: (⟨Rect.unit (s := S6x104x256) ![1, 0, 0] S1x100x256.size inb_S6x104x256_S1x100x256_1_0_0, (k0_pay28 (View.readAt (Elt Ideal) arg1.view (Rect.unit (s := S100x256) ![0, 0] S100x256.size inb_S100x256_S100x256_0_0).toLoadRect (harg1.unread x1)))⟩ : View.Piece (Elt Ideal) S6x104x256 .f32) :: (⟨Rect.unit (s := S6x104x256) ![0, 0, 0] S1x100x256.size inb_S6x104x256_S1x100x256_0_0_0, (k0_pay27 (View.readAt (Elt Ideal) arg1.view (Rect.unit (s := S100x256) ![0, 0] S100x256.size inb_S100x256_S100x256_0_0).toLoadRect (harg1.unread x1)))⟩ : View.Piece (Elt Ideal) S6x104x256 .f32) :: ⟨Rect.unit (s := S6x104x256) ![0, 0, 0] S6x104x256.size inb_S6x104x256_S6x104x256_0_0_0, (bodyRun.sl.v81 (F := Ideal))⟩ :: bodyRun.sl.HS0_14 arg0 harg0 arg2 harg2 x0 x2 := rfl
  refine (pay33 (bodyRun.sl.v106 c arg0 harg0 arg1 harg1 arg2 harg2 arg68 x0 x1 x2) b q k).trans ?_
  have hv : bodyRun.sl.v106 c arg0 harg0 arg1 harg1 arg2 harg2 arg68 x0 x1 x2 = fun j => View.canon (Val := Elt Ideal) (bodyRun.sl.HS0_21 arg0 harg0 arg1 harg1 arg2 harg2 x0 x1 x2) ((Rect.unit (s := S6x104x256) ![0, 0, 0] S6x104x256.size inb_S6x104x256_S6x104x256_0_0_0).toLoadRect.idx j) := View.readCov_eq_canon' _ _ _
  rw [hv, hL]
  show View.canon _ _ = _
  rw [whole_idx, padSix]
  match b with
  | 0 => exact (pay27 _ q k).trans ((harg1.readAt_unread x1 _ _).trans (congrArg x1 (plane_idx inb_S100x256_S100x256_0_0 q k)))
  | 1 => exact (pay28 _ q k).trans ((harg1.readAt_unread x1 _ _).trans (congrArg x1 (plane_idx inb_S100x256_S100x256_0_0 q k)))
  | 2 => exact (pay29 _ q k).trans ((harg1.readAt_unread x1 _ _).trans (congrArg x1 (plane_idx inb_S100x256_S100x256_0_0 q k)))
  | 3 => exact (pay30 _ q k).trans ((harg1.readAt_unread x1 _ _).trans (congrArg x1 (plane_idx inb_S100x256_S100x256_0_0 q k)))
  | 4 => exact (pay31 _ q k).trans ((harg1.readAt_unread x1 _ _).trans (congrArg x1 (plane_idx inb_S100x256_S100x256_0_0 q k)))
  | 5 => exact (pay32 _ q k).trans ((harg1.readAt_unread x1 _ _).trans (congrArg x1 (plane_idx inb_S100x256_S100x256_0_0 q k)))

end Cert.Proof.QueryRows

end
-- ==== Proof.QueryResults.lean ====
/- What the query call's body leaves in results 10 to 15, by rows. -/
module

public import proofs.«01_k».proof.Proof.QueryScratch

@[expose] public section

set_option maxRecDepth 16384

noncomputable section

open Idealize.ShloMosaic Idealize.SL.Sem

namespace Cert.Proof.QueryRows

open Cert.QueryIdeal Cert.QueryIdeal.Gen Cert.Proof.QueryIdeal

theorem weight_idx (i : ∀ a, (![0, 0] : Fin 2 → Nat) a + S256x256.size a ≤ S256x256.size a) (q : Fin 256) (k : Fin 256) :
    (Rect.unit (s := S256x256) ![0, 0] S256x256.size i).toLoadRect.idx (ix2 q k : S256x256.Idx) = (ix2 q k : S256x256.Idx) := by
  funext a
  apply Fin.ext
  match a with
  | ⟨0, _⟩ => exact (show 0 + 1 * q.val = q.val by omega)
  | ⟨1, _⟩ => exact (show 0 + 1 * k.val = k.val by omega)

theorem vector_idx (i : ∀ a, (![0, 0] : Fin 2 → Nat) a + S1x256.size a ≤ S1x256.size a) (k : Fin 256) :
    (Rect.unit (s := S1x256) ![0, 0] S1x256.size i).toLoadRect.idx (ix2 0 k : S1x256.Idx) = (ix2 0 k : S1x256.Idx) := by
  funext a
  apply Fin.ext
  match a with
  | ⟨0, _⟩ => rfl
  | ⟨1, _⟩ => exact (show 0 + 1 * k.val = k.val by omega)

theorem lin_congr {z z' : Fin 256 → EReal} {w w' : Fin 256 → Fin 256 → BitVec 8} {s s' b b' : Fin 256 → EReal} (k : Fin 256) (hz : z = z') (hw : w = w') (hs : s = s') (hb : b = b') :
    lin z w s b k = lin z' w' s' b' k := by rw [hz, hw, hs, hb]

theorem lnorm_congr {y y' g g' b b' : Fin 256 → EReal} (k : Fin 256) (hy : y = y') (hg : g = g') (hb : b = b') : lnorm y g b k = lnorm y' g' b' k := by
  rw [hy, hg, hb]

variable (c : Dev nD) (arg0 : Memref sig .tc .vmem S6x100x256 .bf16) (harg0 : arg0.IsWhole) (arg1 : Memref sig .tc .vmem S100x256 .f32) (harg1 : arg1.IsWhole)
  (arg2 : Memref sig .tc .vmem S6x100x256 .f32) (harg2 : arg2.IsWhole) (arg4 : Memref sig .tc .vmem S256x256 .i8) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S1x256 .f32) (harg8 : arg8.IsWhole)
  (arg68 : Memref sig .tc .vmem S6x104x256 .f32)
  (x0 : Vec Ideal S6x100x256 .bf16) (x1 : Vec Ideal S100x256 .f32) (x2 : Vec Ideal S6x100x256 .f32) (x4 : Vec Ideal S256x256 .i8) (x5 x6 x7 x8 : Vec Ideal S1x256 .f32)

/-- A query's row after the cross attention's output layer and the residual. -/
def sumAt (b : Fin 6) (q : Fin 100) (k : Fin 256) : EReal :=
  (x0 (ix3 b q k) : EReal) + lin (fun x => x2 (ix3 b q x)) (fun x j => x4 (ix2 x j)) (fun j => x5 (ix2 0 j)) (fun j => x6 (ix2 0 j)) k

/-- … and after the layer norm. -/
def normAt (b : Fin 6) (q : Fin 100) (k : Fin 256) : EReal :=
  lnorm (sumAt x0 x2 x4 x5 x6 b q) (fun j => x7 (ix2 0 j)) (fun j => x8 (ix2 0 j)) k

theorem rows_sum (b : Fin 6) (q : Fin 100) (k : Fin 256) :
    (bodyRun.sl.r_9 c arg0 harg0 arg2 harg2 arg4 harg4 arg5 harg5 arg6 harg6 arg68 x0 x2 x4 x5 x6 (ix2 (row b q) k) : EReal) = sumAt x0 x2 x4 x5 x6 b q k := by
  refine (pay43 (bodyRun.sl.r_1 c arg0 harg0 arg68 x0) (bodyRun.sl.r_3 c arg0 harg0 arg2 harg2 arg68 x0 x2) _ _ _ (row b q) k).trans ?_
  exact congrArg₂ (fun a b : EReal => a + b) (rows_x c arg0 harg0 arg68 x0 b q k)
    (lin_congr k (funext fun x => rows_ctx c arg0 harg0 arg2 harg2 arg68 x0 x2 b q x)
      (funext fun x => funext fun j => (harg4.readAt_unread x4 _ _).trans (congrArg x4 (weight_idx inb_S256x256_S256x256_0_0 x j)))
      (funext fun j => (harg5.readAt_unread x5 _ _).trans (congrArg x5 (vector_idx inb_S1x256_S1x256_0_0 j)))
      (funext fun j => (harg6.readAt_unread x6 _ _).trans (congrArg x6 (vector_idx inb_S1x256_S1x256_0_0 j))))

theorem rows_norm (b : Fin 6) (q : Fin 100) (k : Fin 256) :
    (bodyRun.sl.r_12 c arg0 harg0 arg2 harg2 arg4 harg4 arg5 harg5 arg6 harg6 arg7 harg7 arg8 harg8 arg68 x0 x2 x4 x5 x6 x7 x8 (ix2 (row b q) k) : EReal) = normAt x0 x2 x4 x5 x6 x7 x8 b q k := by
  refine (pay46 (bodyRun.sl.r_9 c arg0 harg0 arg2 harg2 arg4 harg4 arg5 harg5 arg6 harg6 arg68 x0 x2 x4 x5 x6) _ _ (row b q) k).trans ?_
  exact lnorm_congr k (funext fun x => rows_sum c arg0 harg0 arg2 harg2 arg4 harg4 arg5 harg5 arg6 harg6 arg68 x0 x2 x4 x5 x6 b q x)
    (funext fun j => (harg7.readAt_unread x7 _ _).trans (congrArg x7 (vector_idx inb_S1x256_S1x256_0_0 j)))
    (funext fun j => (harg8.readAt_unread x8 _ _).trans (congrArg x8 (vector_idx inb_S1x256_S1x256_0_0 j)))

/-- The rows with the query positions added. -/
def posRows : FVec Ideal S624x256 .f32 :=
  k0_pay47 (bodyRun.sl.r_5 c arg0 harg0 arg1 harg1 arg2 harg2 arg68 x0 x1 x2) (bodyRun.sl.r_9 c arg0 harg0 arg2 harg2 arg4 harg4 arg5 harg5 arg6 harg6 arg68 x0 x2 x4 x5 x6) (bodyRun.sl.r_10 arg7 harg7 x7) (bodyRun.sl.r_11 arg8 harg8 x8)

theorem rows_sqk (b : Fin 6) (q : Fin 100) (k : Fin 256) :
    (posRows c arg0 harg0 arg1 harg1 arg2 harg2 arg4 harg4 arg5 harg5 arg6 harg6 arg7 harg7 arg8 harg8 arg68 x0 x1 x2 x4 x5 x6 x7 x8 (ix2 (row b q) k) : EReal)
      = normAt x0 x2 x4 x5 x6 x7 x8 b q k + x1 (ix2 q k) := by
  refine (pay47 (bodyRun.sl.r_5 c arg0 harg0 arg1 harg1 arg2 harg2 arg68 x0 x1 x2) _ _ _ (row b q) k).trans ?_
  exact congrArg₂ (fun a b : EReal => a + b) (rows_norm c arg0 harg0 arg2 harg2 arg4 harg4 arg5 harg5 arg6 harg6 arg7 harg7 arg8 harg8 arg68 x0 x2 x4 x5 x6 x7 x8 b q k)
    (rows_pos c arg0 harg0 arg1 harg1 arg2 harg2 arg68 x0 x1 x2 b q k)

/-- Six images of codes, the last stored first. -/
def codesList (C : FVec Ideal S624x256 .f32) : List (View.Piece (Elt Ideal) S6x100x256 .i8) :=
  [(⟨Rect.unit (s := S6x100x256) ![5, 0, 0] S1x100x256.size inb_S6x100x256_S1x100x256_5_0_0, store 5 C⟩ : View.Piece (Elt Ideal) S6x100x256 .i8), (⟨Rect.unit (s := S6x100x256) ![4, 0, 0] S1x100x256.size inb_S6x100x256_S1x100x256_4_0_0, store 4 C⟩ : View.Piece (Elt Ideal) S6x100x256 .i8), (⟨Rect.unit (s := S6x100x256) ![3, 0, 0] S1x100x256.size inb_S6x100x256_S1x100x256_3_0_0, store 3 C⟩ : View.Piece (Elt Ideal) S6x100x256 .i8), (⟨Rect.unit (s := S6x100x256) ![2, 0, 0] S1x100x256.size inb_S6x100x256_S1x100x256_2_0_0, store 2 C⟩ : View.Piece (Elt Ideal) S6x100x256 .i8), (⟨Rect.unit (s := S6x100x256) ![1, 0, 0] S1x100x256.size inb_S6x100x256_S1x100x256_1_0_0, store 1 C⟩ : View.Piece (Elt Ideal) S6x100x256 .i8), (⟨Rect.unit (s := S6x100x256) ![0, 0, 0] S1x100x256.size inb_S6x100x256_S1x100x256_0_0_0, store 0 C⟩ : View.Piece (Elt Ideal) S6x100x256 .i8)]

theorem codesList_apply (C : FVec Ideal S624x256 .f32) (b : Fin 6) (q : Fin 100) (k : Fin 256) :
    View.canon (Val := Elt Ideal) (codesList C) (ix3 b q k : S6x100x256.Idx) = Ideal.fptosi 8 (C (ix2 (row b q) k)) := by
  refine (outSix (store 0 C) (store 1 C) (store 2 C) (store 3 C) (store 4 C) (store 5 C) [] _ _ _ _ _ _ b q k).trans ?_
  match b with
  | 0 => exact store_apply 0 C q k
  | 1 => exact store_apply 1 C q k
  | 2 => exact store_apply 2 C q k
  | 3 => exact store_apply 3 C q k
  | 4 => exact store_apply 4 C q k
  | 5 => exact store_apply 5 C q k

/-- Image `0`'s lanes, transposed. -/
def lanes0 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![0, 0] W slices_S624x128_o0_0_S100x128)) transposes_S100x128_p1_0_S128x100

/-- Image `1`'s lanes, transposed. -/
def lanes1 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![104, 0] W slices_S624x128_o104_0_S100x128)) transposes_S100x128_p1_0_S128x100

/-- Image `2`'s lanes, transposed. -/
def lanes2 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![208, 0] W slices_S624x128_o208_0_S100x128)) transposes_S100x128_p1_0_S128x100

/-- Image `3`'s lanes, transposed. -/
def lanes3 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![312, 0] W slices_S624x128_o312_0_S100x128)) transposes_S100x128_p1_0_S128x100

/-- Image `4`'s lanes, transposed. -/
def lanes4 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![416, 0] W slices_S624x128_o416_0_S100x128)) transposes_S100x128_p1_0_S128x100

/-- Image `5`'s lanes, transposed. -/
def lanes5 (V : Vec Ideal S1x100x128 .f32) (W : FVec Ideal S624x128 .f32) : FVec Ideal S128x100 .f32 :=
  transpose S128x100 [1, 0] (select (cmpi .eq (extractStridedSlice S100x128 ![0, 0] (iota .tc S624x128 32 [1] iota_S624x128_d1_w32) slices_S624x128_o0_0_S100x128) (broadcast S100x128 10#32)) (shapeCast S100x128 V shapeCasts_S1x100x128_S100x128) (extractStridedSlice S100x128 ![520, 0] W slices_S624x128_o520_0_S100x128)) transposes_S100x128_p1_0_S128x100

/-- Lane `0` of an image. -/
def lane0 (T : FVec Ideal S128x100 .f32) : FVec Ideal S1x100 .f32 := extractStridedSlice S1x100 ![0, 0] T slices_S128x100_o0_0_S1x100

theorem lane0_0 (V : Vec Ideal S1x100x128 .f32) (W : FVec Ideal S624x128 .f32) (q : Fin 100) : lane0 (lanes0 V W) (ix2 0 q) = W (ix2 (row 0 q) 0) := by
  unfold lane0 lanes0 row
  pointwise
  rfl

theorem lane0_1 (V : Vec Ideal S1x100x128 .f32) (W : FVec Ideal S624x128 .f32) (q : Fin 100) : lane0 (lanes1 V W) (ix2 0 q) = W (ix2 (row 1 q) 0) := by
  unfold lane0 lanes1 row
  pointwise
  rfl

theorem lane0_2 (V : Vec Ideal S1x100x128 .f32) (W : FVec Ideal S624x128 .f32) (q : Fin 100) : lane0 (lanes2 V W) (ix2 0 q) = W (ix2 (row 2 q) 0) := by
  unfold lane0 lanes2 row
  pointwise
  rfl

theorem lane0_3 (V : Vec Ideal S1x100x128 .f32) (W : FVec Ideal S624x128 .f32) (q : Fin 100) : lane0 (lanes3 V W) (ix2 0 q) = W (ix2 (row 3 q) 0) := by
  unfold lane0 lanes3 row
  pointwise
  rfl

theorem lane0_4 (V : Vec Ideal S1x100x128 .f32) (W : FVec Ideal S624x128 .f32) (q : Fin 100) : lane0 (lanes4 V W) (ix2 0 q) = W (ix2 (row 4 q) 0) := by
  unfold lane0 lanes4 row
  pointwise
  rfl

theorem lane0_5 (V : Vec Ideal S1x100x128 .f32) (W : FVec Ideal S624x128 .f32) (q : Fin 100) : lane0 (lanes5 V W) (ix2 0 q) = W (ix2 (row 5 q) 0) := by
  unfold lane0 lanes5 row
  pointwise
  rfl

/-- Six images of scales out of lane `0`. -/
def scales0 (V0 V1 V2 V3 V4 V5 : Vec Ideal S1x100x128 .f32) (W : FVec Ideal S624x128 .f32) : List (View.Piece (Elt Ideal) S6x100 .f32) :=
  [(⟨Rect.unit (s := S6x100) ![5, 0] S1x100.size inb_S6x100_S1x100_5_0, lane0 (lanes5 V5 W)⟩ : View.Piece (Elt Ideal) S6x100 .f32), (⟨Rect.unit (s := S6x100) ![4, 0] S1x100.size inb_S6x100_S1x100_4_0, lane0 (lanes4 V4 W)⟩ : View.Piece (Elt Ideal) S6x100 .f32), (⟨Rect.unit (s := S6x100) ![3, 0] S1x100.size inb_S6x100_S1x100_3_0, lane0 (lanes3 V3 W)⟩ : View.Piece (Elt Ideal) S6x100 .f32), (⟨Rect.unit (s := S6x100) ![2, 0] S1x100.size inb_S6x100_S1x100_2_0, lane0 (lanes2 V2 W)⟩ : View.Piece (Elt Ideal) S6x100 .f32), (⟨Rect.unit (s := S6x100) ![1, 0] S1x100.size inb_S6x100_S1x100_1_0, lane0 (lanes1 V1 W)⟩ : View.Piece (Elt Ideal) S6x100 .f32), (⟨Rect.unit (s := S6x100) ![0, 0] S1x100.size inb_S6x100_S1x100_0_0, lane0 (lanes0 V0 W)⟩ : View.Piece (Elt Ideal) S6x100 .f32)]

/-- Lane `1` of an image. -/
def lane1 (T : FVec Ideal S128x100 .f32) : FVec Ideal S1x100 .f32 := extractStridedSlice S1x100 ![1, 0] T slices_S128x100_o1_0_S1x100

theorem lane1_0 (V : Vec Ideal S1x100x128 .f32) (W : FVec Ideal S624x128 .f32) (q : Fin 100) : lane1 (lanes0 V W) (ix2 0 q) = W (ix2 (row 0 q) 1) := by
  unfold lane1 lanes0 row
  pointwise
  rfl

theorem lane1_1 (V : Vec Ideal S1x100x128 .f32) (W : FVec Ideal S624x128 .f32) (q : Fin 100) : lane1 (lanes1 V W) (ix2 0 q) = W (ix2 (row 1 q) 1) := by
  unfold lane1 lanes1 row
  pointwise
  rfl

theorem lane1_2 (V : Vec Ideal S1x100x128 .f32) (W : FVec Ideal S624x128 .f32) (q : Fin 100) : lane1 (lanes2 V W) (ix2 0 q) = W (ix2 (row 2 q) 1) := by
  unfold lane1 lanes2 row
  pointwise
  rfl

theorem lane1_3 (V : Vec Ideal S1x100x128 .f32) (W : FVec Ideal S624x128 .f32) (q : Fin 100) : lane1 (lanes3 V W) (ix2 0 q) = W (ix2 (row 3 q) 1) := by
  unfold lane1 lanes3 row
  pointwise
  rfl

theorem lane1_4 (V : Vec Ideal S1x100x128 .f32) (W : FVec Ideal S624x128 .f32) (q : Fin 100) : lane1 (lanes4 V W) (ix2 0 q) = W (ix2 (row 4 q) 1) := by
  unfold lane1 lanes4 row
  pointwise
  rfl

theorem lane1_5 (V : Vec Ideal S1x100x128 .f32) (W : FVec Ideal S624x128 .f32) (q : Fin 100) : lane1 (lanes5 V W) (ix2 0 q) = W (ix2 (row 5 q) 1) := by
  unfold lane1 lanes5 row
  pointwise
  rfl

/-- Six images of scales out of lane `1`. -/
def scales1 (V0 V1 V2 V3 V4 V5 : Vec Ideal S1x100x128 .f32) (W : FVec Ideal S624x128 .f32) : List (View.Piece (Elt Ideal) S6x100 .f32) :=
  [(⟨Rect.unit (s := S6x100) ![5, 0] S1x100.size inb_S6x100_S1x100_5_0, lane1 (lanes5 V5 W)⟩ : View.Piece (Elt Ideal) S6x100 .f32), (⟨Rect.unit (s := S6x100) ![4, 0] S1x100.size inb_S6x100_S1x100_4_0, lane1 (lanes4 V4 W)⟩ : View.Piece (Elt Ideal) S6x100 .f32), (⟨Rect.unit (s := S6x100) ![3, 0] S1x100.size inb_S6x100_S1x100_3_0, lane1 (lanes3 V3 W)⟩ : View.Piece (Elt Ideal) S6x100 .f32), (⟨Rect.unit (s := S6x100) ![2, 0] S1x100.size inb_S6x100_S1x100_2_0, lane1 (lanes2 V2 W)⟩ : View.Piece (Elt Ideal) S6x100 .f32), (⟨Rect.unit (s := S6x100) ![1, 0] S1x100.size inb_S6x100_S1x100_1_0, lane1 (lanes1 V1 W)⟩ : View.Piece (Elt Ideal) S6x100 .f32), (⟨Rect.unit (s := S6x100) ![0, 0] S1x100.size inb_S6x100_S1x100_0_0, lane1 (lanes0 V0 W)⟩ : View.Piece (Elt Ideal) S6x100 .f32)]

/-- Lane `2` of an image. -/
def lane2 (T : FVec Ideal S128x100 .f32) : FVec Ideal S1x100 .f32 := extractStridedSlice S1x100 ![2, 0] T slices_S128x100_o2_0_S1x100

theorem lane2_0 (V : Vec Ideal S1x100x128 .f32) (W : FVec Ideal S624x128 .f32) (q : Fin 100) : lane2 (lanes0 V W) (ix2 0 q) = W (ix2 (row 0 q) 2) := by
  unfold lane2 lanes0 row
  pointwise
  rfl

theorem lane2_1 (V : Vec Ideal S1x100x128 .f32) (W : FVec Ideal S624x128 .f32) (q : Fin 100) : lane2 (lanes1 V W) (ix2 0 q) = W (ix2 (row 1 q) 2) := by
  unfold lane2 lanes1 row
  pointwise
  rfl

theorem lane2_2 (V : Vec Ideal S1x100x128 .f32) (W : FVec Ideal S624x128 .f32) (q : Fin 100) : lane2 (lanes2 V W) (ix2 0 q) = W (ix2 (row 2 q) 2) := by
  unfold lane2 lanes2 row
  pointwise
  rfl

theorem lane2_3 (V : Vec Ideal S1x100x128 .f32) (W : FVec Ideal S624x128 .f32) (q : Fin 100) : lane2 (lanes3 V W) (ix2 0 q) = W (ix2 (row 3 q) 2) := by
  unfold lane2 lanes3 row
  pointwise
  rfl

theorem lane2_4 (V : Vec Ideal S1x100x128 .f32) (W : FVec Ideal S624x128 .f32) (q : Fin 100) : lane2 (lanes4 V W) (ix2 0 q) = W (ix2 (row 4 q) 2) := by
  unfold lane2 lanes4 row
  pointwise
  rfl

theorem lane2_5 (V : Vec Ideal S1x100x128 .f32) (W : FVec Ideal S624x128 .f32) (q : Fin 100) : lane2 (lanes5 V W) (ix2 0 q) = W (ix2 (row 5 q) 2) := by
  unfold lane2 lanes5 row
  pointwise
  rfl

/-- Six images of scales out of lane `2`. -/
def scales2 (V0 V1 V2 V3 V4 V5 : Vec Ideal S1x100x128 .f32) (W : FVec Ideal S624x128 .f32) : List (View.Piece (Elt Ideal) S6x100 .f32) :=
  [(⟨Rect.unit (s := S6x100) ![5, 0] S1x100.size inb_S6x100_S1x100_5_0, lane2 (lanes5 V5 W)⟩ : View.Piece (Elt Ideal) S6x100 .f32), (⟨Rect.unit (s := S6x100) ![4, 0] S1x100.size inb_S6x100_S1x100_4_0, lane2 (lanes4 V4 W)⟩ : View.Piece (Elt Ideal) S6x100 .f32), (⟨Rect.unit (s := S6x100) ![3, 0] S1x100.size inb_S6x100_S1x100_3_0, lane2 (lanes3 V3 W)⟩ : View.Piece (Elt Ideal) S6x100 .f32), (⟨Rect.unit (s := S6x100) ![2, 0] S1x100.size inb_S6x100_S1x100_2_0, lane2 (lanes2 V2 W)⟩ : View.Piece (Elt Ideal) S6x100 .f32), (⟨Rect.unit (s := S6x100) ![1, 0] S1x100.size inb_S6x100_S1x100_1_0, lane2 (lanes1 V1 W)⟩ : View.Piece (Elt Ideal) S6x100 .f32), (⟨Rect.unit (s := S6x100) ![0, 0] S1x100.size inb_S6x100_S1x100_0_0, lane2 (lanes0 V0 W)⟩ : View.Piece (Elt Ideal) S6x100 .f32)]

theorem scaleSix_miss (o : Nat) (i : ∀ a, (![o, 0] : Fin 2 → Nat) a + S1x100.size a ≤ S6x100.size a) (p : S1x100.Idx → Elt Ideal .f32) (L : List (View.Piece (Elt Ideal) S6x100 .f32)) (b : Fin 6) (q : Fin 100) (h : b.val < o) :
    View.canon (Val := Elt Ideal) ((⟨Rect.unit (s := S6x100) ![o, 0] S1x100.size i, p⟩ : View.Piece (Elt Ideal) S6x100 .f32) :: L) (ix2 b q : S6x100.Idx) = View.canon L (ix2 b q : S6x100.Idx) := by
  refine View.canon_cons_of_not_mem _ L fun hm => ?_
  simp only [Rect.mem_set_unit] at hm
  have h0 := hm (0 : Fin 2)
  have h1 : o ≤ b.val := h0.1
  omega
theorem scaleSix_hit (o : Nat) (i : ∀ a, (![o, 0] : Fin 2 → Nat) a + S1x100.size a ≤ S6x100.size a) (p : S1x100.Idx → Elt Ideal .f32) (L : List (View.Piece (Elt Ideal) S6x100 .f32)) (b : Fin 6) (q : Fin 100) (h : b.val = o) :
    View.canon (Val := Elt Ideal) ((⟨Rect.unit (s := S6x100) ![o, 0] S1x100.size i, p⟩ : View.Piece (Elt Ideal) S6x100 .f32) :: L) (ix2 b q : S6x100.Idx) = p (ix2 0 q) := by
  have hx : (Rect.unit (s := S6x100) ![o, 0] S1x100.size i).emb (ix2 0 q : S1x100.Idx) = (ix2 b q : S6x100.Idx) := by
    funext a
    apply Fin.ext
    match a with
    | ⟨0, _⟩ => exact (show o + 1 * 0 = b.val by omega)
    | ⟨1, _⟩ => exact (show 0 + 1 * q.val = q.val by omega)
  rw [← hx]
  exact View.canon_cons_emb (Rect.unit (s := S6x100) ![o, 0] S1x100.size i) p L (ix2 0 q)

theorem scales0_apply (V0 V1 V2 V3 V4 V5 : Vec Ideal S1x100x128 .f32) (W : FVec Ideal S624x128 .f32) (b : Fin 6) (q : Fin 100) :
    View.canon (Val := Elt Ideal) (scales0 V0 V1 V2 V3 V4 V5 W) (ix2 b q : S6x100.Idx) = W (ix2 (row b q) 0) := by
  match b with
  | 0 => exact (scaleSix_miss 5 _ _ _ 0 q (by decide)).trans ((scaleSix_miss 4 _ _ _ 0 q (by decide)).trans ((scaleSix_miss 3 _ _ _ 0 q (by decide)).trans ((scaleSix_miss 2 _ _ _ 0 q (by decide)).trans ((scaleSix_miss 1 _ _ _ 0 q (by decide)).trans ((scaleSix_hit 0 _ _ _ 0 q rfl).trans (lane0_0 V0 W q))))))
  | 1 => exact (scaleSix_miss 5 _ _ _ 1 q (by decide)).trans ((scaleSix_miss 4 _ _ _ 1 q (by decide)).trans ((scaleSix_miss 3 _ _ _ 1 q (by decide)).trans ((scaleSix_miss 2 _ _ _ 1 q (by decide)).trans ((scaleSix_hit 1 _ _ _ 1 q rfl).trans (lane0_1 V1 W q)))))
  | 2 => exact (scaleSix_miss 5 _ _ _ 2 q (by decide)).trans ((scaleSix_miss 4 _ _ _ 2 q (by decide)).trans ((scaleSix_miss 3 _ _ _ 2 q (by decide)).trans ((scaleSix_hit 2 _ _ _ 2 q rfl).trans (lane0_2 V2 W q))))
  | 3 => exact (scaleSix_miss 5 _ _ _ 3 q (by decide)).trans ((scaleSix_miss 4 _ _ _ 3 q (by decide)).trans ((scaleSix_hit 3 _ _ _ 3 q rfl).trans (lane0_3 V3 W q)))
  | 4 => exact (scaleSix_miss 5 _ _ _ 4 q (by decide)).trans ((scaleSix_hit 4 _ _ _ 4 q rfl).trans (lane0_4 V4 W q))
  | 5 => exact (scaleSix_hit 5 _ _ _ 5 q rfl).trans (lane0_5 V5 W q)

theorem scales1_apply (V0 V1 V2 V3 V4 V5 : Vec Ideal S1x100x128 .f32) (W : FVec Ideal S624x128 .f32) (b : Fin 6) (q : Fin 100) :
    View.canon (Val := Elt Ideal) (scales1 V0 V1 V2 V3 V4 V5 W) (ix2 b q : S6x100.Idx) = W (ix2 (row b q) 1) := by
  match b with
  | 0 => exact (scaleSix_miss 5 _ _ _ 0 q (by decide)).trans ((scaleSix_miss 4 _ _ _ 0 q (by decide)).trans ((scaleSix_miss 3 _ _ _ 0 q (by decide)).trans ((scaleSix_miss 2 _ _ _ 0 q (by decide)).trans ((scaleSix_miss 1 _ _ _ 0 q (by decide)).trans ((scaleSix_hit 0 _ _ _ 0 q rfl).trans (lane1_0 V0 W q))))))
  | 1 => exact (scaleSix_miss 5 _ _ _ 1 q (by decide)).trans ((scaleSix_miss 4 _ _ _ 1 q (by decide)).trans ((scaleSix_miss 3 _ _ _ 1 q (by decide)).trans ((scaleSix_miss 2 _ _ _ 1 q (by decide)).trans ((scaleSix_hit 1 _ _ _ 1 q rfl).trans (lane1_1 V1 W q)))))
  | 2 => exact (scaleSix_miss 5 _ _ _ 2 q (by decide)).trans ((scaleSix_miss 4 _ _ _ 2 q (by decide)).trans ((scaleSix_miss 3 _ _ _ 2 q (by decide)).trans ((scaleSix_hit 2 _ _ _ 2 q rfl).trans (lane1_2 V2 W q))))
  | 3 => exact (scaleSix_miss 5 _ _ _ 3 q (by decide)).trans ((scaleSix_miss 4 _ _ _ 3 q (by decide)).trans ((scaleSix_hit 3 _ _ _ 3 q rfl).trans (lane1_3 V3 W q)))
  | 4 => exact (scaleSix_miss 5 _ _ _ 4 q (by decide)).trans ((scaleSix_hit 4 _ _ _ 4 q rfl).trans (lane1_4 V4 W q))
  | 5 => exact (scaleSix_hit 5 _ _ _ 5 q rfl).trans (lane1_5 V5 W q)

theorem scales2_apply (V0 V1 V2 V3 V4 V5 : Vec Ideal S1x100x128 .f32) (W : FVec Ideal S624x128 .f32) (b : Fin 6) (q : Fin 100) :
    View.canon (Val := Elt Ideal) (scales2 V0 V1 V2 V3 V4 V5 W) (ix2 b q : S6x100.Idx) = W (ix2 (row b q) 2) := by
  match b with
  | 0 => exact (scaleSix_miss 5 _ _ _ 0 q (by decide)).trans ((scaleSix_miss 4 _ _ _ 0 q (by decide)).trans ((scaleSix_miss 3 _ _ _ 0 q (by decide)).trans ((scaleSix_miss 2 _ _ _ 0 q (by decide)).trans ((scaleSix_miss 1 _ _ _ 0 q (by decide)).trans ((scaleSix_hit 0 _ _ _ 0 q rfl).trans (lane2_0 V0 W q))))))
  | 1 => exact (scaleSix_miss 5 _ _ _ 1 q (by decide)).trans ((scaleSix_miss 4 _ _ _ 1 q (by decide)).trans ((scaleSix_miss 3 _ _ _ 1 q (by decide)).trans ((scaleSix_miss 2 _ _ _ 1 q (by decide)).trans ((scaleSix_hit 1 _ _ _ 1 q rfl).trans (lane2_1 V1 W q)))))
  | 2 => exact (scaleSix_miss 5 _ _ _ 2 q (by decide)).trans ((scaleSix_miss 4 _ _ _ 2 q (by decide)).trans ((scaleSix_miss 3 _ _ _ 2 q (by decide)).trans ((scaleSix_hit 2 _ _ _ 2 q rfl).trans (lane2_2 V2 W q))))
  | 3 => exact (scaleSix_miss 5 _ _ _ 3 q (by decide)).trans ((scaleSix_miss 4 _ _ _ 3 q (by decide)).trans ((scaleSix_hit 3 _ _ _ 3 q rfl).trans (lane2_3 V3 W q)))
  | 4 => exact (scaleSix_miss 5 _ _ _ 4 q (by decide)).trans ((scaleSix_hit 4 _ _ _ 4 q rfl).trans (lane2_4 V4 W q))
  | 5 => exact (scaleSix_hit 5 _ _ _ 5 q rfl).trans (lane2_5 V5 W q)

variable (m : (ℓ : Loc nD τ sig) → Buf (Elt Ideal) ℓ) (t : Fin cfg0.N)

set_option maxHeartbeats 2000000 in
theorem L47_eq : (runAt m c t).1.L47 = codesList (k0_pay35 (bodyRun.sl.r_3 c (ms0_0 t) (hs0_0 t) (ms0_2 t) (hs0_2 t) scM0_0 (iblk m c 0 t) (iblk m c 2 t))) := rfl
set_option maxHeartbeats 2000000 in
theorem L49_eq : (runAt m c t).1.L49 = codesList (k0_pay35 (posRows c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) scM0_0 (iblk m c 0 t) (iblk m c 1 t) (iblk m c 2 t) (iblk m c 4 t) (iblk m c 5 t) (iblk m c 6 t) (iblk m c 7 t) (iblk m c 8 t))) := rfl
set_option maxHeartbeats 2000000 in
theorem L51_eq : (runAt m c t).1.L51 = codesList (k0_pay35 (bodyRun.sl.r_12 c (ms0_0 t) (hs0_0 t) (ms0_2 t) (hs0_2 t) (ms0_4 t) (hs0_4 t) (ms0_5 t) (hs0_5 t) (ms0_6 t) (hs0_6 t) (ms0_7 t) (hs0_7 t) (ms0_8 t) (hs0_8 t) scM0_0 (iblk m c 0 t) (iblk m c 2 t) (iblk m c 4 t) (iblk m c 5 t) (iblk m c 6 t) (iblk m c 7 t) (iblk m c 8 t))) := rfl

set_option maxHeartbeats 4000000 in
theorem scales_eq : ∃ (V0 V1 V2 V3 V4 V5 : Vec Ideal S1x100x128 .f32) (W : FVec Ideal S624x128 .f32),
    (∀ r : Fin 624, W (ix2 r 0) = k0_pay34 (bodyRun.sl.r_3 c (ms0_0 t) (hs0_0 t) (ms0_2 t) (hs0_2 t) scM0_0 (iblk m c 0 t) (iblk m c 2 t)) (ix2 r 0) ∧ W (ix2 r 1) = k0_pay34 (posRows c (ms0_0 t) (hs0_0 t) (ms0_1 t) (hs0_1 t) (ms0_2 t) (hs0_2 t) (ms0_4 t) (hs0_4 t) (ms0_5 t) (hs0_5 t) (ms0_6 t) (hs0_6 t) (ms0_7 t) (hs0_7 t) (ms0_8 t) (hs0_8 t) scM0_0 (iblk m c 0 t) (iblk m c 1 t) (iblk m c 2 t) (iblk m c 4 t) (iblk m c 5 t) (iblk m c 6 t) (iblk m c 7 t) (iblk m c 8 t)) (ix2 r 0) ∧ W (ix2 r 2) = k0_pay34 (bodyRun.sl.r_12 c (ms0_0 t) (hs0_0 t) (ms0_2 t) (hs0_2 t) (ms0_4 t) (hs0_4 t) (ms0_5 t) (hs0_5 t) (ms0_6 t) (hs0_6 t) (ms0_7 t) (hs0_7 t) (ms0_8 t) (hs0_8 t) scM0_0 (iblk m c 0 t) (iblk m c 2 t) (iblk m c 4 t) (iblk m c 5 t) (iblk m c 6 t) (iblk m c 7 t) (iblk m c 8 t)) (ix2 r 0))
    ∧ (runAt m c t).1.L48 = scales0 V0 V1 V2 V3 V4 V5 W ∧ (runAt m c t).1.L50 = scales1 V0 V1 V2 V3 V4 V5 W ∧ (runAt m c t).1.L52 = scales2 V0 V1 V2 V3 V4 V5 W := by
  refine ⟨_, _, _, _, _, _, _, ?_, rfl, rfl, rfl⟩
  exact fun r => lanes _ _ _ _ _ _ _ _ _ _ r

end Cert.Proof.QueryRows

end
-- ==== Proof.QueryRefRows.lean ====
/- The reference of the query call, read at an index: the scales and the codes of rows, the cross attention's output layer and
   the layer norm. -/
module

public import proofs.«01_k».proof.Proof.Gen.QueryReferenceIdeal.Read
public import proofs.«01_k».proof.Proof.QueryRows
public import Idealize.ShloMosaic.Lib.WordCmp

@[expose] public section

set_option maxRecDepth 16384

noncomputable section

open Idealize.ShloMosaic

namespace Cert.Proof.QueryRef

open Cert.QueryReferenceIdeal Cert.QueryReferenceIdeal.Gen Cert.QueryReferenceIdeal.Read Cert.Proof.QueryRows

variable (x0 : (⟨S6x100x256, .bf16⟩ : BufTy).Contents (Elt Ideal)) (x1 : (⟨S100x256, .f32⟩ : BufTy).Contents (Elt Ideal)) (x2 : (⟨S6x100x256, .f32⟩ : BufTy).Contents (Elt Ideal))
  (x4 : (⟨S256x256, .i8⟩ : BufTy).Contents (Elt Ideal)) (x5 x6 x7 x8 : (⟨S256, .f32⟩ : BufTy).Contents (Elt Ideal))

/-- A row's codes are integers from -127 to 127. -/
theorem cod_int (z : Fin 256 → EReal) (k : Fin 256) : ∃ n : ℤ, -127 ≤ n ∧ n ≤ 127 ∧ cod z k = ((n : ℝ) : EReal) := by
  have h1 : (127#32 : BitVec 32).toInt = 127 := by decide
  have h2 : (4294967169#32 : BitVec 32).toInt = -127 := by decide
  unfold cod
  rw [h1, h2]
  generalize Ideal.div (z k) (scl z) = y
  induction y with
  | bot => exact ⟨-127, by omega, by omega, by
      show min _ (max _ ⊥) = _
      rw [max_eq_left bot_le, min_eq_right]
      exact EReal.coe_le_coe_iff.mpr (by norm_num)⟩
  | top => exact ⟨127, by omega, by omega, by
      show min _ (max _ ⊤) = _
      rw [max_eq_right le_top, min_eq_left le_top]⟩
  | coe r => exact ⟨min 127 (max (-127) (Ideal.roundHalfEven r)), by omega, by omega, by
      show min _ (max _ (((Ideal.roundHalfEven r : ℤ) : ℝ) : EReal)) = _
      have hm : ∀ a b : ℤ, max (((a : ℝ) : EReal)) ((b : ℝ) : EReal) = (((max a b : ℤ) : ℝ) : EReal) := fun a b => by
        rw [Int.cast_max]; exact (EReal.coe_strictMono.monotone.map_max).symm
      have hn : ∀ a b : ℤ, min (((a : ℝ) : EReal)) ((b : ℝ) : EReal) = (((min a b : ℤ) : ℝ) : EReal) := fun a b => by
        rw [Int.cast_min]; exact (EReal.coe_strictMono.monotone.map_min).symm
      rw [hm, hn]⟩

theorem fptosi_int (w : Nat) (n : ℤ) (h0 : -(2 ^ (w - 1) : Nat) ≤ n) (h1 : n ≤ ((2 ^ (w - 1) : Nat) : ℤ) - 1) :
    Ideal.fptosi w (((n : ℝ) : EReal)) = BitVec.ofInt w n := by
  unfold Ideal.fptosi
  show BitVec.ofInt w (max _ (min _ (if (0 : ℝ) ≤ (n : ℝ) then ⌊(n : ℝ)⌋ else ⌈(n : ℝ)⌉))) = _
  rw [Int.floor_intCast, Int.ceil_intCast, ite_self, min_eq_right h1, max_eq_right h0]

theorem code_width (z : Fin 256 → EReal) (k : Fin 256) : (Ideal.fptosi 32 (cod z k)).setWidth 8 = Ideal.fptosi 8 (cod z k) := by
  obtain ⟨n, h0, h1, h⟩ := cod_int z k
  rw [h, fptosi_int 32 n (by norm_num; omega) (by norm_num; omega), fptosi_int 8 n (by norm_num; omega) (by norm_num; omega)]
  interval_cases n <;> rfl

theorem code_back (z : Fin 256 → EReal) (k : Fin 256) : ((((Ideal.fptosi 8 (cod z k)).signExtend 32).toInt : ℝ) : EReal) = cod z k := by
  obtain ⟨n, h0, h1, h⟩ := cod_int z k
  rw [h, fptosi_int 8 n (by norm_num; omega) (by norm_num; omega), BitVec.toInt_signExtend_of_le (by decide)]
  have hn : (BitVec.ofInt 8 n).toInt = n := by interval_cases n <;> rfl
  rw [hn]

/-- A row's scale, as the reference computes it. -/
theorem scale (b : Fin 6) (q : Fin 100) : val_main_v7 (F := Ideal) x2 (ix2 b q) = scl fun x => x2 (ix3 b q x) := by
  rw [← val_main_v7_eq]
  unfold scl amax
  simp only [id]
  pointwise
  done

theorem codes (b : Fin 6) (q : Fin 100) (k : Fin 256) : val_main_v14 (F := Ideal) x2 (ix3 b q k) = Ideal.fptosi 8 (cod (fun x => x2 (ix3 b q x)) k) := by
  have h := code_width (fun x => x2 (ix3 b q x)) k
  rw [← h]
  unfold cod scl amax
  rw [← val_main_v14_eq]
  simp only [id]
  pointwise
  rfl

theorem scale_sqk (b : Fin 6) (q : Fin 100) : val_main_v63 (F := Ideal) x0 x1 x2 x4 x5 x6 x7 x8 = val_main_v7 (val_main_v56 x0 x1 x2 x4 x5 x6 x7 x8) := rfl
theorem codes_sqk (b : Fin 6) (q : Fin 100) : val_main_v70 (F := Ideal) x0 x1 x2 x4 x5 x6 x7 x8 = val_main_v14 (val_main_v56 x0 x1 x2 x4 x5 x6 x7 x8) := rfl
theorem scale_sv (b : Fin 6) (q : Fin 100) : val_main_v77 (F := Ideal) x0 x2 x4 x5 x6 x7 x8 = val_main_v7 (val_main_v53 x0 x2 x4 x5 x6 x7 x8) := rfl
theorem codes_sv (b : Fin 6) (q : Fin 100) : val_main_v84 (F := Ideal) x0 x2 x4 x5 x6 x7 x8 = val_main_v14 (val_main_v53 x0 x2 x4 x5 x6 x7 x8) := rfl

theorem sum1 (b : Fin 6) (q : Fin 100) (k : Fin 256) : val_main_v31 (F := Ideal) x0 x2 x4 x5 x6 (ix3 b q k)
    = (x0 (ix3 b q k) : EReal) + lin (fun x => x2 (ix3 b q x)) (fun x j => x4 (ix2 x j)) (fun j => x5 (ix1 j)) (fun j => x6 (ix1 j)) k := by
  have h17 : ∀ x : Fin 256, val_main_v17 (F := Ideal) x2 (ix3 b q x) = cod (fun x => x2 (ix3 b q x)) x := fun x => by
    rw [← code_back, ← codes]
    rfl
  unfold lin
  simp only [← h17]
  rw [← scale]
  have e1 : ∀ x, lidx_main_v21 (ix3 b q k) x = ix3 b q x := fun x => by funext a; fin_cases a <;> rfl
  have e2 : ∀ x, ridx_main_v21 (ix3 b q k) x = ix2 x k := fun x => by funext a; fin_cases a <;> rfl
  have e3 : idx_main_v22 (idx_main_v23 (ix3 b q k)) = ix2 b q := by funext a; fin_cases a <;> rfl
  have e4 : idx_main_v25 (idx_main_v26 (ix3 b q k)) = ix1 k := by funext a; fin_cases a; rfl
  have e5 : idx_main_v28 (idx_main_v29 (ix3 b q k)) = ix1 k := by funext a; fin_cases a; rfl
  simp (decide := false) only [val_main_v31_apply, val_main_v0_apply, val_main_v30_apply, val_main_v29_apply, val_main_v28_apply, val_main_v27_apply, val_main_v26_apply, val_main_v25_apply, val_main_v24_apply, val_main_v23_apply, val_main_v22_apply, val_main_v21_apply, e1, e2, e3, e4, e5]
  generalize val_main_v7 (F := Ideal) x2 = y
  generalize val_main_v17 (F := Ideal) x2 = z
  simp only [val_main_v20_apply, val_main_v19_apply, val_main_v18_apply]
  have hw : ∀ w : BitVec 8, FloatOps.truncf (F := Ideal) .bf16 bitsLt_bf16_f32 (FloatOps.sitofp .f32 (w.signExtend 32)) = FloatOps.sitofp (F := Ideal) .bf16 w := fun w => by
    show (((w.signExtend 32).toInt : ℝ) : EReal) = ((w.toInt : ℝ) : EReal)
    rw [BitVec.toInt_signExtend_of_le (by decide)]
  simp only [hw]
  rfl

theorem norm1 (b : Fin 6) (q : Fin 100) (k : Fin 256) : val_main_v53 (F := Ideal) x0 x2 x4 x5 x6 x7 x8 (ix3 b q k)
    = lnorm (fun x => val_main_v31 (F := Ideal) x0 x2 x4 x5 x6 (ix3 b q x)) (fun j => x7 (ix1 j)) (fun j => x8 (ix1 j)) k := by
  unfold lnorm cen
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_cst_4 val_main_cst_5 val_main_cst_6 val_main_cst_7 val_main_cst_8
  generalize val_main_v31 (F := Ideal) x0 x2 x4 x5 x6 = y
  pointwise
  done

theorem sum2 (b : Fin 6) (q : Fin 100) (k : Fin 256) : val_main_v56 (F := Ideal) x0 x1 x2 x4 x5 x6 x7 x8 (ix3 b q k)
    = (val_main_v53 (F := Ideal) x0 x2 x4 x5 x6 x7 x8 (ix3 b q k) : EReal) + x1 (ix2 q k) := by
  unfold val_main_v56 val_main_v55 val_main_v54
  generalize val_main_v53 (F := Ideal) x0 x2 x4 x5 x6 x7 x8 = y
  pointwise
  done

end Cert.Proof.QueryRef

end
-- ==== Proof.QueryAlgebraic.lean ====
/- The query call's results 10 to 15 are the reference's over the extended reals. -/
module

public import proofs.«01_k».proof.Defs
public import proofs.«01_k».proof.Proof.Gen.QueryReferenceIdeal.Run
public import proofs.«01_k».proof.Proof.QueryIdealFrame
public import proofs.«01_k».proof.Proof.QueryResults
public import proofs.«01_k».proof.Proof.QueryRefRows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.QueryAlgebraic

open Cert.QueryIdeal Cert.QueryIdeal.Gen Cert.Proof.QueryIdeal Cert.Proof.QueryRows
open Cert.QueryReferenceIdeal.Read (val_main_v7 val_main_v14 val_main_v53 val_main_v56 val_main_v63 val_main_v70 val_main_v77 val_main_v84)

variable (m : (ℓ : Loc nD τ sig) → Buf (Elt Ideal) ℓ) (c : Dev nD)

/-- The one grid point's blocks are the whole arguments. -/
theorem idx : win0_0.index t0_0 = ![0, 0, 0] ∧ win0_1.index t0_0 = ![0, 0] ∧ win0_2.index t0_0 = ![0, 0, 0] ∧ win0_4.index t0_0 = ![0, 0] ∧ win0_5.index t0_0 = ![0, 0] ∧ win0_6.index t0_0 = ![0, 0] ∧ win0_7.index t0_0 = ![0, 0] ∧ win0_8.index t0_0 = ![0, 0] := by decide +kernel

theorem in0 (b : Fin 6) (q : Fin 100) (k : Fin 256) : (iblk m c 0 t0_0 : Vec Ideal S6x100x256 .bf16) (ix3 b q k) = m ((c.tc : Thread nD τ).loc main_arg0) (ix3 b q k) := by
  blk_ext! [iblk, V, idx]

theorem in1 (q : Fin 100) (k : Fin 256) : (iblk m c 1 t0_0 : Vec Ideal S100x256 .f32) (ix2 q k) = m ((c.tc : Thread nD τ).loc main_arg1) (ix2 q k) := by
  blk_ext! [iblk, V, idx]

theorem in2 (b : Fin 6) (q : Fin 100) (k : Fin 256) : (iblk m c 2 t0_0 : Vec Ideal S6x100x256 .f32) (ix3 b q k) = m ((c.tc : Thread nD τ).loc main_arg2) (ix3 b q k) := by
  blk_ext! [iblk, V, idx]

theorem in4 (q k : Fin 256) : (iblk m c 4 t0_0 : Vec Ideal S256x256 .i8) (ix2 q k) = m ((c.tc : Thread nD τ).loc main_arg4) (ix2 q k) := by
  blk_ext! [iblk, V, idx]

theorem in5 (k : Fin 256) : (iblk m c 5 t0_0 : Vec Ideal S1x256 .f32) (ix2 0 k) = m ((c.tc : Thread nD τ).loc main_arg5) (ix1 k) := by
  blk_ext! [iblk, V, idx]

theorem in6 (k : Fin 256) : (iblk m c 6 t0_0 : Vec Ideal S1x256 .f32) (ix2 0 k) = m ((c.tc : Thread nD τ).loc main_arg6) (ix1 k) := by
  blk_ext! [iblk, V, idx]

theorem in7 (k : Fin 256) : (iblk m c 7 t0_0 : Vec Ideal S1x256 .f32) (ix2 0 k) = m ((c.tc : Thread nD τ).loc main_arg7) (ix1 k) := by
  blk_ext! [iblk, V, idx]

theorem in8 (k : Fin 256) : (iblk m c 8 t0_0 : Vec Ideal S1x256 .f32) (ix2 0 k) = m ((c.tc : Thread nD τ).loc main_arg8) (ix1 k) := by
  blk_ext! [iblk, V, idx]

/-- The normed rows at the arguments. -/
theorem norm_eq (b : Fin 6) (q : Fin 100) (k : Fin 256) : normAt (iblk m c 0 t0_0) (iblk m c 2 t0_0) (iblk m c 4 t0_0) (iblk m c 5 t0_0) (iblk m c 6 t0_0) (iblk m c 7 t0_0) (iblk m c 8 t0_0) b q k = (val_main_v53 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix3 b q k) := by
  refine Eq.trans ?_ (QueryRef.norm1 _ _ _ _ _ _ _ b q k).symm
  refine lnorm_congr k (funext fun x => ?_) (funext fun j => in7 m c j) (funext fun j => in8 m c j)
  refine Eq.trans ?_ (QueryRef.sum1 _ _ _ _ _ b q x).symm
  exact congrArg₂ (fun a b : EReal => a + b) (in0 m c b q x)
    (lin_congr x (funext fun y => in2 m c b q y) (funext fun y => funext fun j => in4 m c y j) (funext fun j => in5 m c j) (funext fun j => in6 m c j))

/-- … and with the query positions added. -/
theorem pos_eq (b : Fin 6) (q : Fin 100) (k : Fin 256) : normAt (iblk m c 0 t0_0) (iblk m c 2 t0_0) (iblk m c 4 t0_0) (iblk m c 5 t0_0) (iblk m c 6 t0_0) (iblk m c 7 t0_0) (iblk m c 8 t0_0) b q k + (iblk m c 1 t0_0 : Vec Ideal S100x256 .f32) (ix2 q k) = (val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix3 b q k) := by
  refine Eq.trans ?_ (QueryRef.sum2 _ _ _ _ _ _ _ _ b q k).symm
  exact congrArg₂ (fun a b : EReal => a + b) (norm_eq m c b q k) (in1 m c q k)

/-- Result `10`'s block. -/
theorem out47_apply (b : Fin 6) (q : Fin 100) (k : Fin 256) : out47 m c t0_0 (ix3 b q k : S6x100x256.Idx) = val_main_v14 (F := Ideal) (m ((c.tc : Thread nD τ).loc main_arg2)) (ix3 b q k) := by
  unfold out47
  rw [L47_eq, codesList_apply, pay35]
  refine Eq.trans ?_ (QueryRef.codes _ b q k).symm
  exact congrArg (fun z => Ideal.fptosi 8 (cod z k)) (funext fun x => (rows_ctx c (ms0_0 t0_0) (hs0_0 t0_0) (ms0_2 t0_0) (hs0_2 t0_0) scM0_0 (iblk m c 0 t0_0) (iblk m c 2 t0_0) b q x).trans (in2 m c b q x))

/-- Result `11`'s block. -/
theorem out48_apply (b : Fin 6) (q : Fin 100) : out48 m c t0_0 (ix2 b q : S6x100.Idx) = val_main_v7 (F := Ideal) (m ((c.tc : Thread nD τ).loc main_arg2)) (ix2 b q) := by
  obtain ⟨V0, V1, V2, V3, V4, V5, W, hW, h0, h1, h2⟩ := scales_eq c m t0_0
  unfold out48
  rw [h0, scales0_apply, (hW _).1, pay34]
  refine Eq.trans ?_ (QueryRef.scale _ b q).symm
  exact congrArg scl (funext fun x => (rows_ctx c (ms0_0 t0_0) (hs0_0 t0_0) (ms0_2 t0_0) (hs0_2 t0_0) scM0_0 (iblk m c 0 t0_0) (iblk m c 2 t0_0) b q x).trans (in2 m c b q x))

/-- Result `10`. -/
theorem final47 : (dats m 0 c).arrAt 47 cfg0.N = val_main_v14 (F := Ideal) (m ((c.tc : Thread nD τ).loc main_arg2)) := by
  refine (dats m 0 c).arrAt_eq_of_after_last 47 t0_0 (by decide +kernel) _ fun j => ?_
  blk_simp
  rw [after0_47]
  obtain ⟨b, q, k, rfl⟩ : ∃ (b : Fin 6) (q : Fin 100) (k : Fin 256), j = (ix3 b q k : S6x100x256.Idx) :=
    ⟨j 0, j 1, j 2, by
      funext a
      match a with
      | ⟨0, _⟩ => rfl
      | ⟨1, _⟩ => rfl
      | ⟨2, _⟩ => rfl⟩
  exact out47_apply m c b q k

/-- Result `11`. -/
theorem final48 : (dats m 0 c).arrAt 48 cfg0.N = val_main_v7 (F := Ideal) (m ((c.tc : Thread nD τ).loc main_arg2)) := by
  refine (dats m 0 c).arrAt_eq_of_after_last 48 t0_0 (by decide +kernel) _ fun j => ?_
  blk_simp
  rw [after0_48]
  obtain ⟨b, q, rfl⟩ : ∃ (b : Fin 6) (q : Fin 100), j = (ix2 b q : S6x100.Idx) :=
    ⟨j 0, j 1, by
      funext a
      match a with
      | ⟨0, _⟩ => rfl
      | ⟨1, _⟩ => rfl⟩
  exact out48_apply m c b q

/-- Result `12`'s block. -/
theorem out49_apply (b : Fin 6) (q : Fin 100) (k : Fin 256) : out49 m c t0_0 (ix3 b q k : S6x100x256.Idx) = val_main_v14 (F := Ideal) (val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix3 b q k) := by
  unfold out49
  rw [L49_eq, codesList_apply, pay35]
  refine Eq.trans ?_ (QueryRef.codes _ b q k).symm
  exact congrArg (fun z => Ideal.fptosi 8 (cod z k)) (funext fun x => (rows_sqk c (ms0_0 t0_0) (hs0_0 t0_0) (ms0_1 t0_0) (hs0_1 t0_0) (ms0_2 t0_0) (hs0_2 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (iblk m c 0 t0_0) (iblk m c 1 t0_0) (iblk m c 2 t0_0) (iblk m c 4 t0_0) (iblk m c 5 t0_0) (iblk m c 6 t0_0) (iblk m c 7 t0_0) (iblk m c 8 t0_0) b q x).trans (pos_eq m c b q x))

/-- Result `13`'s block. -/
theorem out50_apply (b : Fin 6) (q : Fin 100) : out50 m c t0_0 (ix2 b q : S6x100.Idx) = val_main_v7 (F := Ideal) (val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix2 b q) := by
  obtain ⟨V0, V1, V2, V3, V4, V5, W, hW, h0, h1, h2⟩ := scales_eq c m t0_0
  unfold out50
  rw [h1, scales1_apply, (hW _).2.1, pay34]
  refine Eq.trans ?_ (QueryRef.scale _ b q).symm
  exact congrArg scl (funext fun x => (rows_sqk c (ms0_0 t0_0) (hs0_0 t0_0) (ms0_1 t0_0) (hs0_1 t0_0) (ms0_2 t0_0) (hs0_2 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (iblk m c 0 t0_0) (iblk m c 1 t0_0) (iblk m c 2 t0_0) (iblk m c 4 t0_0) (iblk m c 5 t0_0) (iblk m c 6 t0_0) (iblk m c 7 t0_0) (iblk m c 8 t0_0) b q x).trans (pos_eq m c b q x))

/-- Result `12`. -/
theorem final49 : (dats m 0 c).arrAt 49 cfg0.N = val_main_v14 (F := Ideal) (val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (dats m 0 c).arrAt_eq_of_after_last 49 t0_0 (by decide +kernel) _ fun j => ?_
  blk_simp
  rw [after0_49]
  obtain ⟨b, q, k, rfl⟩ : ∃ (b : Fin 6) (q : Fin 100) (k : Fin 256), j = (ix3 b q k : S6x100x256.Idx) :=
    ⟨j 0, j 1, j 2, by
      funext a
      match a with
      | ⟨0, _⟩ => rfl
      | ⟨1, _⟩ => rfl
      | ⟨2, _⟩ => rfl⟩
  exact out49_apply m c b q k

/-- Result `13`. -/
theorem final50 : (dats m 0 c).arrAt 50 cfg0.N = val_main_v7 (F := Ideal) (val_main_v56 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (dats m 0 c).arrAt_eq_of_after_last 50 t0_0 (by decide +kernel) _ fun j => ?_
  blk_simp
  rw [after0_50]
  obtain ⟨b, q, rfl⟩ : ∃ (b : Fin 6) (q : Fin 100), j = (ix2 b q : S6x100.Idx) :=
    ⟨j 0, j 1, by
      funext a
      match a with
      | ⟨0, _⟩ => rfl
      | ⟨1, _⟩ => rfl⟩
  exact out50_apply m c b q

/-- Result `14`'s block. -/
theorem out51_apply (b : Fin 6) (q : Fin 100) (k : Fin 256) : out51 m c t0_0 (ix3 b q k : S6x100x256.Idx) = val_main_v14 (F := Ideal) (val_main_v53 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix3 b q k) := by
  unfold out51
  rw [L51_eq, codesList_apply, pay35]
  refine Eq.trans ?_ (QueryRef.codes _ b q k).symm
  exact congrArg (fun z => Ideal.fptosi 8 (cod z k)) (funext fun x => (rows_norm c (ms0_0 t0_0) (hs0_0 t0_0) (ms0_2 t0_0) (hs0_2 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (iblk m c 0 t0_0) (iblk m c 2 t0_0) (iblk m c 4 t0_0) (iblk m c 5 t0_0) (iblk m c 6 t0_0) (iblk m c 7 t0_0) (iblk m c 8 t0_0) b q x).trans (norm_eq m c b q x))

/-- Result `15`'s block. -/
theorem out52_apply (b : Fin 6) (q : Fin 100) : out52 m c t0_0 (ix2 b q : S6x100.Idx) = val_main_v7 (F := Ideal) (val_main_v53 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (ix2 b q) := by
  obtain ⟨V0, V1, V2, V3, V4, V5, W, hW, h0, h1, h2⟩ := scales_eq c m t0_0
  unfold out52
  rw [h2, scales2_apply, (hW _).2.2, pay34]
  refine Eq.trans ?_ (QueryRef.scale _ b q).symm
  exact congrArg scl (funext fun x => (rows_norm c (ms0_0 t0_0) (hs0_0 t0_0) (ms0_2 t0_0) (hs0_2 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (iblk m c 0 t0_0) (iblk m c 2 t0_0) (iblk m c 4 t0_0) (iblk m c 5 t0_0) (iblk m c 6 t0_0) (iblk m c 7 t0_0) (iblk m c 8 t0_0) b q x).trans (norm_eq m c b q x))

/-- Result `14`. -/
theorem final51 : (dats m 0 c).arrAt 51 cfg0.N = val_main_v14 (F := Ideal) (val_main_v53 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (dats m 0 c).arrAt_eq_of_after_last 51 t0_0 (by decide +kernel) _ fun j => ?_
  blk_simp
  rw [after0_51]
  obtain ⟨b, q, k, rfl⟩ : ∃ (b : Fin 6) (q : Fin 100) (k : Fin 256), j = (ix3 b q k : S6x100x256.Idx) :=
    ⟨j 0, j 1, j 2, by
      funext a
      match a with
      | ⟨0, _⟩ => rfl
      | ⟨1, _⟩ => rfl
      | ⟨2, _⟩ => rfl⟩
  exact out51_apply m c b q k

/-- Result `15`. -/
theorem final52 : (dats m 0 c).arrAt 52 cfg0.N = val_main_v7 (F := Ideal) (val_main_v53 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (dats m 0 c).arrAt_eq_of_after_last 52 t0_0 (by decide +kernel) _ fun j => ?_
  blk_simp
  rw [after0_52]
  obtain ⟨b, q, rfl⟩ : ∃ (b : Fin 6) (q : Fin 100), j = (ix2 b q : S6x100.Idx) :=
    ⟨j 0, j 1, by
      funext a
      match a with
      | ⟨0, _⟩ => rfl
      | ⟨1, _⟩ => rfl⟩
  exact out52_apply m c b q

set_option maxHeartbeats 2000000 in
/-- From memories that agree on the arguments, the kernel's six results are the reference's, element by element. -/
theorem algebraic : Cert.algebraic_QueryIdeal_QueryReferenceIdeal := fun m g m' g' _ hagree => by
  refine ⟨fun c => (dats m 0 c).arrAt 47 cfg0.N, fun c => (dats m 0 c).arrAt 48 cfg0.N, fun c => (dats m 0 c).arrAt 49 cfg0.N,
    fun c => (dats m 0 c).arrAt 50 cfg0.N, fun c => (dats m 0 c).arrAt 51 cfg0.N, fun c => (dats m 0 c).arrAt 52 cfg0.N, ?_, ?_⟩
  · refine (θ_run defs _ _).mono (fun r h c => ⟨(h.1 c).1 47, (h.1 c).1 48, (h.1 c).1 49, (h.1 c).1 50, (h.1 c).1 51, (h.1 c).1 52, h.2 c⟩)
      (θ_run_and (run_main m g) (unchanged m g))
  · refine (θ_run Cert.QueryReferenceIdeal.defs _ _).mono (fun r h c => ?_) (Cert.QueryReferenceIdeal.Value.run (F := Ideal) m' g')
    have a0 := (hagree c).1
    have a1 := (hagree c).2.1
    have a2 := (hagree c).2.2.1
    have a4 := (hagree c).2.2.2.2.1
    have a5 := (hagree c).2.2.2.2.2.1
    have a6 := (hagree c).2.2.2.2.2.2.1
    have a7 := (hagree c).2.2.2.2.2.2.2.1
    have a8 := (hagree c).2.2.2.2.2.2.2.2.1
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine ((Cert.QueryReferenceIdeal.Read.val_main_v14_eq _).trans ?_).trans (final47 m c).symm
      rw [a2]
    · refine ((Cert.QueryReferenceIdeal.Read.val_main_v7_eq _).trans ?_).trans (final48 m c).symm
      rw [a2]
    · refine ((Cert.QueryReferenceIdeal.Read.val_main_v70_eq m' c).trans ?_).trans (final49 m c).symm
      rw [a0, a1, a2, a4, a5, a6, a7, a8]
      rfl
    · refine ((Cert.QueryReferenceIdeal.Read.val_main_v63_eq m' c).trans ?_).trans (final50 m c).symm
      rw [a0, a1, a2, a4, a5, a6, a7, a8]
      rfl
    · refine ((Cert.QueryReferenceIdeal.Read.val_main_v84_eq m' c).trans ?_).trans (final51 m c).symm
      rw [a0, a2, a4, a5, a6, a7, a8]
      rfl
    · refine ((Cert.QueryReferenceIdeal.Read.val_main_v77_eq m' c).trans ?_).trans (final52 m c).symm
      rw [a0, a2, a4, a5, a6, a7, a8]
      rfl

end Cert.Proof.QueryAlgebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Algebraic
public import Idealize.ShloMosaic.Adequacy
public import Idealize.ShloMosaic.Init
public import proofs.«01_k».proof.Proof.QueryClaims
public import proofs.«01_k».proof.Proof.QueryAlgebraic
public import proofs.«01_k».proof.Proof.Gen.QueryReferenceIdeal.Run
public import proofs.«01_k».proof.Proof.Gen.QueryReferenceIdeal.Read

@[expose] public section

noncomputable section

namespace Cert.Proof

open Idealize.ShloMosaic Idealize.SL.Sem Cert.Kernel

/-- The claim: of the mask call and of the query call the three frames, the rewrites of the idealization, and the equality
    of the results. -/
theorem claim : Cert.Claim := ⟨Cert.Kernel.Gen.facts, Cert.KernelIdeal.Gen.facts, Cert.ReferenceIdeal.Gen.facts,
  Cert.Query.Gen.facts, Cert.QueryIdeal.Gen.facts, Cert.QueryReferenceIdeal.Gen.facts,
  MaskClaims.frame_p, MaskClaims.frame_pi, MaskClaims.frame_ri, QueryClaims.frame_p, QueryClaims.frame_pi, QueryClaims.frame_ri,
  MaskClaims.preserves, Algebraic.algebraic, QueryClaims.preserves, QueryAlgebraic.algebraic⟩

end Cert.Proof

end
